-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v18_0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18_0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v86) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v68_2)) (v1 : (c : Dev Cert.Kernel4Ideal.nD) → Buf (Elt Ideal) ((c.tc : Thread Cert.Kernel4Ideal.nD Cert.Kernel4Ideal.τ).loc Cert.Kernel4Ideal.main_v68_3)) (v2 : (c : Dev Cert.Kernel4Ideal.nD) → Buf (Elt Ideal) ((c.tc : Thread Cert.Kernel4Ideal.nD Cert.Kernel4Ideal.τ).loc Cert.Kernel4Ideal.main_v68_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v68_2) = v0 c
          ∧ r.2.mem ((c.tc : Thread Cert.Kernel4Ideal.nD Cert.Kernel4Ideal.τ).loc Cert.Kernel4Ideal.main_v68_3) = v1 c
          ∧ r.2.mem ((c.tc : Thread Cert.Kernel4Ideal.nD Cert.Kernel4Ideal.τ).loc Cert.Kernel4Ideal.main_v68_4) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v42) = v0 c
          ∧ r.2.mem ((c.tc : Thread Cert.Reference4Ideal.nD Cert.Reference4Ideal.τ).loc Cert.Reference4Ideal.main_v15) = v1 c
          ∧ r.2.mem ((c.tc : Thread Cert.Reference4Ideal.nD Cert.Reference4Ideal.τ).loc Cert.Reference4Ideal.main_v43) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_scores.lean ====
abbrev S65536x1024 : Shape := ⟨2, ![65536, 1024]⟩
abbrev S512x65536 : Shape := ⟨2, ![512, 65536]⟩
abbrev S_ : Shape := ⟨0, ![]⟩

class Facts : Prop where
  bitsLt_bf16_f32 : FTy.bits .bf16 < FTy.bits .f32
  bcast_S_S65536x1024 : S_.BroadcastsInDim S65536x1024 (![] : Fin 0 → Fin S65536x1024.rank)
  reducesTo_S65536x1024_S_d0_1 : S65536x1024.ReducesTo [0, 1] S_
  h_S_ : 0 < S_.numel

variable [Facts]

def fn {F : FTy → Type} [FloatOps F] (main_arg0 : FVec F S65536x1024 .bf16) (main_arg1 : FVec F S65536x1024 .bf16) (main_arg2 : FVec F S512x65536 .bf16) : IVec S_ 1 :=
  let main_v0 : FVec F S65536x1024 .f32 := (extf .f32 · bitsLt_bf16_f32) main_arg0
  let main_v1 : FVec F S65536x1024 .f32 := Host.absf main_v0
  let main_cst : FVec F S_ .f32 := constant S_ .f32 0x7F800000#32
  let main_v2 : FVec F S65536x1024 .f32 := broadcastInDim S65536x1024 ![] bcast_S_S65536x1024 main_cst
  let main_v3 : IVec S65536x1024 1 := cmpf .olt main_v1 main_v2
  let main_c : IVec S_ 1 := constantI S_ 1 1#1
  let main_v4 : IVec S_ 1 := (fun x v => Host.reduce IntOp.andi x v reducesTo_S65536x1024_S_d0_1 h_S_) main_v3 main_c
  let main_v5 : FVec F S65536x1024 .f32 := (extf .f32 · bitsLt_bf16_f32) main_arg1
  let main_v6 : FVec F S65536x1024 .f32 := Host.absf main_v5
  let main_cst_0 : FVec F S_ .f32 := constant S_ .f32 0x7F800000#32
  let main_v7 : FVec F S65536x1024 .f32 := broadcastInDim S65536x1024 ![] bcast_S_S65536x1024 main_cst_0
  let main_v8 : IVec S65536x1024 1 := cmpf .olt main_v6 main_v7
  let main_c_1 : IVec S_ 1 := constantI S_ 1 1#1
  let main_v9 : IVec S_ 1 := (fun x v => Host.reduce IntOp.andi x v reducesTo_S65536x1024_S_d0_1 h_S_) main_v8 main_c_1
  let main_v10 : IVec S_ 1 := andi main_v4 main_v9
  main_v10
-- ==== Kernel.lean ====
abbrev S65536x1024 : Shape := ⟨2, ![65536, 1024]⟩
abbrev S512x65536 : Shape := ⟨2, ![512, 65536]⟩
abbrev S65536x512 : Shape := ⟨2, ![65536, 512]⟩
abbrev S512x256 : Shape := ⟨2, ![512, 256]⟩
abbrev S4096x256 : Shape := ⟨2, ![4096, 256]⟩
abbrev S128x4096 : Shape := ⟨2, ![128, 4096]⟩
abbrev S512x128 : Shape := ⟨2, ![512, 128]⟩
abbrev S128x512 : Shape := ⟨2, ![128, 512]⟩
abbrev S1x512 : Shape := ⟨2, ![1, 512]⟩
abbrev S8x512 : Shape := ⟨2, ![8, 512]⟩
abbrev S512x512 : Shape := ⟨2, ![512, 512]⟩
abbrev S512 : Shape := ⟨1, ![512]⟩
abbrev S64x8x512 : Shape := ⟨3, ![64, 8, 512]⟩

abbrev nBuf : Space → Nat
  | .hbm => 4
  | .vmem => 10
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .bf16⟩
  | .hbm, ⟨2, _⟩ => ⟨S512x65536, .bf16⟩
  | .hbm, ⟨3, _⟩ => ⟨S65536x512, .bf16⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S128x4096, .bf16⟩
  | .local _ .vmem, ⟨5, _⟩ => ⟨S128x4096, .bf16⟩
  | .local _ .vmem, ⟨6, _⟩ => ⟨S512x128, .bf16⟩
  | .local _ .vmem, ⟨7, _⟩ => ⟨S512x128, .bf16⟩
  | .local _ .vmem, ⟨8, _⟩ => ⟨S128x512, .f32⟩
  | .local _ .vmem, ⟨9, _⟩ => ⟨S128x512, .f32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 8], ![false, false, false]⟩

@[reducible] def k0_t1_loop (i : grid0.Coords) : Scf.Loop 32 :=
  let c0_i32_27 : BitVec 32 := 0#32
  let arg2 : BitVec 32 := BitVec.ofNat 32 (i 2).val
  let c512_i32 : BitVec 32 := 512#32
  let v29 : BitVec 32 := Scalar.muli arg2 c512_i32
  let c0_i32_16 : BitVec 32 := 0#32
  let v43 : BitVec 1 := Scalar.cmpi .sgt v29 c0_i32_16
  let v44 : BitVec 32 := Scalar.extui v43
  let c0_i32_17 : BitVec 32 := 0#32
  let v45 : BitVec 1 := Scalar.cmpi .slt v29 c0_i32_17
  let v46 : BitVec 32 := Scalar.extui v45
  let v47 : BitVec 32 := Scalar.subi v44 v46
  let c512_i32_15 : BitVec 32 := 512#32
  let c0_i32_18 : BitVec 32 := 0#32
  let v48 : BitVec 1 := Scalar.cmpi .sgt c512_i32_15 c0_i32_18
  let v49 : BitVec 32 := Scalar.extui v48
  let c0_i32_19 : BitVec 32 := 0#32
  let v50 : BitVec 1 := Scalar.cmpi .slt c512_i32_15 c0_i32_19
  let v51 : BitVec 32 := Scalar.extui v50
  let v52 : BitVec 32 := Scalar.subi v49 v51
  let v53 : BitVec 1 := Scalar.cmpi .ne v47 v52
  let v54 : BitVec 32 := Scalar.remsi v29 c512_i32_15
  let c0_i32_20 : BitVec 32 := 0#32
  let v55 : BitVec 1 := Scalar.cmpi .ne v54 c0_i32_20
  let v56 : BitVec 1 := Scalar.andi v53 v55
  let v42 : BitVec 32 := Scalar.divsi v29 c512_i32_15
  let c1_i32 : BitVec 32 := 1#32
  let v57 : BitVec 32 := Scalar.subi v42 c1_i32
  let v58 : BitVec 32 := Scalar.select v56 v57 v42
  let c0_i32_21 : BitVec 32 := 0#32
  let v60 : BitVec 1 := Scalar.cmpi .sgt v58 c0_i32_21
  let v61 : BitVec 32 := Scalar.extui v60
  let c0_i32_22 : BitVec 32 := 0#32
  let v62 : BitVec 1 := Scalar.cmpi .slt v58 c0_i32_22
  let v63 : BitVec 32 := Scalar.extui v62
  let v64 : BitVec 32 := Scalar.subi v61 v63
  let c4_i32 : BitVec 32 := 4#32
  let c0_i32_23 : BitVec 32 := 0#32
  let v65 : BitVec 1 := Scalar.cmpi .sgt c4_i32 c0_i32_23
  let v66 : BitVec 32 := Scalar.extui v65
  let c0_i32_24 : BitVec 32 := 0#32
  let v67 : BitVec 1 := Scalar.cmpi .slt c4_i32 c0_i32_24
  let v68 : BitVec 32 := Scalar.extui v67
  let v69 : BitVec 32 := Scalar.subi v66 v68
  let v70 : BitVec 1 := Scalar.cmpi .ne v64 v69
  let v71 : BitVec 32 := Scalar.remsi v58 c4_i32
  let c0_i32_25 : BitVec 32 := 0#32
  let v72 : BitVec 1 := Scalar.cmpi .ne v71 c0_i32_25
  let v73 : BitVec 1 := Scalar.andi v70 v72
  let v59 : BitVec 32 := Scalar.divsi v58 c4_i32
  let c1_i32_26 : BitVec 32 := 1#32
  let v74 : BitVec 32 := Scalar.subi v59 c1_i32_26
  let v75 : BitVec 32 := Scalar.select v73 v74 v59
  let v76 : BitVec 32 := Scalar.subi v75 c0_i32_27
  let c1_i32_28 : BitVec 32 := 1#32
  let v78 : BitVec 32 := Scalar.divsi v76 c1_i32_28
  let v79 : BitVec 32 := Scalar.muli v78 c1_i32_28
  let v80 : BitVec 32 := Scalar.addi c0_i32_27 v79
  let c1_i32_29 : BitVec 32 := 1#32
  ⟨c0_i32_27, v80, c1_i32_29⟩
def k0_mult1 (i : grid0.Coords) (k0_t1 : Fin (k0_t1_loop i).trips) : BitVec 32 :=
  let c4_i32_48 : BitVec 32 := 4#32
  let c0_i32_27 : BitVec 32 := 0#32
  let c1_i32_29 : BitVec 32 := 1#32
  let arg9 : BitVec 32 := Scf.iv c0_i32_27 c1_i32_29 k0_t1
  let v114 : BitVec 32 := Scalar.muli c4_i32_48 arg9
  let c0_i32_49 : BitVec 32 := 0#32
  let v115 : BitVec 32 := Scalar.addi v114 c0_i32_49
  let c512_i32_55 : BitVec 32 := 512#32
  let v122 : BitVec 32 := Scalar.muli v115 c512_i32_55
  v122
def k0_off1 (i : grid0.Coords) (k0_t1 : Fin (k0_t1_loop i).trips) (c0_i32_49 : BitVec 32) : Fin 2 → Nat :=
  let c4_i32_48 : BitVec 32 := 4#32
  let c0_i32_27 : BitVec 32 := 0#32
  let c1_i32_29 : BitVec 32 := 1#32
  let arg9 : BitVec 32 := Scf.iv c0_i32_27 c1_i32_29 k0_t1
  let v114 : BitVec 32 := Scalar.muli c4_i32_48 arg9
  let v115 : BitVec 32 := Scalar.addi v114 c0_i32_49
  let c512_i32_55 : BitVec 32 := 512#32
  let v122 : BitVec 32 := Scalar.muli v115 c512_i32_55
  let v123 : BitVec 32 := v122
  let v124 : Index := Scalar.indexCast v123
  let c0_56 : Index := 0#32
  ![v124.toNat, 0]
def k0_mult2 (i : grid0.Coords) (k0_t1 : Fin (k0_t1_loop i).trips) : BitVec 32 :=
  let c4_i32_50 : BitVec 32 := 4#32
  let c0_i32_27 : BitVec 32 := 0#32
  let c1_i32_29 : BitVec 32 := 1#32
  let arg9 : BitVec 32 := Scf.iv c0_i32_27 c1_i32_29 k0_t1
  let v116 : BitVec 32 := Scalar.muli c4_i32_50 arg9
  let c1_i32_51 : BitVec 32 := 1#32
  let v117 : BitVec 32 := Scalar.addi v116 c1_i32_51
  let c512_i32_59 : BitVec 32 := 512#32
  let v128 : BitVec 32 := Scalar.muli v117 c512_i32_59
  v128
def k0_mult3 (i : grid0.Coords) (k0_t1 : Fin (k0_t1_loop i).trips) : BitVec 32 :=
  let c4_i32_52 : BitVec 32 := 4#32
  let c0_i32_27 : BitVec 32 := 0#32
  let c1_i32_29 : BitVec 32 := 1#32
  let arg9 : BitVec 32 := Scf.iv c0_i32_27 c1_i32_29 k0_t1
  let v118 : BitVec 32 := Scalar.muli c4_i32_52 arg9
  let c2_i32 : BitVec 32 := 2#32
  let v119 : BitVec 32 := Scalar.addi v118 c2_i32
  let c512_i32_63 : BitVec 32 := 512#32
  let v134 : BitVec 32 := Scalar.muli v119 c512_i32_63
  v134
def k0_mult4 (i : grid0.Coords) (k0_t1 : Fin (k0_t1_loop i).trips) : BitVec 32 :=
  let c4_i32_53 : BitVec 32 := 4#32
  let c0_i32_27 : BitVec 32 := 0#32
  let c1_i32_29 : BitVec 32 := 1#32
  let arg9 : BitVec 32 := Scf.iv c0_i32_27 c1_i32_29 k0_t1
  let v120 : BitVec 32 := Scalar.muli c4_i32_53 arg9
  let c3_i32_54 : BitVec 32 := 3#32
  let v121 : BitVec 32 := Scalar.addi v120 c3_i32_54
  let c512_i32_67 : BitVec 32 := 512#32
  let v140 : BitVec 32 := Scalar.muli v121 c512_i32_67
  v140
def k0_off2 (i : grid0.Coords) (k0_t1 : Fin (k0_t1_loop i).trips) (c0_i32_49 : BitVec 32) : Fin 2 → Nat :=
  let c0_71 : Index := 0#32
  let c4_i32_48 : BitVec 32 := 4#32
  let c0_i32_27 : BitVec 32 := 0#32
  let c1_i32_29 : BitVec 32 := 1#32
  let arg9 : BitVec 32 := Scf.iv c0_i32_27 c1_i32_29 k0_t1
  let v114 : BitVec 32 := Scalar.muli c4_i32_48 arg9
  let v115 : BitVec 32 := Scalar.addi v114 c0_i32_49
  let c512_i32_55 : BitVec 32 := 512#32
  let v122 : BitVec 32 := Scalar.muli v115 c512_i32_55
  let v123 : BitVec 32 := v122
  let v146 : Index := Scalar.indexCast v123
  ![0, v146.toNat]
@[reducible] def k0_t2_loop (i : grid0.Coords) : Scf.Loop 32 :=
  let c0_i32_27 : BitVec 32 := 0#32
  let arg2 : BitVec 32 := BitVec.ofNat 32 (i 2).val
  let c512_i32 : BitVec 32 := 512#32
  let v29 : BitVec 32 := Scalar.muli arg2 c512_i32
  let c0_i32_16 : BitVec 32 := 0#32
  let v43 : BitVec 1 := Scalar.cmpi .sgt v29 c0_i32_16
  let v44 : BitVec 32 := Scalar.extui v43
  let c0_i32_17 : BitVec 32 := 0#32
  let v45 : BitVec 1 := Scalar.cmpi .slt v29 c0_i32_17
  let v46 : BitVec 32 := Scalar.extui v45
  let v47 : BitVec 32 := Scalar.subi v44 v46
  let c512_i32_15 : BitVec 32 := 512#32
  let c0_i32_18 : BitVec 32 := 0#32
  let v48 : BitVec 1 := Scalar.cmpi .sgt c512_i32_15 c0_i32_18
  let v49 : BitVec 32 := Scalar.extui v48
  let c0_i32_19 : BitVec 32 := 0#32
  let v50 : BitVec 1 := Scalar.cmpi .slt c512_i32_15 c0_i32_19
  let v51 : BitVec 32 := Scalar.extui v50
  let v52 : BitVec 32 := Scalar.subi v49 v51
  let v53 : BitVec 1 := Scalar.cmpi .ne v47 v52
  let v54 : BitVec 32 := Scalar.remsi v29 c512_i32_15
  let c0_i32_20 : BitVec 32 := 0#32
  let v55 : BitVec 1 := Scalar.cmpi .ne v54 c0_i32_20
  let v56 : BitVec 1 := Scalar.andi v53 v55
  let v42 : BitVec 32 := Scalar.divsi v29 c512_i32_15
  let c1_i32 : BitVec 32 := 1#32
  let v57 : BitVec 32 := Scalar.subi v42 c1_i32
  let v58 : BitVec 32 := Scalar.select v56 v57 v42
  let c0_i32_21 : BitVec 32 := 0#32
  let v60 : BitVec 1 := Scalar.cmpi .sgt v58 c0_i32_21
  let v61 : BitVec 32 := Scalar.extui v60
  let c0_i32_22 : BitVec 32 := 0#32
  let v62 : BitVec 1 := Scalar.cmpi .slt v58 c0_i32_22
  let v63 : BitVec 32 := Scalar.extui v62
  let v64 : BitVec 32 := Scalar.subi v61 v63
  let c4_i32 : BitVec 32 := 4#32
  let c0_i32_23 : BitVec 32 := 0#32
  let v65 : BitVec 1 := Scalar.cmpi .sgt c4_i32 c0_i32_23
  let v66 : BitVec 32 := Scalar.extui v65
  let c0_i32_24 : BitVec 32 := 0#32
  let v67 : BitVec 1 := Scalar.cmpi .slt c4_i32 c0_i32_24
  let v68 : BitVec 32 := Scalar.extui v67
  let v69 : BitVec 32 := Scalar.subi v66 v68
  let v70 : BitVec 1 := Scalar.cmpi .ne v64 v69
  let v71 : BitVec 32 := Scalar.remsi v58 c4_i32
  let c0_i32_25 : BitVec 32 := 0#32
  let v72 : BitVec 1 := Scalar.cmpi .ne v71 c0_i32_25
  let v73 : BitVec 1 := Scalar.andi v70 v72
  let v59 : BitVec 32 := Scalar.divsi v58 c4_i32
  let c1_i32_26 : BitVec 32 := 1#32
  let v74 : BitVec 32 := Scalar.subi v59 c1_i32_26
  let v75 : BitVec 32 := Scalar.select v73 v74 v59
  let v76 : BitVec 32 := Scalar.subi v75 c0_i32_27
  let c1_i32_28 : BitVec 32 := 1#32
  let v78 : BitVec 32 := Scalar.divsi v76 c1_i32_28
  let v79 : BitVec 32 := Scalar.muli v78 c1_i32_28
  let v80 : BitVec 32 := Scalar.addi c0_i32_27 v79
  let v77 : BitVec 32 := Scalar.addi c0_i32_27 v76
  let c1_i32_30 : BitVec 32 := 1#32
  ⟨v80, v77, c1_i32_30⟩
def k0_mult5 (i : grid0.Coords) (k0_t2 : Fin (k0_t2_loop i).trips) : BitVec 32 :=
  let c4_i32_48 : BitVec 32 := 4#32
  let c0_i32_27 : BitVec 32 := 0#32
  let arg2 : BitVec 32 := BitVec.ofNat 32 (i 2).val
  let c512_i32 : BitVec 32 := 512#32
  let v29 : BitVec 32 := Scalar.muli arg2 c512_i32
  let c0_i32_16 : BitVec 32 := 0#32
  let v43 : BitVec 1 := Scalar.cmpi .sgt v29 c0_i32_16
  let v44 : BitVec 32 := Scalar.extui v43
  let c0_i32_17 : BitVec 32 := 0#32
  let v45 : BitVec 1 := Scalar.cmpi .slt v29 c0_i32_17
  let v46 : BitVec 32 := Scalar.extui v45
  let v47 : BitVec 32 := Scalar.subi v44 v46
  let c512_i32_15 : BitVec 32 := 512#32
  let c0_i32_18 : BitVec 32 := 0#32
  let v48 : BitVec 1 := Scalar.cmpi .sgt c512_i32_15 c0_i32_18
  let v49 : BitVec 32 := Scalar.extui v48
  let c0_i32_19 : BitVec 32 := 0#32
  let v50 : BitVec 1 := Scalar.cmpi .slt c512_i32_15 c0_i32_19
  let v51 : BitVec 32 := Scalar.extui v50
  let v52 : BitVec 32 := Scalar.subi v49 v51
  let v53 : BitVec 1 := Scalar.cmpi .ne v47 v52
  let v54 : BitVec 32 := Scalar.remsi v29 c512_i32_15
  let c0_i32_20 : BitVec 32 := 0#32
  let v55 : BitVec 1 := Scalar.cmpi .ne v54 c0_i32_20
  let v56 : BitVec 1 := Scalar.andi v53 v55
  let v42 : BitVec 32 := Scalar.divsi v29 c512_i32_15
  let c1_i32 : BitVec 32 := 1#32
  let v57 : BitVec 32 := Scalar.subi v42 c1_i32
  let v58 : BitVec 32 := Scalar.select v56 v57 v42
  let c0_i32_21 : BitVec 32 := 0#32
  let v60 : BitVec 1 := Scalar.cmpi .sgt v58 c0_i32_21
  let v61 : BitVec 32 := Scalar.extui v60
  let c0_i32_22 : BitVec 32 := 0#32
  let v62 : BitVec 1 := Scalar.cmpi .slt v58 c0_i32_22
  let v63 : BitVec 32 := Scalar.extui v62
  let v64 : BitVec 32 := Scalar.subi v61 v63
  let c4_i32 : BitVec 32 := 4#32
  let c0_i32_23 : BitVec 32 := 0#32
  let v65 : BitVec 1 := Scalar.cmpi .sgt c4_i32 c0_i32_23
  let v66 : BitVec 32 := Scalar.extui v65
  let c0_i32_24 : BitVec 32 := 0#32
  let v67 : BitVec 1 := Scalar.cmpi .slt c4_i32 c0_i32_24
  let v68 : BitVec 32 := Scalar.extui v67
  let v69 : BitVec 32 := Scalar.subi v66 v68
  let v70 : BitVec 1 := Scalar.cmpi .ne v64 v69
  let v71 : BitVec 32 := Scalar.remsi v58 c4_i32
  let c0_i32_25 : BitVec 32 := 0#32
  let v72 : BitVec 1 := Scalar.cmpi .ne v71 c0_i32_25
  let v73 : BitVec 1 := Scalar.andi v70 v72
  let v59 : BitVec 32 := Scalar.divsi v58 c4_i32
  let c1_i32_26 : BitVec 32 := 1#32
  let v74 : BitVec 32 := Scalar.subi v59 c1_i32_26
  let v75 : BitVec 32 := Scalar.select v73 v74 v59
  let v76 : BitVec 32 := Scalar.subi v75 c0_i32_27
  let c1_i32_28 : BitVec 32 := 1#32
  let v78 : BitVec 32 := Scalar.divsi v76 c1_i32_28
  let v79 : BitVec 32 := Scalar.muli v78 c1_i32_28
  let v80 : BitVec 32 := Scalar.addi c0_i32_27 v79
  let c1_i32_30 : BitVec 32 := 1#32
  let arg9 : BitVec 32 := Scf.iv v80 c1_i32_30 k0_t2
  let v114 : BitVec 32 := Scalar.muli c4_i32_48 arg9
  let c0_i32_49 : BitVec 32 := 0#32
  let v115 : BitVec 32 := Scalar.addi v114 c0_i32_49
  let c512_i32_55 : BitVec 32 := 512#32
  let v122 : BitVec 32 := Scalar.muli v115 c512_i32_55
  v122
def k0_off3 (i : grid0.Coords) (k0_t2 : Fin (k0_t2_loop i).trips) (c0_i32_49 : BitVec 32) : Fin 2 → Nat :=
  let c4_i32_48 : BitVec 32 := 4#32
  let c0_i32_27 : BitVec 32 := 0#32
  let arg2 : BitVec 32 := BitVec.ofNat 32 (i 2).val
  let c512_i32 : BitVec 32 := 512#32
  let v29 : BitVec 32 := Scalar.muli arg2 c512_i32
  let c0_i32_16 : BitVec 32 := 0#32
  let v43 : BitVec 1 := Scalar.cmpi .sgt v29 c0_i32_16
  let v44 : BitVec 32 := Scalar.extui v43
  let c0_i32_17 : BitVec 32 := 0#32
  let v45 : BitVec 1 := Scalar.cmpi .slt v29 c0_i32_17
  let v46 : BitVec 32 := Scalar.extui v45
  let v47 : BitVec 32 := Scalar.subi v44 v46
  let c512_i32_15 : BitVec 32 := 512#32
  let c0_i32_18 : BitVec 32 := 0#32
  let v48 : BitVec 1 := Scalar.cmpi .sgt c512_i32_15 c0_i32_18
  let v49 : BitVec 32 := Scalar.extui v48
  let c0_i32_19 : BitVec 32 := 0#32
  let v50 : BitVec 1 := Scalar.cmpi .slt c512_i32_15 c0_i32_19
  let v51 : BitVec 32 := Scalar.extui v50
  let v52 : BitVec 32 := Scalar.subi v49 v51
  let v53 : BitVec 1 := Scalar.cmpi .ne v47 v52
  let v54 : BitVec 32 := Scalar.remsi v29 c512_i32_15
  let c0_i32_20 : BitVec 32 := 0#32
  let v55 : BitVec 1 := Scalar.cmpi .ne v54 c0_i32_20
  let v56 : BitVec 1 := Scalar.andi v53 v55
  let v42 : BitVec 32 := Scalar.divsi v29 c512_i32_15
  let c1_i32 : BitVec 32 := 1#32
  let v57 : BitVec 32 := Scalar.subi v42 c1_i32
  let v58 : BitVec 32 := Scalar.select v56 v57 v42
  let c0_i32_21 : BitVec 32 := 0#32
  let v60 : BitVec 1 := Scalar.cmpi .sgt v58 c0_i32_21
  let v61 : BitVec 32 := Scalar.extui v60
  let c0_i32_22 : BitVec 32 := 0#32
  let v62 : BitVec 1 := Scalar.cmpi .slt v58 c0_i32_22
  let v63 : BitVec 32 := Scalar.extui v62
  let v64 : BitVec 32 := Scalar.subi v61 v63
  let c4_i32 : BitVec 32 := 4#32
  let c0_i32_23 : BitVec 32 := 0#32
  let v65 : BitVec 1 := Scalar.cmpi .sgt c4_i32 c0_i32_23
  let v66 : BitVec 32 := Scalar.extui v65
  let c0_i32_24 : BitVec 32 := 0#32
  let v67 : BitVec 1 := Scalar.cmpi .slt c4_i32 c0_i32_24
  let v68 : BitVec 32 := Scalar.extui v67
  let v69 : BitVec 32 := Scalar.subi v66 v68
  let v70 : BitVec 1 := Scalar.cmpi .ne v64 v69
  let v71 : BitVec 32 := Scalar.remsi v58 c4_i32
  let c0_i32_25 : BitVec 32 := 0#32
  let v72 : BitVec 1 := Scalar.cmpi .ne v71 c0_i32_25
  let v73 : BitVec 1 := Scalar.andi v70 v72
  let v59 : BitVec 32 := Scalar.divsi v58 c4_i32
  let c1_i32_26 : BitVec 32 := 1#32
  let v74 : BitVec 32 := Scalar.subi v59 c1_i32_26
  let v75 : BitVec 32 := Scalar.select v73 v74 v59
  let v76 : BitVec 32 := Scalar.subi v75 c0_i32_27
  let c1_i32_28 : BitVec 32 := 1#32
  let v78 : BitVec 32 := Scalar.divsi v76 c1_i32_28
  let v79 : BitVec 32 := Scalar.muli v78 c1_i32_28
  let v80 : BitVec 32 := Scalar.addi c0_i32_27 v79
  let c1_i32_30 : BitVec 32 := 1#32
  let arg9 : BitVec 32 := Scf.iv v80 c1_i32_30 k0_t2
  let v114 : BitVec 32 := Scalar.muli c4_i32_48 arg9
  let v115 : BitVec 32 := Scalar.addi v114 c0_i32_49
  let c512_i32_55 : BitVec 32 := 512#32
  let v122 : BitVec 32 := Scalar.muli v115 c512_i32_55
  let v123 : BitVec 32 := v122
  let v124 : Index := Scalar.indexCast v123
  let c0_56 : Index := 0#32
  ![v124.toNat, 0]
def k0_mult6 (i : grid0.Coords) (k0_t2 : Fin (k0_t2_loop i).trips) : BitVec 32 :=
  let c4_i32_50 : BitVec 32 := 4#32
  let c0_i32_27 : BitVec 32 := 0#32
  let arg2 : BitVec 32 := BitVec.ofNat 32 (i 2).val
  let c512_i32 : BitVec 32 := 512#32
  let v29 : BitVec 32 := Scalar.muli arg2 c512_i32
  let c0_i32_16 : BitVec 32 := 0#32
  let v43 : BitVec 1 := Scalar.cmpi .sgt v29 c0_i32_16
  let v44 : BitVec 32 := Scalar.extui v43
  let c0_i32_17 : BitVec 32 := 0#32
  let v45 : BitVec 1 := Scalar.cmpi .slt v29 c0_i32_17
  let v46 : BitVec 32 := Scalar.extui v45
  let v47 : BitVec 32 := Scalar.subi v44 v46
  let c512_i32_15 : BitVec 32 := 512#32
  let c0_i32_18 : BitVec 32 := 0#32
  let v48 : BitVec 1 := Scalar.cmpi .sgt c512_i32_15 c0_i32_18
  let v49 : BitVec 32 := Scalar.extui v48
  let c0_i32_19 : BitVec 32 := 0#32
  let v50 : BitVec 1 := Scalar.cmpi .slt c512_i32_15 c0_i32_19
  let v51 : BitVec 32 := Scalar.extui v50
  let v52 : BitVec 32 := Scalar.subi v49 v51
  let v53 : BitVec 1 := Scalar.cmpi .ne v47 v52
  let v54 : BitVec 32 := Scalar.remsi v29 c512_i32_15
  let c0_i32_20 : BitVec 32 := 0#32
  let v55 : BitVec 1 := Scalar.cmpi .ne v54 c0_i32_20
  let v56 : BitVec 1 := Scalar.andi v53 v55
  let v42 : BitVec 32 := Scalar.divsi v29 c512_i32_15
  let c1_i32 : BitVec 32 := 1#32
  let v57 : BitVec 32 := Scalar.subi v42 c1_i32
  let v58 : BitVec 32 := Scalar.select v56 v57 v42
  let c0_i32_21 : BitVec 32 := 0#32
  let v60 : BitVec 1 := Scalar.cmpi .sgt v58 c0_i32_21
  let v61 : BitVec 32 := Scalar.extui v60
  let c0_i32_22 : BitVec 32 := 0#32
  let v62 : BitVec 1 := Scalar.cmpi .slt v58 c0_i32_22
  let v63 : BitVec 32 := Scalar.extui v62
  let v64 : BitVec 32 := Scalar.subi v61 v63
  let c4_i32 : BitVec 32 := 4#32
  let c0_i32_23 : BitVec 32 := 0#32
  let v65 : BitVec 1 := Scalar.cmpi .sgt c4_i32 c0_i32_23
  let v66 : BitVec 32 := Scalar.extui v65
  let c0_i32_24 : BitVec 32 := 0#32
  let v67 : BitVec 1 := Scalar.cmpi .slt c4_i32 c0_i32_24
  let v68 : BitVec 32 := Scalar.extui v67
  let v69 : BitVec 32 := Scalar.subi v66 v68
  let v70 : BitVec 1 := Scalar.cmpi .ne v64 v69
  let v71 : BitVec 32 := Scalar.remsi v58 c4_i32
  let c0_i32_25 : BitVec 32 := 0#32
  let v72 : BitVec 1 := Scalar.cmpi .ne v71 c0_i32_25
  let v73 : BitVec 1 := Scalar.andi v70 v72
  let v59 : BitVec 32 := Scalar.divsi v58 c4_i32
  let c1_i32_26 : BitVec 32 := 1#32
  let v74 : BitVec 32 := Scalar.subi v59 c1_i32_26
  let v75 : BitVec 32 := Scalar.select v73 v74 v59
  let v76 : BitVec 32 := Scalar.subi v75 c0_i32_27
  let c1_i32_28 : BitVec 32 := 1#32
  let v78 : BitVec 32 := Scalar.divsi v76 c1_i32_28
  let v79 : BitVec 32 := Scalar.muli v78 c1_i32_28
  let v80 : BitVec 32 := Scalar.addi c0_i32_27 v79
  let c1_i32_30 : BitVec 32 := 1#32
  let arg9 : BitVec 32 := Scf.iv v80 c1_i32_30 k0_t2
  let v116 : BitVec 32 := Scalar.muli c4_i32_50 arg9
  let c1_i32_51 : BitVec 32 := 1#32
  let v117 : BitVec 32 := Scalar.addi v116 c1_i32_51
  let c512_i32_59 : BitVec 32 := 512#32
  let v128 : BitVec 32 := Scalar.muli v117 c512_i32_59
  v128
def k0_mult7 (i : grid0.Coords) (k0_t2 : Fin (k0_t2_loop i).trips) : BitVec 32 :=
  let c4_i32_52 : BitVec 32 := 4#32
  let c0_i32_27 : BitVec 32 := 0#32
  let arg2 : BitVec 32 := BitVec.ofNat 32 (i 2).val
  let c512_i32 : BitVec 32 := 512#32
  let v29 : BitVec 32 := Scalar.muli arg2 c512_i32
  let c0_i32_16 : BitVec 32 := 0#32
  let v43 : BitVec 1 := Scalar.cmpi .sgt v29 c0_i32_16
  let v44 : BitVec 32 := Scalar.extui v43
  let c0_i32_17 : BitVec 32 := 0#32
  let v45 : BitVec 1 := Scalar.cmpi .slt v29 c0_i32_17
  let v46 : BitVec 32 := Scalar.extui v45
  let v47 : BitVec 32 := Scalar.subi v44 v46
  let c512_i32_15 : BitVec 32 := 512#32
  let c0_i32_18 : BitVec 32 := 0#32
  let v48 : BitVec 1 := Scalar.cmpi .sgt c512_i32_15 c0_i32_18
  let v49 : BitVec 32 := Scalar.extui v48
  let c0_i32_19 : BitVec 32 := 0#32
  let v50 : BitVec 1 := Scalar.cmpi .slt c512_i32_15 c0_i32_19
  let v51 : BitVec 32 := Scalar.extui v50
  let v52 : BitVec 32 := Scalar.subi v49 v51
  let v53 : BitVec 1 := Scalar.cmpi .ne v47 v52
  let v54 : BitVec 32 := Scalar.remsi v29 c512_i32_15
  let c0_i32_20 : BitVec 32 := 0#32
  let v55 : BitVec 1 := Scalar.cmpi .ne v54 c0_i32_20
  let v56 : BitVec 1 := Scalar.andi v53 v55
  let v42 : BitVec 32 := Scalar.divsi v29 c512_i32_15
  let c1_i32 : BitVec 32 := 1#32
  let v57 : BitVec 32 := Scalar.subi v42 c1_i32
  let v58 : BitVec 32 := Scalar.select v56 v57 v42
  let c0_i32_21 : BitVec 32 := 0#32
  let v60 : BitVec 1 := Scalar.cmpi .sgt v58 c0_i32_21
  let v61 : BitVec 32 := Scalar.extui v60
  let c0_i32_22 : BitVec 32 := 0#32
  let v62 : BitVec 1 := Scalar.cmpi .slt v58 c0_i32_22
  let v63 : BitVec 32 := Scalar.extui v62
  let v64 : BitVec 32 := Scalar.subi v61 v63
  let c4_i32 : BitVec 32 := 4#32
  let c0_i32_23 : BitVec 32 := 0#32
  let v65 : BitVec 1 := Scalar.cmpi .sgt c4_i32 c0_i32_23
  let v66 : BitVec 32 := Scalar.extui v65
  let c0_i32_24 : BitVec 32 := 0#32
  let v67 : BitVec 1 := Scalar.cmpi .slt c4_i32 c0_i32_24
  let v68 : BitVec 32 := Scalar.extui v67
  let v69 : BitVec 32 := Scalar.subi v66 v68
  let v70 : BitVec 1 := Scalar.cmpi .ne v64 v69
  let v71 : BitVec 32 := Scalar.remsi v58 c4_i32
  let c0_i32_25 : BitVec 32 := 0#32
  let v72 : BitVec 1 := Scalar.cmpi .ne v71 c0_i32_25
  let v73 : BitVec 1 := Scalar.andi v70 v72
  let v59 : BitVec 32 := Scalar.divsi v58 c4_i32
  let c1_i32_26 : BitVec 32 := 1#32
  let v74 : BitVec 32 := Scalar.subi v59 c1_i32_26
  let v75 : BitVec 32 := Scalar.select v73 v74 v59
  let v76 : BitVec 32 := Scalar.subi v75 c0_i32_27
  let c1_i32_28 : BitVec 32 := 1#32
  let v78 : BitVec 32 := Scalar.divsi v76 c1_i32_28
  let v79 : BitVec 32 := Scalar.muli v78 c1_i32_28
  let v80 : BitVec 32 := Scalar.addi c0_i32_27 v79
  let c1_i32_30 : BitVec 32 := 1#32
  let arg9 : BitVec 32 := Scf.iv v80 c1_i32_30 k0_t2
  let v118 : BitVec 32 := Scalar.muli c4_i32_52 arg9
  let c2_i32 : BitVec 32 := 2#32
  let v119 : BitVec 32 := Scalar.addi v118 c2_i32
  let c512_i32_63 : BitVec 32 := 512#32
  let v134 : BitVec 32 := Scalar.muli v119 c512_i32_63
  v134
def k0_mult8 (i : grid0.Coords) (k0_t2 : Fin (k0_t2_loop i).trips) : BitVec 32 :=
  let c4_i32_53 : BitVec 32 := 4#32
  let c0_i32_27 : BitVec 32 := 0#32
  let arg2 : BitVec 32 := BitVec.ofNat 32 (i 2).val
  let c512_i32 : BitVec 32 := 512#32
  let v29 : BitVec 32 := Scalar.muli arg2 c512_i32
  let c0_i32_16 : BitVec 32 := 0#32
  let v43 : BitVec 1 := Scalar.cmpi .sgt v29 c0_i32_16
  let v44 : BitVec 32 := Scalar.extui v43
  let c0_i32_17 : BitVec 32 := 0#32
  let v45 : BitVec 1 := Scalar.cmpi .slt v29 c0_i32_17
  let v46 : BitVec 32 := Scalar.extui v45
  let v47 : BitVec 32 := Scalar.subi v44 v46
  let c512_i32_15 : BitVec 32 := 512#32
  let c0_i32_18 : BitVec 32 := 0#32
  let v48 : BitVec 1 := Scalar.cmpi .sgt c512_i32_15 c0_i32_18
  let v49 : BitVec 32 := Scalar.extui v48
  let c0_i32_19 : BitVec 32 := 0#32
  let v50 : BitVec 1 := Scalar.cmpi .slt c512_i32_15 c0_i32_19
  let v51 : BitVec 32 := Scalar.extui v50
  let v52 : BitVec 32 := Scalar.subi v49 v51
  let v53 : BitVec 1 := Scalar.cmpi .ne v47 v52
  let v54 : BitVec 32 := Scalar.remsi v29 c512_i32_15
  let c0_i32_20 : BitVec 32 := 0#32
  let v55 : BitVec 1 := Scalar.cmpi .ne v54 c0_i32_20
  let v56 : BitVec 1 := Scalar.andi v53 v55
  let v42 : BitVec 32 := Scalar.divsi v29 c512_i32_15
  let c1_i32 : BitVec 32 := 1#32
  let v57 : BitVec 32 := Scalar.subi v42 c1_i32
  let v58 : BitVec 32 := Scalar.select v56 v57 v42
  let c0_i32_21 : BitVec 32 := 0#32
  let v60 : BitVec 1 := Scalar.cmpi .sgt v58 c0_i32_21
  let v61 : BitVec 32 := Scalar.extui v60
  let c0_i32_22 : BitVec 32 := 0#32
  let v62 : BitVec 1 := Scalar.cmpi .slt v58 c0_i32_22
  let v63 : BitVec 32 := Scalar.extui v62
  let v64 : BitVec 32 := Scalar.subi v61 v63
  let c4_i32 : BitVec 32 := 4#32
  let c0_i32_23 : BitVec 32 := 0#32
  let v65 : BitVec 1 := Scalar.cmpi .sgt c4_i32 c0_i32_23
  let v66 : BitVec 32 := Scalar.extui v65
  let c0_i32_24 : BitVec 32 := 0#32
  let v67 : BitVec 1 := Scalar.cmpi .slt c4_i32 c0_i32_24
  let v68 : BitVec 32 := Scalar.extui v67
  let v69 : BitVec 32 := Scalar.subi v66 v68
  let v70 : BitVec 1 := Scalar.cmpi .ne v64 v69
  let v71 : BitVec 32 := Scalar.remsi v58 c4_i32
  let c0_i32_25 : BitVec 32 := 0#32
  let v72 : BitVec 1 := Scalar.cmpi .ne v71 c0_i32_25
  let v73 : BitVec 1 := Scalar.andi v70 v72
  let v59 : BitVec 32 := Scalar.divsi v58 c4_i32
  let c1_i32_26 : BitVec 32 := 1#32
  let v74 : BitVec 32 := Scalar.subi v59 c1_i32_26
  let v75 : BitVec 32 := Scalar.select v73 v74 v59
  let v76 : BitVec 32 := Scalar.subi v75 c0_i32_27
  let c1_i32_28 : BitVec 32 := 1#32
  let v78 : BitVec 32 := Scalar.divsi v76 c1_i32_28
  let v79 : BitVec 32 := Scalar.muli v78 c1_i32_28
  let v80 : BitVec 32 := Scalar.addi c0_i32_27 v79
  let c1_i32_30 : BitVec 32 := 1#32
  let arg9 : BitVec 32 := Scf.iv v80 c1_i32_30 k0_t2
  let v120 : BitVec 32 := Scalar.muli c4_i32_53 arg9
  let c3_i32_54 : BitVec 32 := 3#32
  let v121 : BitVec 32 := Scalar.addi v120 c3_i32_54
  let c512_i32_67 : BitVec 32 := 512#32
  let v140 : BitVec 32 := Scalar.muli v121 c512_i32_67
  v140
def k0_off4 (i : grid0.Coords) (k0_t2 : Fin (k0_t2_loop i).trips) (c0_i32_49 : BitVec 32) : Fin 2 → Nat :=
  let c0_71 : Index := 0#32
  let c4_i32_48 : BitVec 32 := 4#32
  let c0_i32_27 : BitVec 32 := 0#32
  let arg2 : BitVec 32 := BitVec.ofNat 32 (i 2).val
  let c512_i32 : BitVec 32 := 512#32
  let v29 : BitVec 32 := Scalar.muli arg2 c512_i32
  let c0_i32_16 : BitVec 32 := 0#32
  let v43 : BitVec 1 := Scalar.cmpi .sgt v29 c0_i32_16
  let v44 : BitVec 32 := Scalar.extui v43
  let c0_i32_17 : BitVec 32 := 0#32
  let v45 : BitVec 1 := Scalar.cmpi .slt v29 c0_i32_17
  let v46 : BitVec 32 := Scalar.extui v45
  let v47 : BitVec 32 := Scalar.subi v44 v46
  let c512_i32_15 : BitVec 32 := 512#32
  let c0_i32_18 : BitVec 32 := 0#32
  let v48 : BitVec 1 := Scalar.cmpi .sgt c512_i32_15 c0_i32_18
  let v49 : BitVec 32 := Scalar.extui v48
  let c0_i32_19 : BitVec 32 := 0#32
  let v50 : BitVec 1 := Scalar.cmpi .slt c512_i32_15 c0_i32_19
  let v51 : BitVec 32 := Scalar.extui v50
  let v52 : BitVec 32 := Scalar.subi v49 v51
  let v53 : BitVec 1 := Scalar.cmpi .ne v47 v52
  let v54 : BitVec 32 := Scalar.remsi v29 c512_i32_15
  let c0_i32_20 : BitVec 32 := 0#32
  let v55 : BitVec 1 := Scalar.cmpi .ne v54 c0_i32_20
  let v56 : BitVec 1 := Scalar.andi v53 v55
  let v42 : BitVec 32 := Scalar.divsi v29 c512_i32_15
  let c1_i32 : BitVec 32 := 1#32
  let v57 : BitVec 32 := Scalar.subi v42 c1_i32
  let v58 : BitVec 32 := Scalar.select v56 v57 v42
  let c0_i32_21 : BitVec 32 := 0#32
  let v60 : BitVec 1 := Scalar.cmpi .sgt v58 c0_i32_21
  let v61 : BitVec 32 := Scalar.extui v60
  let c0_i32_22 : BitVec 32 := 0#32
  let v62 : BitVec 1 := Scalar.cmpi .slt v58 c0_i32_22
  let v63 : BitVec 32 := Scalar.extui v62
  let v64 : BitVec 32 := Scalar.subi v61 v63
  let c4_i32 : BitVec 32 := 4#32
  let c0_i32_23 : BitVec 32 := 0#32
  let v65 : BitVec 1 := Scalar.cmpi .sgt c4_i32 c0_i32_23
  let v66 : BitVec 32 := Scalar.extui v65
  let c0_i32_24 : BitVec 32 := 0#32
  let v67 : BitVec 1 := Scalar.cmpi .slt c4_i32 c0_i32_24
  let v68 : BitVec 32 := Scalar.extui v67
  let v69 : BitVec 32 := Scalar.subi v66 v68
  let v70 : BitVec 1 := Scalar.cmpi .ne v64 v69
  let v71 : BitVec 32 := Scalar.remsi v58 c4_i32
  let c0_i32_25 : BitVec 32 := 0#32
  let v72 : BitVec 1 := Scalar.cmpi .ne v71 c0_i32_25
  let v73 : BitVec 1 := Scalar.andi v70 v72
  let v59 : BitVec 32 := Scalar.divsi v58 c4_i32
  let c1_i32_26 : BitVec 32 := 1#32
  let v74 : BitVec 32 := Scalar.subi v59 c1_i32_26
  let v75 : BitVec 32 := Scalar.select v73 v74 v59
  let v76 : BitVec 32 := Scalar.subi v75 c0_i32_27
  let c1_i32_28 : BitVec 32 := 1#32
  let v78 : BitVec 32 := Scalar.divsi v76 c1_i32_28
  let v79 : BitVec 32 := Scalar.muli v78 c1_i32_28
  let v80 : BitVec 32 := Scalar.addi c0_i32_27 v79
  let c1_i32_30 : BitVec 32 := 1#32
  let arg9 : BitVec 32 := Scf.iv v80 c1_i32_30 k0_t2
  let v114 : BitVec 32 := Scalar.muli c4_i32_48 arg9
  let v115 : BitVec 32 := Scalar.addi v114 c0_i32_49
  let c512_i32_55 : BitVec 32 := 512#32
  let v122 : BitVec 32 := Scalar.muli v115 c512_i32_55
  let v123 : BitVec 32 := v122
  let v146 : Index := Scalar.indexCast v123
  ![0, v146.toNat]
def k0_cond1 (i : grid0.Coords) : BitVec 1 :=
  let arg2 : BitVec 32 := BitVec.ofNat 32 (i 2).val
  let c512_i32 : BitVec 32 := 512#32
  let v29 : BitVec 32 := Scalar.muli arg2 c512_i32
  let c0_i32_16 : BitVec 32 := 0#32
  let v43 : BitVec 1 := Scalar.cmpi .sgt v29 c0_i32_16
  let v44 : BitVec 32 := Scalar.extui v43
  let c0_i32_17 : BitVec 32 := 0#32
  let v45 : BitVec 1 := Scalar.cmpi .slt v29 c0_i32_17
  let v46 : BitVec 32 := Scalar.extui v45
  let v47 : BitVec 32 := Scalar.subi v44 v46
  let c512_i32_15 : BitVec 32 := 512#32
  let c0_i32_18 : BitVec 32 := 0#32
  let v48 : BitVec 1 := Scalar.cmpi .sgt c512_i32_15 c0_i32_18
  let v49 : BitVec 32 := Scalar.extui v48
  let c0_i32_19 : BitVec 32 := 0#32
  let v50 : BitVec 1 := Scalar.cmpi .slt c512_i32_15 c0_i32_19
  let v51 : BitVec 32 := Scalar.extui v50
  let v52 : BitVec 32 := Scalar.subi v49 v51
  let v53 : BitVec 1 := Scalar.cmpi .ne v47 v52
  let v54 : BitVec 32 := Scalar.remsi v29 c512_i32_15
  let c0_i32_20 : BitVec 32 := 0#32
  let v55 : BitVec 1 := Scalar.cmpi .ne v54 c0_i32_20
  let v56 : BitVec 1 := Scalar.andi v53 v55
  let v42 : BitVec 32 := Scalar.divsi v29 c512_i32_15
  let c1_i32 : BitVec 32 := 1#32
  let v57 : BitVec 32 := Scalar.subi v42 c1_i32
  let v58 : BitVec 32 := Scalar.select v56 v57 v42
  let c4_i32_31 : BitVec 32 := 4#32
  let c0_i32_32 : BitVec 32 := 0#32
  let v83 : BitVec 1 := Scalar.cmpi .eq c4_i32_31 c0_i32_32
  let c1_i32_33 : BitVec 32 := 1#32
  let v84 : BitVec 32 := Scalar.select v83 c1_i32_33 c4_i32_31
  let v85 : BitVec 32 := Scalar.remsi v58 v84
  let c0_i32_35 : BitVec 32 := 0#32
  let v87 : BitVec 1 := Scalar.cmpi .slt v85 c0_i32_35
  let c0_i32_36 : BitVec 32 := 0#32
  let v88 : BitVec 1 := Scalar.cmpi .slt v84 c0_i32_36
  let v89 : BitVec 1 := Scalar.xori v87 v88
  let c0_i32_34 : BitVec 32 := 0#32
  let v86 : BitVec 1 := Scalar.cmpi .ne v85 c0_i32_34
  let v90 : BitVec 1 := Scalar.andi v89 v86
  let v91 : BitVec 32 := Scalar.addi v85 v84
  let v92 : BitVec 32 := Scalar.select v90 v91 v85
  let c0_i32_37 : BitVec 32 := 0#32
  let v93 : BitVec 32 := Scalar.maxsi v92 c0_i32_37
  let c3_i32 : BitVec 32 := 3#32
  let v94 : BitVec 32 := Scalar.minsi v93 c3_i32
  let c0_i32_38 : BitVec 32 := 0#32
  let v95 : BitVec 1 := Scalar.cmpi .ne v94 c0_i32_38
  v95

def k0_cond2 (i : grid0.Coords) : BitVec 1 :=
  let arg2 : BitVec 32 := BitVec.ofNat 32 (i 2).val
  let c512_i32 : BitVec 32 := 512#32
  let v29 : BitVec 32 := Scalar.muli arg2 c512_i32
  let c0_i32_16 : BitVec 32 := 0#32
  let v43 : BitVec 1 := Scalar.cmpi .sgt v29 c0_i32_16
  let v44 : BitVec 32 := Scalar.extui v43
  let c0_i32_17 : BitVec 32 := 0#32
  let v45 : BitVec 1 := Scalar.cmpi .slt v29 c0_i32_17
  let v46 : BitVec 32 := Scalar.extui v45
  let v47 : BitVec 32 := Scalar.subi v44 v46
  let c512_i32_15 : BitVec 32 := 512#32
  let c0_i32_18 : BitVec 32 := 0#32
  let v48 : BitVec 1 := Scalar.cmpi .sgt c512_i32_15 c0_i32_18
  let v49 : BitVec 32 := Scalar.extui v48
  let c0_i32_19 : BitVec 32 := 0#32
  let v50 : BitVec 1 := Scalar.cmpi .slt c512_i32_15 c0_i32_19
  let v51 : BitVec 32 := Scalar.extui v50
  let v52 : BitVec 32 := Scalar.subi v49 v51
  let v53 : BitVec 1 := Scalar.cmpi .ne v47 v52
  let v54 : BitVec 32 := Scalar.remsi v29 c512_i32_15
  let c0_i32_20 : BitVec 32 := 0#32
  let v55 : BitVec 1 := Scalar.cmpi .ne v54 c0_i32_20
  let v56 : BitVec 1 := Scalar.andi v53 v55
  let v42 : BitVec 32 := Scalar.divsi v29 c512_i32_15
  let c1_i32 : BitVec 32 := 1#32
  let v57 : BitVec 32 := Scalar.subi v42 c1_i32
  let v58 : BitVec 32 := Scalar.select v56 v57 v42
  let c4_i32_31 : BitVec 32 := 4#32
  let c0_i32_32 : BitVec 32 := 0#32
  let v83 : BitVec 1 := Scalar.cmpi .eq c4_i32_31 c0_i32_32
  let c1_i32_33 : BitVec 32 := 1#32
  let v84 : BitVec 32 := Scalar.select v83 c1_i32_33 c4_i32_31
  let v85 : BitVec 32 := Scalar.remsi v58 v84
  let c0_i32_35 : BitVec 32 := 0#32
  let v87 : BitVec 1 := Scalar.cmpi .slt v85 c0_i32_35
  let c0_i32_36 : BitVec 32 := 0#32
  let v88 : BitVec 1 := Scalar.cmpi .slt v84 c0_i32_36
  let v89 : BitVec 1 := Scalar.xori v87 v88
  let c0_i32_34 : BitVec 32 := 0#32
  let v86 : BitVec 1 := Scalar.cmpi .ne v85 c0_i32_34
  let v90 : BitVec 1 := Scalar.andi v89 v86
  let v91 : BitVec 32 := Scalar.addi v85 v84
  let v92 : BitVec 32 := Scalar.select v90 v91 v85
  let c0_i32_37 : BitVec 32 := 0#32
  let v93 : BitVec 32 := Scalar.maxsi v92 c0_i32_37
  let c3_i32 : BitVec 32 := 3#32
  let v94 : BitVec 32 := Scalar.minsi v93 c3_i32
  let c1_i32_48 : BitVec 32 := 1#32
  let v114 : BitVec 32 := Scalar.subi v94 c1_i32_48
  let c0_i32_49 : BitVec 32 := 0#32
  let v115 : BitVec 1 := Scalar.cmpi .ne v114 c0_i32_49
  v115

def k0_cond3 (i : grid0.Coords) : BitVec 1 :=
  let arg2 : BitVec 32 := BitVec.ofNat 32 (i 2).val
  let c512_i32 : BitVec 32 := 512#32
  let v29 : BitVec 32 := Scalar.muli arg2 c512_i32
  let c0_i32_16 : BitVec 32 := 0#32
  let v43 : BitVec 1 := Scalar.cmpi .sgt v29 c0_i32_16
  let v44 : BitVec 32 := Scalar.extui v43
  let c0_i32_17 : BitVec 32 := 0#32
  let v45 : BitVec 1 := Scalar.cmpi .slt v29 c0_i32_17
  let v46 : BitVec 32 := Scalar.extui v45
  let v47 : BitVec 32 := Scalar.subi v44 v46
  let c512_i32_15 : BitVec 32 := 512#32
  let c0_i32_18 : BitVec 32 := 0#32
  let v48 : BitVec 1 := Scalar.cmpi .sgt c512_i32_15 c0_i32_18
  let v49 : BitVec 32 := Scalar.extui v48
  let c0_i32_19 : BitVec 32 := 0#32
  let v50 : BitVec 1 := Scalar.cmpi .slt c512_i32_15 c0_i32_19
  let v51 : BitVec 32 := Scalar.extui v50
  let v52 : BitVec 32 := Scalar.subi v49 v51
  let v53 : BitVec 1 := Scalar.cmpi .ne v47 v52
  let v54 : BitVec 32 := Scalar.remsi v29 c512_i32_15
  let c0_i32_20 : BitVec 32 := 0#32
  let v55 : BitVec 1 := Scalar.cmpi .ne v54 c0_i32_20
  let v56 : BitVec 1 := Scalar.andi v53 v55
  let v42 : BitVec 32 := Scalar.divsi v29 c512_i32_15
  let c1_i32 : BitVec 32 := 1#32
  let v57 : BitVec 32 := Scalar.subi v42 c1_i32
  let v58 : BitVec 32 := Scalar.select v56 v57 v42
  let c4_i32_31 : BitVec 32 := 4#32
  let c0_i32_32 : BitVec 32 := 0#32
  let v83 : BitVec 1 := Scalar.cmpi .eq c4_i32_31 c0_i32_32
  let c1_i32_33 : BitVec 32 := 1#32
  let v84 : BitVec 32 := Scalar.select v83 c1_i32_33 c4_i32_31
  let v85 : BitVec 32 := Scalar.remsi v58 v84
  let c0_i32_35 : BitVec 32 := 0#32
  let v87 : BitVec 1 := Scalar.cmpi .slt v85 c0_i32_35
  let c0_i32_36 : BitVec 32 := 0#32
  let v88 : BitVec 1 := Scalar.cmpi .slt v84 c0_i32_36
  let v89 : BitVec 1 := Scalar.xori v87 v88
  let c0_i32_34 : BitVec 32 := 0#32
  let v86 : BitVec 1 := Scalar.cmpi .ne v85 c0_i32_34
  let v90 : BitVec 1 := Scalar.andi v89 v86
  let v91 : BitVec 32 := Scalar.addi v85 v84
  let v92 : BitVec 32 := Scalar.select v90 v91 v85
  let c0_i32_37 : BitVec 32 := 0#32
  let v93 : BitVec 32 := Scalar.maxsi v92 c0_i32_37
  let c3_i32 : BitVec 32 := 3#32
  let v94 : BitVec 32 := Scalar.minsi v93 c3_i32
  let c1_i32_48 : BitVec 32 := 1#32
  let v114 : BitVec 32 := Scalar.subi v94 c1_i32_48
  let c1_i32_50 : BitVec 32 := 1#32
  let v117 : BitVec 32 := Scalar.subi v114 c1_i32_50
  let c0_i32_51 : BitVec 32 := 0#32
  let v118 : BitVec 1 := Scalar.cmpi .ne v117 c0_i32_51
  v118

def k0_mult9 (i : grid0.Coords) : BitVec 32 :=
  let arg2 : BitVec 32 := BitVec.ofNat 32 (i 2).val
  let c512_i32 : BitVec 32 := 512#32
  let v29 : BitVec 32 := Scalar.muli arg2 c512_i32
  let c0_i32_16 : BitVec 32 := 0#32
  let v43 : BitVec 1 := Scalar.cmpi .sgt v29 c0_i32_16
  let v44 : BitVec 32 := Scalar.extui v43
  let c0_i32_17 : BitVec 32 := 0#32
  let v45 : BitVec 1 := Scalar.cmpi .slt v29 c0_i32_17
  let v46 : BitVec 32 := Scalar.extui v45
  let v47 : BitVec 32 := Scalar.subi v44 v46
  let c512_i32_15 : BitVec 32 := 512#32
  let c0_i32_18 : BitVec 32 := 0#32
  let v48 : BitVec 1 := Scalar.cmpi .sgt c512_i32_15 c0_i32_18
  let v49 : BitVec 32 := Scalar.extui v48
  let c0_i32_19 : BitVec 32 := 0#32
  let v50 : BitVec 1 := Scalar.cmpi .slt c512_i32_15 c0_i32_19
  let v51 : BitVec 32 := Scalar.extui v50
  let v52 : BitVec 32 := Scalar.subi v49 v51
  let v53 : BitVec 1 := Scalar.cmpi .ne v47 v52
  let v54 : BitVec 32 := Scalar.remsi v29 c512_i32_15
  let c0_i32_20 : BitVec 32 := 0#32
  let v55 : BitVec 1 := Scalar.cmpi .ne v54 c0_i32_20
  let v56 : BitVec 1 := Scalar.andi v53 v55
  let v42 : BitVec 32 := Scalar.divsi v29 c512_i32_15
  let c1_i32 : BitVec 32 := 1#32
  let v57 : BitVec 32 := Scalar.subi v42 c1_i32
  let v58 : BitVec 32 := Scalar.select v56 v57 v42
  let c3_i32_52 : BitVec 32 := 3#32
  let v120 : BitVec 32 := Scalar.subi v58 c3_i32_52
  let c0_i32_53 : BitVec 32 := 0#32
  let v121 : BitVec 32 := Scalar.addi v120 c0_i32_53
  let c512_i32_57 : BitVec 32 := 512#32
  let v126 : BitVec 32 := Scalar.muli v121 c512_i32_57
  v126
def k0_off5 (i : grid0.Coords) (c0_i32_53 : BitVec 32) : Fin 2 → Nat :=
  let arg2 : BitVec 32 := BitVec.ofNat 32 (i 2).val
  let c512_i32 : BitVec 32 := 512#32
  let v29 : BitVec 32 := Scalar.muli arg2 c512_i32
  let c0_i32_16 : BitVec 32 := 0#32
  let v43 : BitVec 1 := Scalar.cmpi .sgt v29 c0_i32_16
  let v44 : BitVec 32 := Scalar.extui v43
  let c0_i32_17 : BitVec 32 := 0#32
  let v45 : BitVec 1 := Scalar.cmpi .slt v29 c0_i32_17
  let v46 : BitVec 32 := Scalar.extui v45
  let v47 : BitVec 32 := Scalar.subi v44 v46
  let c512_i32_15 : BitVec 32 := 512#32
  let c0_i32_18 : BitVec 32 := 0#32
  let v48 : BitVec 1 := Scalar.cmpi .sgt c512_i32_15 c0_i32_18
  let v49 : BitVec 32 := Scalar.extui v48
  let c0_i32_19 : BitVec 32 := 0#32
  let v50 : BitVec 1 := Scalar.cmpi .slt c512_i32_15 c0_i32_19
  let v51 : BitVec 32 := Scalar.extui v50
  let v52 : BitVec 32 := Scalar.subi v49 v51
  let v53 : BitVec 1 := Scalar.cmpi .ne v47 v52
  let v54 : BitVec 32 := Scalar.remsi v29 c512_i32_15
  let c0_i32_20 : BitVec 32 := 0#32
  let v55 : BitVec 1 := Scalar.cmpi .ne v54 c0_i32_20
  let v56 : BitVec 1 := Scalar.andi v53 v55
  let v42 : BitVec 32 := Scalar.divsi v29 c512_i32_15
  let c1_i32 : BitVec 32 := 1#32
  let v57 : BitVec 32 := Scalar.subi v42 c1_i32
  let v58 : BitVec 32 := Scalar.select v56 v57 v42
  let c3_i32_52 : BitVec 32 := 3#32
  let v120 : BitVec 32 := Scalar.subi v58 c3_i32_52
  let v121 : BitVec 32 := Scalar.addi v120 c0_i32_53
  let c512_i32_57 : BitVec 32 := 512#32
  let v126 : BitVec 32 := Scalar.muli v121 c512_i32_57
  let v127 : BitVec 32 := v126
  let v128 : Index := Scalar.indexCast v127
  let c0_58 : Index := 0#32
  ![v128.toNat, 0]
def k0_mult10 (i : grid0.Coords) : BitVec 32 :=
  let arg2 : BitVec 32 := BitVec.ofNat 32 (i 2).val
  let c512_i32 : BitVec 32 := 512#32
  let v29 : BitVec 32 := Scalar.muli arg2 c512_i32
  let c0_i32_16 : BitVec 32 := 0#32
  let v43 : BitVec 1 := Scalar.cmpi .sgt v29 c0_i32_16
  let v44 : BitVec 32 := Scalar.extui v43
  let c0_i32_17 : BitVec 32 := 0#32
  let v45 : BitVec 1 := Scalar.cmpi .slt v29 c0_i32_17
  let v46 : BitVec 32 := Scalar.extui v45
  let v47 : BitVec 32 := Scalar.subi v44 v46
  let c512_i32_15 : BitVec 32 := 512#32
  let c0_i32_18 : BitVec 32 := 0#32
  let v48 : BitVec 1 := Scalar.cmpi .sgt c512_i32_15 c0_i32_18
  let v49 : BitVec 32 := Scalar.extui v48
  let c0_i32_19 : BitVec 32 := 0#32
  let v50 : BitVec 1 := Scalar.cmpi .slt c512_i32_15 c0_i32_19
  let v51 : BitVec 32 := Scalar.extui v50
  let v52 : BitVec 32 := Scalar.subi v49 v51
  let v53 : BitVec 1 := Scalar.cmpi .ne v47 v52
  let v54 : BitVec 32 := Scalar.remsi v29 c512_i32_15
  let c0_i32_20 : BitVec 32 := 0#32
  let v55 : BitVec 1 := Scalar.cmpi .ne v54 c0_i32_20
  let v56 : BitVec 1 := Scalar.andi v53 v55
  let v42 : BitVec 32 := Scalar.divsi v29 c512_i32_15
  let c1_i32 : BitVec 32 := 1#32
  let v57 : BitVec 32 := Scalar.subi v42 c1_i32
  let v58 : BitVec 32 := Scalar.select v56 v57 v42
  let c3_i32_54 : BitVec 32 := 3#32
  let v122 : BitVec 32 := Scalar.subi v58 c3_i32_54
  let c1_i32_55 : BitVec 32 := 1#32
  let v123 : BitVec 32 := Scalar.addi v122 c1_i32_55
  let c512_i32_61 : BitVec 32 := 512#32
  let v132 : BitVec 32 := Scalar.muli v123 c512_i32_61
  v132
def k0_mult11 (i : grid0.Coords) : BitVec 32 :=
  let arg2 : BitVec 32 := BitVec.ofNat 32 (i 2).val
  let c512_i32 : BitVec 32 := 512#32
  let v29 : BitVec 32 := Scalar.muli arg2 c512_i32
  let c0_i32_16 : BitVec 32 := 0#32
  let v43 : BitVec 1 := Scalar.cmpi .sgt v29 c0_i32_16
  let v44 : BitVec 32 := Scalar.extui v43
  let c0_i32_17 : BitVec 32 := 0#32
  let v45 : BitVec 1 := Scalar.cmpi .slt v29 c0_i32_17
  let v46 : BitVec 32 := Scalar.extui v45
  let v47 : BitVec 32 := Scalar.subi v44 v46
  let c512_i32_15 : BitVec 32 := 512#32
  let c0_i32_18 : BitVec 32 := 0#32
  let v48 : BitVec 1 := Scalar.cmpi .sgt c512_i32_15 c0_i32_18
  let v49 : BitVec 32 := Scalar.extui v48
  let c0_i32_19 : BitVec 32 := 0#32
  let v50 : BitVec 1 := Scalar.cmpi .slt c512_i32_15 c0_i32_19
  let v51 : BitVec 32 := Scalar.extui v50
  let v52 : BitVec 32 := Scalar.subi v49 v51
  let v53 : BitVec 1 := Scalar.cmpi .ne v47 v52
  let v54 : BitVec 32 := Scalar.remsi v29 c512_i32_15
  let c0_i32_20 : BitVec 32 := 0#32
  let v55 : BitVec 1 := Scalar.cmpi .ne v54 c0_i32_20
  let v56 : BitVec 1 := Scalar.andi v53 v55
  let v42 : BitVec 32 := Scalar.divsi v29 c512_i32_15
  let c1_i32 : BitVec 32 := 1#32
  let v57 : BitVec 32 := Scalar.subi v42 c1_i32
  let v58 : BitVec 32 := Scalar.select v56 v57 v42
  let c3_i32_56 : BitVec 32 := 3#32
  let v124 : BitVec 32 := Scalar.subi v58 c3_i32_56
  let c2_i32 : BitVec 32 := 2#32
  let v125 : BitVec 32 := Scalar.addi v124 c2_i32
  let c512_i32_65 : BitVec 32 := 512#32
  let v138 : BitVec 32 := Scalar.muli v125 c512_i32_65
  v138
def k0_mult12 (i : grid0.Coords) : BitVec 32 :=
  let arg2 : BitVec 32 := BitVec.ofNat 32 (i 2).val
  let c512_i32 : BitVec 32 := 512#32
  let v29 : BitVec 32 := Scalar.muli arg2 c512_i32
  let c0_i32_16 : BitVec 32 := 0#32
  let v43 : BitVec 1 := Scalar.cmpi .sgt v29 c0_i32_16
  let v44 : BitVec 32 := Scalar.extui v43
  let c0_i32_17 : BitVec 32 := 0#32
  let v45 : BitVec 1 := Scalar.cmpi .slt v29 c0_i32_17
  let v46 : BitVec 32 := Scalar.extui v45
  let v47 : BitVec 32 := Scalar.subi v44 v46
  let c512_i32_15 : BitVec 32 := 512#32
  let c0_i32_18 : BitVec 32 := 0#32
  let v48 : BitVec 1 := Scalar.cmpi .sgt c512_i32_15 c0_i32_18
  let v49 : BitVec 32 := Scalar.extui v48
  let c0_i32_19 : BitVec 32 := 0#32
  let v50 : BitVec 1 := Scalar.cmpi .slt c512_i32_15 c0_i32_19
  let v51 : BitVec 32 := Scalar.extui v50
  let v52 : BitVec 32 := Scalar.subi v49 v51
  let v53 : BitVec 1 := Scalar.cmpi .ne v47 v52
  let v54 : BitVec 32 := Scalar.remsi v29 c512_i32_15
  let c0_i32_20 : BitVec 32 := 0#32
  let v55 : BitVec 1 := Scalar.cmpi .ne v54 c0_i32_20
  let v56 : BitVec 1 := Scalar.andi v53 v55
  let v42 : BitVec 32 := Scalar.divsi v29 c512_i32_15
  let c1_i32 : BitVec 32 := 1#32
  let v57 : BitVec 32 := Scalar.subi v42 c1_i32
  let v58 : BitVec 32 := Scalar.select v56 v57 v42
  let c512_i32_69 : BitVec 32 := 512#32
  let v144 : BitVec 32 := Scalar.muli v58 c512_i32_69
  v144
def k0_off6 (i : grid0.Coords) : Fin 2 → Nat :=
  let arg2 : BitVec 32 := BitVec.ofNat 32 (i 2).val
  let c512_i32 : BitVec 32 := 512#32
  let v29 : BitVec 32 := Scalar.muli arg2 c512_i32
  let c0_i32_16 : BitVec 32 := 0#32
  let v43 : BitVec 1 := Scalar.cmpi .sgt v29 c0_i32_16
  let v44 : BitVec 32 := Scalar.extui v43
  let c0_i32_17 : BitVec 32 := 0#32
  let v45 : BitVec 1 := Scalar.cmpi .slt v29 c0_i32_17
  let v46 : BitVec 32 := Scalar.extui v45
  let v47 : BitVec 32 := Scalar.subi v44 v46
  let c512_i32_15 : BitVec 32 := 512#32
  let c0_i32_18 : BitVec 32 := 0#32
  let v48 : BitVec 1 := Scalar.cmpi .sgt c512_i32_15 c0_i32_18
  let v49 : BitVec 32 := Scalar.extui v48
  let c0_i32_19 : BitVec 32 := 0#32
  let v50 : BitVec 1 := Scalar.cmpi .slt c512_i32_15 c0_i32_19
  let v51 : BitVec 32 := Scalar.extui v50
  let v52 : BitVec 32 := Scalar.subi v49 v51
  let v53 : BitVec 1 := Scalar.cmpi .ne v47 v52
  let v54 : BitVec 32 := Scalar.remsi v29 c512_i32_15
  let c0_i32_20 : BitVec 32 := 0#32
  let v55 : BitVec 1 := Scalar.cmpi .ne v54 c0_i32_20
  let v56 : BitVec 1 := Scalar.andi v53 v55
  let v42 : BitVec 32 := Scalar.divsi v29 c512_i32_15
  let c1_i32 : BitVec 32 := 1#32
  let v57 : BitVec 32 := Scalar.subi v42 c1_i32
  let v58 : BitVec 32 := Scalar.select v56 v57 v42
  let c512_i32_69 : BitVec 32 := 512#32
  let v144 : BitVec 32 := Scalar.muli v58 c512_i32_69
  let v145 : BitVec 32 := v144
  let v146 : Index := Scalar.indexCast v145
  let c0_70 : Index := 0#32
  ![v146.toNat, 0]
def k0_off7 (i : grid0.Coords) (c0_i32_53 : BitVec 32) : Fin 2 → Nat :=
  let c0_73 : Index := 0#32
  let arg2 : BitVec 32 := BitVec.ofNat 32 (i 2).val
  let c512_i32 : BitVec 32 := 512#32
  let v29 : BitVec 32 := Scalar.muli arg2 c512_i32
  let c0_i32_16 : BitVec 32 := 0#32
  let v43 : BitVec 1 := Scalar.cmpi .sgt v29 c0_i32_16
  let v44 : BitVec 32 := Scalar.extui v43
  let c0_i32_17 : BitVec 32 := 0#32
  let v45 : BitVec 1 := Scalar.cmpi .slt v29 c0_i32_17
  let v46 : BitVec 32 := Scalar.extui v45
  let v47 : BitVec 32 := Scalar.subi v44 v46
  let c512_i32_15 : BitVec 32 := 512#32
  let c0_i32_18 : BitVec 32 := 0#32
  let v48 : BitVec 1 := Scalar.cmpi .sgt c512_i32_15 c0_i32_18
  let v49 : BitVec 32 := Scalar.extui v48
  let c0_i32_19 : BitVec 32 := 0#32
  let v50 : BitVec 1 := Scalar.cmpi .slt c512_i32_15 c0_i32_19
  let v51 : BitVec 32 := Scalar.extui v50
  let v52 : BitVec 32 := Scalar.subi v49 v51
  let v53 : BitVec 1 := Scalar.cmpi .ne v47 v52
  let v54 : BitVec 32 := Scalar.remsi v29 c512_i32_15
  let c0_i32_20 : BitVec 32 := 0#32
  let v55 : BitVec 1 := Scalar.cmpi .ne v54 c0_i32_20
  let v56 : BitVec 1 := Scalar.andi v53 v55
  let v42 : BitVec 32 := Scalar.divsi v29 c512_i32_15
  let c1_i32 : BitVec 32 := 1#32
  let v57 : BitVec 32 := Scalar.subi v42 c1_i32
  let v58 : BitVec 32 := Scalar.select v56 v57 v42
  let c3_i32_52 : BitVec 32 := 3#32
  let v120 : BitVec 32 := Scalar.subi v58 c3_i32_52
  let v121 : BitVec 32 := Scalar.addi v120 c0_i32_53
  let c512_i32_57 : BitVec 32 := 512#32
  let v126 : BitVec 32 := Scalar.muli v121 c512_i32_57
  let v127 : BitVec 32 := v126
  let v150 : Index := Scalar.indexCast v127
  ![0, v150.toNat]
def k0_off8 (i : grid0.Coords) : Fin 2 → Nat :=
  let c0_118 : Index := 0#32
  let arg2 : BitVec 32 := BitVec.ofNat 32 (i 2).val
  let c512_i32 : BitVec 32 := 512#32
  let v29 : BitVec 32 := Scalar.muli arg2 c512_i32
  let c0_i32_16 : BitVec 32 := 0#32
  let v43 : BitVec 1 := Scalar.cmpi .sgt v29 c0_i32_16
  let v44 : BitVec 32 := Scalar.extui v43
  let c0_i32_17 : BitVec 32 := 0#32
  let v45 : BitVec 1 := Scalar.cmpi .slt v29 c0_i32_17
  let v46 : BitVec 32 := Scalar.extui v45
  let v47 : BitVec 32 := Scalar.subi v44 v46
  let c512_i32_15 : BitVec 32 := 512#32
  let c0_i32_18 : BitVec 32 := 0#32
  let v48 : BitVec 1 := Scalar.cmpi .sgt c512_i32_15 c0_i32_18
  let v49 : BitVec 32 := Scalar.extui v48
  let c0_i32_19 : BitVec 32 := 0#32
  let v50 : BitVec 1 := Scalar.cmpi .slt c512_i32_15 c0_i32_19
  let v51 : BitVec 32 := Scalar.extui v50
  let v52 : BitVec 32 := Scalar.subi v49 v51
  let v53 : BitVec 1 := Scalar.cmpi .ne v47 v52
  let v54 : BitVec 32 := Scalar.remsi v29 c512_i32_15
  let c0_i32_20 : BitVec 32 := 0#32
  let v55 : BitVec 1 := Scalar.cmpi .ne v54 c0_i32_20
  let v56 : BitVec 1 := Scalar.andi v53 v55
  let v42 : BitVec 32 := Scalar.divsi v29 c512_i32_15
  let c1_i32 : BitVec 32 := 1#32
  let v57 : BitVec 32 := Scalar.subi v42 c1_i32
  let v58 : BitVec 32 := Scalar.select v56 v57 v42
  let c512_i32_69 : BitVec 32 := 512#32
  let v144 : BitVec 32 := Scalar.muli v58 c512_i32_69
  let v145 : BitVec 32 := v144
  let v288 : Index := Scalar.indexCast v145
  ![0, v288.toNat]
def k0_mult13 (i : grid0.Coords) : BitVec 32 :=
  let arg2 : BitVec 32 := BitVec.ofNat 32 (i 2).val
  let c512_i32 : BitVec 32 := 512#32
  let v29 : BitVec 32 := Scalar.muli arg2 c512_i32
  let c0_i32_16 : BitVec 32 := 0#32
  let v43 : BitVec 1 := Scalar.cmpi .sgt v29 c0_i32_16
  let v44 : BitVec 32 := Scalar.extui v43
  let c0_i32_17 : BitVec 32 := 0#32
  let v45 : BitVec 1 := Scalar.cmpi .slt v29 c0_i32_17
  let v46 : BitVec 32 := Scalar.extui v45
  let v47 : BitVec 32 := Scalar.subi v44 v46
  let c512_i32_15 : BitVec 32 := 512#32
  let c0_i32_18 : BitVec 32 := 0#32
  let v48 : BitVec 1 := Scalar.cmpi .sgt c512_i32_15 c0_i32_18
  let v49 : BitVec 32 := Scalar.extui v48
  let c0_i32_19 : BitVec 32 := 0#32
  let v50 : BitVec 1 := Scalar.cmpi .slt c512_i32_15 c0_i32_19
  let v51 : BitVec 32 := Scalar.extui v50
  let v52 : BitVec 32 := Scalar.subi v49 v51
  let v53 : BitVec 1 := Scalar.cmpi .ne v47 v52
  let v54 : BitVec 32 := Scalar.remsi v29 c512_i32_15
  let c0_i32_20 : BitVec 32 := 0#32
  let v55 : BitVec 1 := Scalar.cmpi .ne v54 c0_i32_20
  let v56 : BitVec 1 := Scalar.andi v53 v55
  let v42 : BitVec 32 := Scalar.divsi v29 c512_i32_15
  let c1_i32 : BitVec 32 := 1#32
  let v57 : BitVec 32 := Scalar.subi v42 c1_i32
  let v58 : BitVec 32 := Scalar.select v56 v57 v42
  let c2_i32 : BitVec 32 := 2#32
  let v120 : BitVec 32 := Scalar.subi v58 c2_i32
  let c0_i32_52 : BitVec 32 := 0#32
  let v121 : BitVec 32 := Scalar.addi v120 c0_i32_52
  let c512_i32_55 : BitVec 32 := 512#32
  let v124 : BitVec 32 := Scalar.muli v121 c512_i32_55
  v124
def k0_off9 (i : grid0.Coords) (c0_i32_52 : BitVec 32) : Fin 2 → Nat :=
  let arg2 : BitVec 32 := BitVec.ofNat 32 (i 2).val
  let c512_i32 : BitVec 32 := 512#32
  let v29 : BitVec 32 := Scalar.muli arg2 c512_i32
  let c0_i32_16 : BitVec 32 := 0#32
  let v43 : BitVec 1 := Scalar.cmpi .sgt v29 c0_i32_16
  let v44 : BitVec 32 := Scalar.extui v43
  let c0_i32_17 : BitVec 32 := 0#32
  let v45 : BitVec 1 := Scalar.cmpi .slt v29 c0_i32_17
  let v46 : BitVec 32 := Scalar.extui v45
  let v47 : BitVec 32 := Scalar.subi v44 v46
  let c512_i32_15 : BitVec 32 := 512#32
  let c0_i32_18 : BitVec 32 := 0#32
  let v48 : BitVec 1 := Scalar.cmpi .sgt c512_i32_15 c0_i32_18
  let v49 : BitVec 32 := Scalar.extui v48
  let c0_i32_19 : BitVec 32 := 0#32
  let v50 : BitVec 1 := Scalar.cmpi .slt c512_i32_15 c0_i32_19
  let v51 : BitVec 32 := Scalar.extui v50
  let v52 : BitVec 32 := Scalar.subi v49 v51
  let v53 : BitVec 1 := Scalar.cmpi .ne v47 v52
  let v54 : BitVec 32 := Scalar.remsi v29 c512_i32_15
  let c0_i32_20 : BitVec 32 := 0#32
  let v55 : BitVec 1 := Scalar.cmpi .ne v54 c0_i32_20
  let v56 : BitVec 1 := Scalar.andi v53 v55
  let v42 : BitVec 32 := Scalar.divsi v29 c512_i32_15
  let c1_i32 : BitVec 32 := 1#32
  let v57 : BitVec 32 := Scalar.subi v42 c1_i32
  let v58 : BitVec 32 := Scalar.select v56 v57 v42
  let c2_i32 : BitVec 32 := 2#32
  let v120 : BitVec 32 := Scalar.subi v58 c2_i32
  let v121 : BitVec 32 := Scalar.addi v120 c0_i32_52
  let c512_i32_55 : BitVec 32 := 512#32
  let v124 : BitVec 32 := Scalar.muli v121 c512_i32_55
  let v125 : BitVec 32 := v124
  let v126 : Index := Scalar.indexCast v125
  let c0_56 : Index := 0#32
  ![v126.toNat, 0]
def k0_mult14 (i : grid0.Coords) : BitVec 32 :=
  let arg2 : BitVec 32 := BitVec.ofNat 32 (i 2).val
  let c512_i32 : BitVec 32 := 512#32
  let v29 : BitVec 32 := Scalar.muli arg2 c512_i32
  let c0_i32_16 : BitVec 32 := 0#32
  let v43 : BitVec 1 := Scalar.cmpi .sgt v29 c0_i32_16
  let v44 : BitVec 32 := Scalar.extui v43
  let c0_i32_17 : BitVec 32 := 0#32
  let v45 : BitVec 1 := Scalar.cmpi .slt v29 c0_i32_17
  let v46 : BitVec 32 := Scalar.extui v45
  let v47 : BitVec 32 := Scalar.subi v44 v46
  let c512_i32_15 : BitVec 32 := 512#32
  let c0_i32_18 : BitVec 32 := 0#32
  let v48 : BitVec 1 := Scalar.cmpi .sgt c512_i32_15 c0_i32_18
  let v49 : BitVec 32 := Scalar.extui v48
  let c0_i32_19 : BitVec 32 := 0#32
  let v50 : BitVec 1 := Scalar.cmpi .slt c512_i32_15 c0_i32_19
  let v51 : BitVec 32 := Scalar.extui v50
  let v52 : BitVec 32 := Scalar.subi v49 v51
  let v53 : BitVec 1 := Scalar.cmpi .ne v47 v52
  let v54 : BitVec 32 := Scalar.remsi v29 c512_i32_15
  let c0_i32_20 : BitVec 32 := 0#32
  let v55 : BitVec 1 := Scalar.cmpi .ne v54 c0_i32_20
  let v56 : BitVec 1 := Scalar.andi v53 v55
  let v42 : BitVec 32 := Scalar.divsi v29 c512_i32_15
  let c1_i32 : BitVec 32 := 1#32
  let v57 : BitVec 32 := Scalar.subi v42 c1_i32
  let v58 : BitVec 32 := Scalar.select v56 v57 v42
  let c2_i32_53 : BitVec 32 := 2#32
  let v122 : BitVec 32 := Scalar.subi v58 c2_i32_53
  let c1_i32_54 : BitVec 32 := 1#32
  let v123 : BitVec 32 := Scalar.addi v122 c1_i32_54
  let c512_i32_59 : BitVec 32 := 512#32
  let v130 : BitVec 32 := Scalar.muli v123 c512_i32_59
  v130
def k0_mult15 (i : grid0.Coords) : BitVec 32 :=
  let arg2 : BitVec 32 := BitVec.ofNat 32 (i 2).val
  let c512_i32 : BitVec 32 := 512#32
  let v29 : BitVec 32 := Scalar.muli arg2 c512_i32
  let c0_i32_16 : BitVec 32 := 0#32
  let v43 : BitVec 1 := Scalar.cmpi .sgt v29 c0_i32_16
  let v44 : BitVec 32 := Scalar.extui v43
  let c0_i32_17 : BitVec 32 := 0#32
  let v45 : BitVec 1 := Scalar.cmpi .slt v29 c0_i32_17
  let v46 : BitVec 32 := Scalar.extui v45
  let v47 : BitVec 32 := Scalar.subi v44 v46
  let c512_i32_15 : BitVec 32 := 512#32
  let c0_i32_18 : BitVec 32 := 0#32
  let v48 : BitVec 1 := Scalar.cmpi .sgt c512_i32_15 c0_i32_18
  let v49 : BitVec 32 := Scalar.extui v48
  let c0_i32_19 : BitVec 32 := 0#32
  let v50 : BitVec 1 := Scalar.cmpi .slt c512_i32_15 c0_i32_19
  let v51 : BitVec 32 := Scalar.extui v50
  let v52 : BitVec 32 := Scalar.subi v49 v51
  let v53 : BitVec 1 := Scalar.cmpi .ne v47 v52
  let v54 : BitVec 32 := Scalar.remsi v29 c512_i32_15
  let c0_i32_20 : BitVec 32 := 0#32
  let v55 : BitVec 1 := Scalar.cmpi .ne v54 c0_i32_20
  let v56 : BitVec 1 := Scalar.andi v53 v55
  let v42 : BitVec 32 := Scalar.divsi v29 c512_i32_15
  let c1_i32 : BitVec 32 := 1#32
  let v57 : BitVec 32 := Scalar.subi v42 c1_i32
  let v58 : BitVec 32 := Scalar.select v56 v57 v42
  let c512_i32_63 : BitVec 32 := 512#32
  let v136 : BitVec 32 := Scalar.muli v58 c512_i32_63
  v136
def k0_off10 (i : grid0.Coords) : Fin 2 → Nat :=
  let arg2 : BitVec 32 := BitVec.ofNat 32 (i 2).val
  let c512_i32 : BitVec 32 := 512#32
  let v29 : BitVec 32 := Scalar.muli arg2 c512_i32
  let c0_i32_16 : BitVec 32 := 0#32
  let v43 : BitVec 1 := Scalar.cmpi .sgt v29 c0_i32_16
  let v44 : BitVec 32 := Scalar.extui v43
  let c0_i32_17 : BitVec 32 := 0#32
  let v45 : BitVec 1 := Scalar.cmpi .slt v29 c0_i32_17
  let v46 : BitVec 32 := Scalar.extui v45
  let v47 : BitVec 32 := Scalar.subi v44 v46
  let c512_i32_15 : BitVec 32 := 512#32
  let c0_i32_18 : BitVec 32 := 0#32
  let v48 : BitVec 1 := Scalar.cmpi .sgt c512_i32_15 c0_i32_18
  let v49 : BitVec 32 := Scalar.extui v48
  let c0_i32_19 : BitVec 32 := 0#32
  let v50 : BitVec 1 := Scalar.cmpi .slt c512_i32_15 c0_i32_19
  let v51 : BitVec 32 := Scalar.extui v50
  let v52 : BitVec 32 := Scalar.subi v49 v51
  let v53 : BitVec 1 := Scalar.cmpi .ne v47 v52
  let v54 : BitVec 32 := Scalar.remsi v29 c512_i32_15
  let c0_i32_20 : BitVec 32 := 0#32
  let v55 : BitVec 1 := Scalar.cmpi .ne v54 c0_i32_20
  let v56 : BitVec 1 := Scalar.andi v53 v55
  let v42 : BitVec 32 := Scalar.divsi v29 c512_i32_15
  let c1_i32 : BitVec 32 := 1#32
  let v57 : BitVec 32 := Scalar.subi v42 c1_i32
  let v58 : BitVec 32 := Scalar.select v56 v57 v42
  let c512_i32_63 : BitVec 32 := 512#32
  let v136 : BitVec 32 := Scalar.muli v58 c512_i32_63
  let v137 : BitVec 32 := v136
  let v138 : Index := Scalar.indexCast v137
  let c0_64 : Index := 0#32
  ![v138.toNat, 0]
def k0_off11 (i : grid0.Coords) (c0_i32_52 : BitVec 32) : Fin 2 → Nat :=
  let c0_67 : Index := 0#32
  let arg2 : BitVec 32 := BitVec.ofNat 32 (i 2).val
  let c512_i32 : BitVec 32 := 512#32
  let v29 : BitVec 32 := Scalar.muli arg2 c512_i32
  let c0_i32_16 : BitVec 32 := 0#32
  let v43 : BitVec 1 := Scalar.cmpi .sgt v29 c0_i32_16
  let v44 : BitVec 32 := Scalar.extui v43
  let c0_i32_17 : BitVec 32 := 0#32
  let v45 : BitVec 1 := Scalar.cmpi .slt v29 c0_i32_17
  let v46 : BitVec 32 := Scalar.extui v45
  let v47 : BitVec 32 := Scalar.subi v44 v46
  let c512_i32_15 : BitVec 32 := 512#32
  let c0_i32_18 : BitVec 32 := 0#32
  let v48 : BitVec 1 := Scalar.cmpi .sgt c512_i32_15 c0_i32_18
  let v49 : BitVec 32 := Scalar.extui v48
  let c0_i32_19 : BitVec 32 := 0#32
  let v50 : BitVec 1 := Scalar.cmpi .slt c512_i32_15 c0_i32_19
  let v51 : BitVec 32 := Scalar.extui v50
  let v52 : BitVec 32 := Scalar.subi v49 v51
  let v53 : BitVec 1 := Scalar.cmpi .ne v47 v52
  let v54 : BitVec 32 := Scalar.remsi v29 c512_i32_15
  let c0_i32_20 : BitVec 32 := 0#32
  let v55 : BitVec 1 := Scalar.cmpi .ne v54 c0_i32_20
  let v56 : BitVec 1 := Scalar.andi v53 v55
  let v42 : BitVec 32 := Scalar.divsi v29 c512_i32_15
  let c1_i32 : BitVec 32 := 1#32
  let v57 : BitVec 32 := Scalar.subi v42 c1_i32
  let v58 : BitVec 32 := Scalar.select v56 v57 v42
  let c2_i32 : BitVec 32 := 2#32
  let v120 : BitVec 32 := Scalar.subi v58 c2_i32
  let v121 : BitVec 32 := Scalar.addi v120 c0_i32_52
  let c512_i32_55 : BitVec 32 := 512#32
  let v124 : BitVec 32 := Scalar.muli v121 c512_i32_55
  let v125 : BitVec 32 := v124
  let v142 : Index := Scalar.indexCast v125
  ![0, v142.toNat]
def k0_off12 (i : grid0.Coords) : Fin 2 → Nat :=
  let c0_97 : Index := 0#32
  let arg2 : BitVec 32 := BitVec.ofNat 32 (i 2).val
  let c512_i32 : BitVec 32 := 512#32
  let v29 : BitVec 32 := Scalar.muli arg2 c512_i32
  let c0_i32_16 : BitVec 32 := 0#32
  let v43 : BitVec 1 := Scalar.cmpi .sgt v29 c0_i32_16
  let v44 : BitVec 32 := Scalar.extui v43
  let c0_i32_17 : BitVec 32 := 0#32
  let v45 : BitVec 1 := Scalar.cmpi .slt v29 c0_i32_17
  let v46 : BitVec 32 := Scalar.extui v45
  let v47 : BitVec 32 := Scalar.subi v44 v46
  let c512_i32_15 : BitVec 32 := 512#32
  let c0_i32_18 : BitVec 32 := 0#32
  let v48 : BitVec 1 := Scalar.cmpi .sgt c512_i32_15 c0_i32_18
  let v49 : BitVec 32 := Scalar.extui v48
  let c0_i32_19 : BitVec 32 := 0#32
  let v50 : BitVec 1 := Scalar.cmpi .slt c512_i32_15 c0_i32_19
  let v51 : BitVec 32 := Scalar.extui v50
  let v52 : BitVec 32 := Scalar.subi v49 v51
  let v53 : BitVec 1 := Scalar.cmpi .ne v47 v52
  let v54 : BitVec 32 := Scalar.remsi v29 c512_i32_15
  let c0_i32_20 : BitVec 32 := 0#32
  let v55 : BitVec 1 := Scalar.cmpi .ne v54 c0_i32_20
  let v56 : BitVec 1 := Scalar.andi v53 v55
  let v42 : BitVec 32 := Scalar.divsi v29 c512_i32_15
  let c1_i32 : BitVec 32 := 1#32
  let v57 : BitVec 32 := Scalar.subi v42 c1_i32
  let v58 : BitVec 32 := Scalar.select v56 v57 v42
  let c512_i32_63 : BitVec 32 := 512#32
  let v136 : BitVec 32 := Scalar.muli v58 c512_i32_63
  let v137 : BitVec 32 := v136
  let v234 : Index := Scalar.indexCast v137
  ![0, v234.toNat]
def k0_mult16 (i : grid0.Coords) : BitVec 32 :=
  let arg2 : BitVec 32 := BitVec.ofNat 32 (i 2).val
  let c512_i32 : BitVec 32 := 512#32
  let v29 : BitVec 32 := Scalar.muli arg2 c512_i32
  let c0_i32_16 : BitVec 32 := 0#32
  let v43 : BitVec 1 := Scalar.cmpi .sgt v29 c0_i32_16
  let v44 : BitVec 32 := Scalar.extui v43
  let c0_i32_17 : BitVec 32 := 0#32
  let v45 : BitVec 1 := Scalar.cmpi .slt v29 c0_i32_17
  let v46 : BitVec 32 := Scalar.extui v45
  let v47 : BitVec 32 := Scalar.subi v44 v46
  let c512_i32_15 : BitVec 32 := 512#32
  let c0_i32_18 : BitVec 32 := 0#32
  let v48 : BitVec 1 := Scalar.cmpi .sgt c512_i32_15 c0_i32_18
  let v49 : BitVec 32 := Scalar.extui v48
  let c0_i32_19 : BitVec 32 := 0#32
  let v50 : BitVec 1 := Scalar.cmpi .slt c512_i32_15 c0_i32_19
  let v51 : BitVec 32 := Scalar.extui v50
  let v52 : BitVec 32 := Scalar.subi v49 v51
  let v53 : BitVec 1 := Scalar.cmpi .ne v47 v52
  let v54 : BitVec 32 := Scalar.remsi v29 c512_i32_15
  let c0_i32_20 : BitVec 32 := 0#32
  let v55 : BitVec 1 := Scalar.cmpi .ne v54 c0_i32_20
  let v56 : BitVec 1 := Scalar.andi v53 v55
  let v42 : BitVec 32 := Scalar.divsi v29 c512_i32_15
  let c1_i32 : BitVec 32 := 1#32
  let v57 : BitVec 32 := Scalar.subi v42 c1_i32
  let v58 : BitVec 32 := Scalar.select v56 v57 v42
  let c1_i32_50 : BitVec 32 := 1#32
  let v117 : BitVec 32 := Scalar.subi v58 c1_i32_50
  let c0_i32_51 : BitVec 32 := 0#32
  let v118 : BitVec 32 := Scalar.addi v117 c0_i32_51
  let c512_i32_52 : BitVec 32 := 512#32
  let v119 : BitVec 32 := Scalar.muli v118 c512_i32_52
  v119
def k0_off13 (i : grid0.Coords) : Fin 2 → Nat :=
  let arg2 : BitVec 32 := BitVec.ofNat 32 (i 2).val
  let c512_i32 : BitVec 32 := 512#32
  let v29 : BitVec 32 := Scalar.muli arg2 c512_i32
  let c0_i32_16 : BitVec 32 := 0#32
  let v43 : BitVec 1 := Scalar.cmpi .sgt v29 c0_i32_16
  let v44 : BitVec 32 := Scalar.extui v43
  let c0_i32_17 : BitVec 32 := 0#32
  let v45 : BitVec 1 := Scalar.cmpi .slt v29 c0_i32_17
  let v46 : BitVec 32 := Scalar.extui v45
  let v47 : BitVec 32 := Scalar.subi v44 v46
  let c512_i32_15 : BitVec 32 := 512#32
  let c0_i32_18 : BitVec 32 := 0#32
  let v48 : BitVec 1 := Scalar.cmpi .sgt c512_i32_15 c0_i32_18
  let v49 : BitVec 32 := Scalar.extui v48
  let c0_i32_19 : BitVec 32 := 0#32
  let v50 : BitVec 1 := Scalar.cmpi .slt c512_i32_15 c0_i32_19
  let v51 : BitVec 32 := Scalar.extui v50
  let v52 : BitVec 32 := Scalar.subi v49 v51
  let v53 : BitVec 1 := Scalar.cmpi .ne v47 v52
  let v54 : BitVec 32 := Scalar.remsi v29 c512_i32_15
  let c0_i32_20 : BitVec 32 := 0#32
  let v55 : BitVec 1 := Scalar.cmpi .ne v54 c0_i32_20
  let v56 : BitVec 1 := Scalar.andi v53 v55
  let v42 : BitVec 32 := Scalar.divsi v29 c512_i32_15
  let c1_i32 : BitVec 32 := 1#32
  let v57 : BitVec 32 := Scalar.subi v42 c1_i32
  let v58 : BitVec 32 := Scalar.select v56 v57 v42
  let c1_i32_50 : BitVec 32 := 1#32
  let v117 : BitVec 32 := Scalar.subi v58 c1_i32_50
  let c0_i32_51 : BitVec 32 := 0#32
  let v118 : BitVec 32 := Scalar.addi v117 c0_i32_51
  let c512_i32_52 : BitVec 32 := 512#32
  let v119 : BitVec 32 := Scalar.muli v118 c512_i32_52
  let v120 : BitVec 32 := v119
  let v121 : Index := Scalar.indexCast v120
  let c0_53 : Index := 0#32
  ![v121.toNat, 0]
def k0_mult17 (i : grid0.Coords) : BitVec 32 :=
  let arg2 : BitVec 32 := BitVec.ofNat 32 (i 2).val
  let c512_i32 : BitVec 32 := 512#32
  let v29 : BitVec 32 := Scalar.muli arg2 c512_i32
  let c0_i32_16 : BitVec 32 := 0#32
  let v43 : BitVec 1 := Scalar.cmpi .sgt v29 c0_i32_16
  let v44 : BitVec 32 := Scalar.extui v43
  let c0_i32_17 : BitVec 32 := 0#32
  let v45 : BitVec 1 := Scalar.cmpi .slt v29 c0_i32_17
  let v46 : BitVec 32 := Scalar.extui v45
  let v47 : BitVec 32 := Scalar.subi v44 v46
  let c512_i32_15 : BitVec 32 := 512#32
  let c0_i32_18 : BitVec 32 := 0#32
  let v48 : BitVec 1 := Scalar.cmpi .sgt c512_i32_15 c0_i32_18
  let v49 : BitVec 32 := Scalar.extui v48
  let c0_i32_19 : BitVec 32 := 0#32
  let v50 : BitVec 1 := Scalar.cmpi .slt c512_i32_15 c0_i32_19
  let v51 : BitVec 32 := Scalar.extui v50
  let v52 : BitVec 32 := Scalar.subi v49 v51
  let v53 : BitVec 1 := Scalar.cmpi .ne v47 v52
  let v54 : BitVec 32 := Scalar.remsi v29 c512_i32_15
  let c0_i32_20 : BitVec 32 := 0#32
  let v55 : BitVec 1 := Scalar.cmpi .ne v54 c0_i32_20
  let v56 : BitVec 1 := Scalar.andi v53 v55
  let v42 : BitVec 32 := Scalar.divsi v29 c512_i32_15
  let c1_i32 : BitVec 32 := 1#32
  let v57 : BitVec 32 := Scalar.subi v42 c1_i32
  let v58 : BitVec 32 := Scalar.select v56 v57 v42
  let c512_i32_56 : BitVec 32 := 512#32
  let v125 : BitVec 32 := Scalar.muli v58 c512_i32_56
  v125
def k0_off14 (i : grid0.Coords) : Fin 2 → Nat :=
  let arg2 : BitVec 32 := BitVec.ofNat 32 (i 2).val
  let c512_i32 : BitVec 32 := 512#32
  let v29 : BitVec 32 := Scalar.muli arg2 c512_i32
  let c0_i32_16 : BitVec 32 := 0#32
  let v43 : BitVec 1 := Scalar.cmpi .sgt v29 c0_i32_16
  let v44 : BitVec 32 := Scalar.extui v43
  let c0_i32_17 : BitVec 32 := 0#32
  let v45 : BitVec 1 := Scalar.cmpi .slt v29 c0_i32_17
  let v46 : BitVec 32 := Scalar.extui v45
  let v47 : BitVec 32 := Scalar.subi v44 v46
  let c512_i32_15 : BitVec 32 := 512#32
  let c0_i32_18 : BitVec 32 := 0#32
  let v48 : BitVec 1 := Scalar.cmpi .sgt c512_i32_15 c0_i32_18
  let v49 : BitVec 32 := Scalar.extui v48
  let c0_i32_19 : BitVec 32 := 0#32
  let v50 : BitVec 1 := Scalar.cmpi .slt c512_i32_15 c0_i32_19
  let v51 : BitVec 32 := Scalar.extui v50
  let v52 : BitVec 32 := Scalar.subi v49 v51
  let v53 : BitVec 1 := Scalar.cmpi .ne v47 v52
  let v54 : BitVec 32 := Scalar.remsi v29 c512_i32_15
  let c0_i32_20 : BitVec 32 := 0#32
  let v55 : BitVec 1 := Scalar.cmpi .ne v54 c0_i32_20
  let v56 : BitVec 1 := Scalar.andi v53 v55
  let v42 : BitVec 32 := Scalar.divsi v29 c512_i32_15
  let c1_i32 : BitVec 32 := 1#32
  let v57 : BitVec 32 := Scalar.subi v42 c1_i32
  let v58 : BitVec 32 := Scalar.select v56 v57 v42
  let c512_i32_56 : BitVec 32 := 512#32
  let v125 : BitVec 32 := Scalar.muli v58 c512_i32_56
  let v126 : BitVec 32 := v125
  let v127 : Index := Scalar.indexCast v126
  let c0_57 : Index := 0#32
  ![v127.toNat, 0]
def k0_off15 (i : grid0.Coords) : Fin 2 → Nat :=
  let c0_60 : Index := 0#32
  let arg2 : BitVec 32 := BitVec.ofNat 32 (i 2).val
  let c512_i32 : BitVec 32 := 512#32
  let v29 : BitVec 32 := Scalar.muli arg2 c512_i32
  let c0_i32_16 : BitVec 32 := 0#32
  let v43 : BitVec 1 := Scalar.cmpi .sgt v29 c0_i32_16
  let v44 : BitVec 32 := Scalar.extui v43
  let c0_i32_17 : BitVec 32 := 0#32
  let v45 : BitVec 1 := Scalar.cmpi .slt v29 c0_i32_17
  let v46 : BitVec 32 := Scalar.extui v45
  let v47 : BitVec 32 := Scalar.subi v44 v46
  let c512_i32_15 : BitVec 32 := 512#32
  let c0_i32_18 : BitVec 32 := 0#32
  let v48 : BitVec 1 := Scalar.cmpi .sgt c512_i32_15 c0_i32_18
  let v49 : BitVec 32 := Scalar.extui v48
  let c0_i32_19 : BitVec 32 := 0#32
  let v50 : BitVec 1 := Scalar.cmpi .slt c512_i32_15 c0_i32_19
  let v51 : BitVec 32 := Scalar.extui v50
  let v52 : BitVec 32 := Scalar.subi v49 v51
  let v53 : BitVec 1 := Scalar.cmpi .ne v47 v52
  let v54 : BitVec 32 := Scalar.remsi v29 c512_i32_15
  let c0_i32_20 : BitVec 32 := 0#32
  let v55 : BitVec 1 := Scalar.cmpi .ne v54 c0_i32_20
  let v56 : BitVec 1 := Scalar.andi v53 v55
  let v42 : BitVec 32 := Scalar.divsi v29 c512_i32_15
  let c1_i32 : BitVec 32 := 1#32
  let v57 : BitVec 32 := Scalar.subi v42 c1_i32
  let v58 : BitVec 32 := Scalar.select v56 v57 v42
  let c1_i32_50 : BitVec 32 := 1#32
  let v117 : BitVec 32 := Scalar.subi v58 c1_i32_50
  let c0_i32_51 : BitVec 32 := 0#32
  let v118 : BitVec 32 := Scalar.addi v117 c0_i32_51
  let c512_i32_52 : BitVec 32 := 512#32
  let v119 : BitVec 32 := Scalar.muli v118 c512_i32_52
  let v120 : BitVec 32 := v119
  let v131 : Index := Scalar.indexCast v120
  ![0, v131.toNat]
def k0_off16 (i : grid0.Coords) : Fin 2 → Nat :=
  let c0_75 : Index := 0#32
  let arg2 : BitVec 32 := BitVec.ofNat 32 (i 2).val
  let c512_i32 : BitVec 32 := 512#32
  let v29 : BitVec 32 := Scalar.muli arg2 c512_i32
  let c0_i32_16 : BitVec 32 := 0#32
  let v43 : BitVec 1 := Scalar.cmpi .sgt v29 c0_i32_16
  let v44 : BitVec 32 := Scalar.extui v43
  let c0_i32_17 : BitVec 32 := 0#32
  let v45 : BitVec 1 := Scalar.cmpi .slt v29 c0_i32_17
  let v46 : BitVec 32 := Scalar.extui v45
  let v47 : BitVec 32 := Scalar.subi v44 v46
  let c512_i32_15 : BitVec 32 := 512#32
  let c0_i32_18 : BitVec 32 := 0#32
  let v48 : BitVec 1 := Scalar.cmpi .sgt c512_i32_15 c0_i32_18
  let v49 : BitVec 32 := Scalar.extui v48
  let c0_i32_19 : BitVec 32 := 0#32
  let v50 : BitVec 1 := Scalar.cmpi .slt c512_i32_15 c0_i32_19
  let v51 : BitVec 32 := Scalar.extui v50
  let v52 : BitVec 32 := Scalar.subi v49 v51
  let v53 : BitVec 1 := Scalar.cmpi .ne v47 v52
  let v54 : BitVec 32 := Scalar.remsi v29 c512_i32_15
  let c0_i32_20 : BitVec 32 := 0#32
  let v55 : BitVec 1 := Scalar.cmpi .ne v54 c0_i32_20
  let v56 : BitVec 1 := Scalar.andi v53 v55
  let v42 : BitVec 32 := Scalar.divsi v29 c512_i32_15
  let c1_i32 : BitVec 32 := 1#32
  let v57 : BitVec 32 := Scalar.subi v42 c1_i32
  let v58 : BitVec 32 := Scalar.select v56 v57 v42
  let c512_i32_56 : BitVec 32 := 512#32
  let v125 : BitVec 32 := Scalar.muli v58 c512_i32_56
  let v126 : BitVec 32 := v125
  let v177 : Index := Scalar.indexCast v126
  ![0, v177.toNat]
def k0_mult18 (i : grid0.Coords) : BitVec 32 :=
  let arg2 : BitVec 32 := BitVec.ofNat 32 (i 2).val
  let c512_i32 : BitVec 32 := 512#32
  let v29 : BitVec 32 := Scalar.muli arg2 c512_i32
  let c0_i32_16 : BitVec 32 := 0#32
  let v43 : BitVec 1 := Scalar.cmpi .sgt v29 c0_i32_16
  let v44 : BitVec 32 := Scalar.extui v43
  let c0_i32_17 : BitVec 32 := 0#32
  let v45 : BitVec 1 := Scalar.cmpi .slt v29 c0_i32_17
  let v46 : BitVec 32 := Scalar.extui v45
  let v47 : BitVec 32 := Scalar.subi v44 v46
  let c512_i32_15 : BitVec 32 := 512#32
  let c0_i32_18 : BitVec 32 := 0#32
  let v48 : BitVec 1 := Scalar.cmpi .sgt c512_i32_15 c0_i32_18
  let v49 : BitVec 32 := Scalar.extui v48
  let c0_i32_19 : BitVec 32 := 0#32
  let v50 : BitVec 1 := Scalar.cmpi .slt c512_i32_15 c0_i32_19
  let v51 : BitVec 32 := Scalar.extui v50
  let v52 : BitVec 32 := Scalar.subi v49 v51
  let v53 : BitVec 1 := Scalar.cmpi .ne v47 v52
  let v54 : BitVec 32 := Scalar.remsi v29 c512_i32_15
  let c0_i32_20 : BitVec 32 := 0#32
  let v55 : BitVec 1 := Scalar.cmpi .ne v54 c0_i32_20
  let v56 : BitVec 1 := Scalar.andi v53 v55
  let v42 : BitVec 32 := Scalar.divsi v29 c512_i32_15
  let c1_i32 : BitVec 32 := 1#32
  let v57 : BitVec 32 := Scalar.subi v42 c1_i32
  let v58 : BitVec 32 := Scalar.select v56 v57 v42
  let c512_i32_48 : BitVec 32 := 512#32
  let v114 : BitVec 32 := Scalar.muli v58 c512_i32_48
  v114
def k0_off17 (i : grid0.Coords) : Fin 2 → Nat :=
  let arg2 : BitVec 32 := BitVec.ofNat 32 (i 2).val
  let c512_i32 : BitVec 32 := 512#32
  let v29 : BitVec 32 := Scalar.muli arg2 c512_i32
  let c0_i32_16 : BitVec 32 := 0#32
  let v43 : BitVec 1 := Scalar.cmpi .sgt v29 c0_i32_16
  let v44 : BitVec 32 := Scalar.extui v43
  let c0_i32_17 : BitVec 32 := 0#32
  let v45 : BitVec 1 := Scalar.cmpi .slt v29 c0_i32_17
  let v46 : BitVec 32 := Scalar.extui v45
  let v47 : BitVec 32 := Scalar.subi v44 v46
  let c512_i32_15 : BitVec 32 := 512#32
  let c0_i32_18 : BitVec 32 := 0#32
  let v48 : BitVec 1 := Scalar.cmpi .sgt c512_i32_15 c0_i32_18
  let v49 : BitVec 32 := Scalar.extui v48
  let c0_i32_19 : BitVec 32 := 0#32
  let v50 : BitVec 1 := Scalar.cmpi .slt c512_i32_15 c0_i32_19
  let v51 : BitVec 32 := Scalar.extui v50
  let v52 : BitVec 32 := Scalar.subi v49 v51
  let v53 : BitVec 1 := Scalar.cmpi .ne v47 v52
  let v54 : BitVec 32 := Scalar.remsi v29 c512_i32_15
  let c0_i32_20 : BitVec 32 := 0#32
  let v55 : BitVec 1 := Scalar.cmpi .ne v54 c0_i32_20
  let v56 : BitVec 1 := Scalar.andi v53 v55
  let v42 : BitVec 32 := Scalar.divsi v29 c512_i32_15
  let c1_i32 : BitVec 32 := 1#32
  let v57 : BitVec 32 := Scalar.subi v42 c1_i32
  let v58 : BitVec 32 := Scalar.select v56 v57 v42
  let c512_i32_48 : BitVec 32 := 512#32
  let v114 : BitVec 32 := Scalar.muli v58 c512_i32_48
  let v115 : BitVec 32 := v114
  let v116 : Index := Scalar.indexCast v115
  let c0_49 : Index := 0#32
  ![v116.toNat, 0]
def k0_off18 (i : grid0.Coords) : Fin 2 → Nat :=
  let c0_52 : Index := 0#32
  let arg2 : BitVec 32 := BitVec.ofNat 32 (i 2).val
  let c512_i32 : BitVec 32 := 512#32
  let v29 : BitVec 32 := Scalar.muli arg2 c512_i32
  let c0_i32_16 : BitVec 32 := 0#32
  let v43 : BitVec 1 := Scalar.cmpi .sgt v29 c0_i32_16
  let v44 : BitVec 32 := Scalar.extui v43
  let c0_i32_17 : BitVec 32 := 0#32
  let v45 : BitVec 1 := Scalar.cmpi .slt v29 c0_i32_17
  let v46 : BitVec 32 := Scalar.extui v45
  let v47 : BitVec 32 := Scalar.subi v44 v46
  let c512_i32_15 : BitVec 32 := 512#32
  let c0_i32_18 : BitVec 32 := 0#32
  let v48 : BitVec 1 := Scalar.cmpi .sgt c512_i32_15 c0_i32_18
  let v49 : BitVec 32 := Scalar.extui v48
  let c0_i32_19 : BitVec 32 := 0#32
  let v50 : BitVec 1 := Scalar.cmpi .slt c512_i32_15 c0_i32_19
  let v51 : BitVec 32 := Scalar.extui v50
  let v52 : BitVec 32 := Scalar.subi v49 v51
  let v53 : BitVec 1 := Scalar.cmpi .ne v47 v52
  let v54 : BitVec 32 := Scalar.remsi v29 c512_i32_15
  let c0_i32_20 : BitVec 32 := 0#32
  let v55 : BitVec 1 := Scalar.cmpi .ne v54 c0_i32_20
  let v56 : BitVec 1 := Scalar.andi v53 v55
  let v42 : BitVec 32 := Scalar.divsi v29 c512_i32_15
  let c1_i32 : BitVec 32 := 1#32
  let v57 : BitVec 32 := Scalar.subi v42 c1_i32
  let v58 : BitVec 32 := Scalar.select v56 v57 v42
  let c512_i32_48 : BitVec 32 := 512#32
  let v114 : BitVec 32 := Scalar.muli v58 c512_i32_48
  let v115 : BitVec 32 := v114
  let v120 : Index := Scalar.indexCast v115
  ![0, v120.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S65536x1024 : Shape := ⟨2, ![65536, 1024]⟩
abbrev S512x65536 : Shape := ⟨2, ![512, 65536]⟩
abbrev S16x4096x4x256 : Shape := ⟨4, ![16, 4096, 4, 256]⟩
abbrev S16x4096x4x128 : Shape := ⟨4, ![16, 4096, 4, 128]⟩
abbrev S16x4096x8x64 : Shape := ⟨4, ![16, 4096, 8, 64]⟩
abbrev S16x4096x4x12 : Shape := ⟨4, ![16, 4096, 4, 12]⟩
abbrev S16x4096x8x6 : Shape := ⟨4, ![16, 4096, 8, 6]⟩
abbrev S16x8x4096x64 : Shape := ⟨4, ![16, 8, 4096, 64]⟩
abbrev S16x8x4096x6 : Shape := ⟨4, ![16, 8, 4096, 6]⟩
abbrev S8x64x16x4096 : Shape := ⟨4, ![8, 64, 16, 4096]⟩
abbrev S16x8x4096x4096 : Shape := ⟨4, ![16, 8, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S16x8x4096 : Shape := ⟨3, ![16, 8, 4096]⟩
abbrev S16x8x4096x1 : Shape := ⟨4, ![16, 8, 4096, 1]⟩
abbrev S65536x512 : Shape := ⟨2, ![65536, 512]⟩

abbrev nBuf : Space → Nat
  | .hbm => 54
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .bf16⟩
  | .hbm, ⟨2, _⟩ => ⟨S512x65536, .bf16⟩
  | .hbm, ⟨3, _⟩ => ⟨S65536x1024, .f32⟩
  | .hbm, ⟨4, _⟩ => ⟨S16x4096x4x256, .f32⟩
  | .hbm, ⟨5, _⟩ => ⟨S16x4096x4x128, .f32⟩
  | .hbm, ⟨6, _⟩ => ⟨S16x4096x8x64, .f32⟩
  | .hbm, ⟨7, _⟩ => ⟨S16x4096x4x12, .f32⟩
  | .hbm, ⟨8, _⟩ => ⟨S16x4096x8x6, .f32⟩
  | .hbm, ⟨9, _⟩ => ⟨S16x8x4096x64, .f32⟩
  | .hbm, ⟨10, _⟩ => ⟨S16x8x4096x6, .f32⟩
  | .hbm, ⟨11, _⟩ => ⟨S65536x1024, .f32⟩
  | .hbm, ⟨12, _⟩ => ⟨S16x4096x4x256, .f32⟩
  | .hbm, ⟨13, _⟩ => ⟨S16x4096x4x128, .f32⟩
  | .hbm, ⟨14, _⟩ => ⟨S16x4096x8x64, .f32⟩
  | .hbm, ⟨15, _⟩ => ⟨S16x4096x4x12, .f32⟩
  | .hbm, ⟨16, _⟩ => ⟨S16x4096x8x6, .f32⟩
  | .hbm, ⟨17, _⟩ => ⟨S16x8x4096x64, .f32⟩
  | .hbm, ⟨18, _⟩ => ⟨S16x8x4096x6, .f32⟩
  | .hbm, ⟨19, _⟩ => ⟨S512x65536, .f32⟩
  | .hbm, ⟨20, _⟩ => ⟨S8x64x16x4096, .f32⟩
  | .hbm, ⟨21, _⟩ => ⟨S16x8x4096x64, .f32⟩
  | .hbm, ⟨22, _⟩ => ⟨S16x8x4096x4096, .f32⟩
  | .hbm, ⟨23, _⟩ => ⟨S16x8x4096x4096, .f32⟩
  | .hbm, ⟨24, _⟩ => ⟨S16x8x4096x4096, .f32⟩
  | .hbm, ⟨25, _⟩ => ⟨S4096, .i32⟩
  | .hbm, ⟨26, _⟩ => ⟨S4096x1, .i32⟩
  | .hbm, ⟨27, _⟩ => ⟨S4096, .i32⟩
  | .hbm, ⟨28, _⟩ => ⟨S1x4096, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S_, .f32⟩
  | .hbm, ⟨33, _⟩ => ⟨S_, .f32⟩
  | .hbm, ⟨34, _⟩ => ⟨S16x8x4096x4096, .i1⟩
  | .hbm, ⟨35, _⟩ => ⟨S16x8x4096x4096, .f32⟩
  | .hbm, ⟨36, _⟩ => ⟨S16x8x4096x4096, .f32⟩
  | .hbm, ⟨37, _⟩ => ⟨S_, .f32⟩
  | .hbm, ⟨38, _⟩ => ⟨S16x8x4096, .f32⟩
  | .hbm, ⟨39, _⟩ => ⟨S16x8x4096x1, .f32⟩
  | .hbm, ⟨40, _⟩ => ⟨S16x8x4096x4096, .f32⟩
  | .hbm, ⟨41, _⟩ => ⟨S16x8x4096x4096, .f32⟩
  | .hbm, ⟨42, _⟩ => ⟨S_, .f32⟩
  | .hbm, ⟨43, _⟩ => ⟨S16x8x4096x4096, .f32⟩
  | .hbm, ⟨44, _⟩ => ⟨S16x8x4096x4096, .f32⟩
  | .hbm, ⟨45, _⟩ => ⟨S_, .f32⟩
  | .hbm, ⟨46, _⟩ => ⟨S16x8x4096, .f32⟩
  | .hbm, ⟨47, _⟩ => ⟨S16x8x4096x1, .f32⟩
  | .hbm, ⟨48, _⟩ => ⟨S16x8x4096x4096, .f32⟩
  | .hbm, ⟨49, _⟩ => ⟨S16x8x4096x4096, .f32⟩
  | .hbm, ⟨50, _⟩ => ⟨S16x8x4096x64, .f32⟩
  | .hbm, ⟨51, _⟩ => ⟨S16x4096x8x64, .f32⟩
  | .hbm, ⟨52, _⟩ => ⟨S65536x512, .f32⟩
  | .hbm, ⟨53, _⟩ => ⟨S65536x512, .bf16⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v29 : Ref sig .tc := ⟨.hbm, 36, rfl⟩
abbrev main_cst_0 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_1 : Ref sig .tc := ⟨.hbm, 42, rfl⟩
abbrev main_v34 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩

abbrev nD : Nat := 1
abbrev τ : Topo := Topo.v7x

variable {F : FTy → Type} [FloatOps F]
-- ==== Kernel2.lean ====
abbrev S65536x1024 : Shape := ⟨2, ![65536, 1024]⟩
abbrev S65536x512 : Shape := ⟨2, ![65536, 512]⟩
abbrev S3x1024x1024 : Shape := ⟨3, ![3, 1024, 1024]⟩
abbrev S3x1024 : Shape := ⟨2, ![3, 1024]⟩
abbrev S3x512x1024 : Shape := ⟨3, ![3, 512, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S32x1024 : Shape := ⟨2, ![32, 1024]⟩
abbrev S1x32x1024 : Shape := ⟨3, ![1, 32, 1024]⟩
abbrev S2x32x1024 : Shape := ⟨3, ![2, 32, 1024]⟩
abbrev S3x1x1024 : Shape := ⟨3, ![3, 1, 1024]⟩
abbrev S1x1024 : Shape := ⟨2, ![1, 1024]⟩
abbrev S32x1 : Shape := ⟨2, ![32, 1]⟩
abbrev S_ : Shape := ⟨0, ![]⟩
abbrev S512x512 : Shape := ⟨2, ![512, 512]⟩
abbrev S4x65536x256 : Shape := ⟨3, ![4, 65536, 256]⟩
abbrev S8x65536 : Shape := ⟨2, ![8, 65536]⟩
abbrev S512x1024 : Shape := ⟨2, ![512, 1024]⟩
abbrev S4x512x256 : Shape := ⟨3, ![4, 512, 256]⟩
abbrev S8x512 : Shape := ⟨2, ![8, 512]⟩
abbrev S1x1024x1024 : Shape := ⟨3, ![1, 1024, 1024]⟩
abbrev S1x1x1024 : Shape := ⟨3, ![1, 1, 1024]⟩
abbrev S1x512x1024 : Shape := ⟨3, ![1, 512, 1024]⟩
abbrev S512 : Shape := ⟨1, ![512]⟩
abbrev S512x1 : Shape := ⟨2, ![512, 1]⟩
abbrev S512x256 : Shape := ⟨2, ![512, 256]⟩
abbrev S1x512x256 : Shape := ⟨3, ![1, 512, 256]⟩
abbrev S32x512 : Shape := ⟨2, ![32, 512]⟩
abbrev S1x512 : Shape := ⟨2, ![1, 512]⟩

abbrev nBuf : Space → Nat
  | .hbm => 42
  | .vmem => 23
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S65536x512, .bf16⟩
  | .hbm, ⟨4, _⟩ => ⟨S3x1024x1024, .f32⟩
  | .hbm, ⟨5, _⟩ => ⟨S3x1024, .f32⟩
  | .hbm, ⟨6, _⟩ => ⟨S3x512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x32, .f32⟩
  | .hbm, ⟨11, _⟩ => ⟨S32, .f32⟩
  | .hbm, ⟨12, _⟩ => ⟨S32x1024, .f32⟩
  | .hbm, ⟨13, _⟩ => ⟨S32x1024, .bf16⟩
  | .hbm, ⟨14, _⟩ => ⟨S32x1024, .f32⟩
  | .hbm, ⟨15, _⟩ => ⟨S32x1024, .f32⟩
  | .hbm, ⟨16, _⟩ => ⟨S32x1024, .bf16⟩
  | .hbm, ⟨17, _⟩ => ⟨S1x32x1024, .bf16⟩
  | .hbm, ⟨18, _⟩ => ⟨S1x32x1024, .bf16⟩
  | .hbm, ⟨19, _⟩ => ⟨S2x32x1024, .bf16⟩
  | .hbm, ⟨20, _⟩ => ⟨S3x1024x1024, .bf16⟩
  | .hbm, ⟨21, _⟩ => ⟨S3x1x1024, .f32⟩
  | .hbm, ⟨22, _⟩ => ⟨S3x512x1024, .bf16⟩
  | .hbm, ⟨23, _⟩ => ⟨S1024x1024, .bf16⟩
  | .hbm, ⟨24, _⟩ => ⟨S1x1024, .f32⟩
  | .hbm, ⟨25, _⟩ => ⟨S1x1024, .f32⟩
  | .hbm, ⟨26, _⟩ => ⟨S32x1, .f32⟩
  | .hbm, ⟨27, _⟩ => ⟨S_, .f32⟩
  | .hbm, ⟨28, _⟩ => ⟨S512x512, .f32⟩
  | .hbm, ⟨29, _⟩ => ⟨S512x512, .i32⟩
  | .hbm, ⟨30, _⟩ => ⟨S_, .i32⟩
  | .hbm, ⟨31, _⟩ => ⟨S512x512, .i32⟩
  | .hbm, ⟨32, _⟩ => ⟨S512x512, .i32⟩
  | .hbm, ⟨33, _⟩ => ⟨S512x512, .i32⟩
  | .hbm, ⟨34, _⟩ => ⟨S512x512, .i1⟩
  | .hbm, ⟨35, _⟩ => ⟨S_, .f32⟩
  | .hbm, ⟨36, _⟩ => ⟨S512x512, .f32⟩
  | .hbm, ⟨37, _⟩ => ⟨S512x512, .f32⟩
  | .hbm, ⟨38, _⟩ => ⟨S512x512, .bf16⟩
  | .hbm, ⟨39, _⟩ => ⟨S4x65536x256, .f32⟩
  | .hbm, ⟨40, _⟩ => ⟨S8x65536, .f32⟩
  | .hbm, ⟨41, _⟩ => ⟨S32x1, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S3x1024x1024, .bf16⟩
  | .local _ .vmem, ⟨9, _⟩ => ⟨S3x1x1024, .f32⟩
  | .local _ .vmem, ⟨10, _⟩ => ⟨S3x512x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S2x32x1024, .bf16⟩
  | .local _ .vmem, ⟨15, _⟩ => ⟨S32x1, .f32⟩
  | .local _ .vmem, ⟨16, _⟩ => ⟨S512x512, .bf16⟩
  | .local _ .vmem, ⟨17, _⟩ => ⟨S4x512x256, .f32⟩
  | .local _ .vmem, ⟨18, _⟩ => ⟨S4x512x256, .f32⟩
  | .local _ .vmem, ⟨19, _⟩ => ⟨S8x512, .f32⟩
  | .local _ .vmem, ⟨20, _⟩ => ⟨S8x512, .f32⟩
  | .local _ .vmem, ⟨21, _⟩ => ⟨S32x1, .f32⟩
  | .local _ .vmem, ⟨22, _⟩ => ⟨S32x1, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_cst : Ref sig .tc := ⟨.hbm, 35, rfl⟩
abbrev main_call0_v5 : Ref sig .tc := ⟨.hbm, 36, rfl⟩
abbrev main_v16 : Ref sig .tc := ⟨.hbm, 37, rfl⟩
abbrev main_v17 : Ref sig .tc := ⟨.hbm, 38, rfl⟩
abbrev main_v18_0 : Ref sig .tc := ⟨.hbm, 39, rfl⟩
abbrev main_v18_1 : Ref sig .tc := ⟨.hbm, 40, rfl⟩
abbrev main_v18_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x32x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4x512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S32x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference2Ideal.lean ====
abbrev S65536x1024 : Shape := ⟨2, ![65536, 1024]⟩
abbrev S65536x512 : Shape := ⟨2, ![65536, 512]⟩
abbrev S3x1024x1024 : Shape := ⟨3, ![3, 1024, 1024]⟩
abbrev S3x1024 : Shape := ⟨2, ![3, 1024]⟩
abbrev S3x512x1024 : Shape := ⟨3, ![3, 512, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S1x1024x1024 : Shape := ⟨3, ![1, 1024, 1024]⟩
abbrev S1x1024 : Shape := ⟨2, ![1, 1024]⟩
abbrev S_ : Shape := ⟨0, ![]⟩
abbrev S1x512x1024 : Shape := ⟨3, ![1, 512, 1024]⟩
abbrev S512x1024 : Shape := ⟨2, ![512, 1024]⟩
abbrev S65536 : Shape := ⟨1, ![65536]⟩
abbrev S65536x1 : Shape := ⟨2, ![65536, 1]⟩
abbrev S65536x4x256 : Shape := ⟨3, ![65536, 4, 256]⟩
abbrev S4x65536x256 : Shape := ⟨3, ![4, 65536, 256]⟩

abbrev nBuf : Space → Nat
  | .hbm => 111
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S65536x512, .bf16⟩
  | .hbm, ⟨4, _⟩ => ⟨S3x1024x1024, .f32⟩
  | .hbm, ⟨5, _⟩ => ⟨S3x1024, .f32⟩
  | .hbm, ⟨6, _⟩ => ⟨S3x512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x32, .f32⟩
  | .hbm, ⟨11, _⟩ => ⟨S32, .f32⟩
  | .hbm, ⟨12, _⟩ => ⟨S1x1024x1024, .f32⟩
  | .hbm, ⟨13, _⟩ => ⟨S1024x1024, .f32⟩
  | .hbm, ⟨14, _⟩ => ⟨S65536x1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S65536x1024, .f32⟩
  | .hbm, ⟨22, _⟩ => ⟨S_, .f32⟩
  | .hbm, ⟨23, _⟩ => ⟨S65536x1024, .f32⟩
  | .hbm, ⟨24, _⟩ => ⟨S65536x1024, .f32⟩
  | .hbm, ⟨25, _⟩ => ⟨S_, .f32⟩
  | .hbm, ⟨26, _⟩ => ⟨S65536x1024, .f32⟩
  | .hbm, ⟨27, _⟩ => ⟨S65536x1024, .f32⟩
  | .hbm, ⟨28, _⟩ => ⟨S65536x512, .f32⟩
  | .hbm, ⟨29, _⟩ => ⟨S1x512x1024, .f32⟩
  | .hbm, ⟨30, _⟩ => ⟨S512x1024, .f32⟩
  | .hbm, ⟨31, _⟩ => ⟨S65536x1024, .f32⟩
  | .hbm, ⟨32, _⟩ => ⟨S65536x1024, .f32⟩
  | .hbm, ⟨33, _⟩ => ⟨S1x1024x1024, .f32⟩
  | .hbm, ⟨34, _⟩ => ⟨S1024x1024, .f32⟩
  | .hbm, ⟨35, _⟩ => ⟨S65536x1024, .f32⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S65536x1024, .f32⟩
  | .hbm, ⟨40, _⟩ => ⟨S65536x1024, .f32⟩
  | .hbm, ⟨41, _⟩ => ⟨S65536x1024, .f32⟩
  | .hbm, ⟨42, _⟩ => ⟨S65536x1024, .f32⟩
  | .hbm, ⟨43, _⟩ => ⟨S_, .f32⟩
  | .hbm, ⟨44, _⟩ => ⟨S65536x1024, .f32⟩
  | .hbm, ⟨45, _⟩ => ⟨S65536x1024, .f32⟩
  | .hbm, ⟨46, _⟩ => ⟨S_, .f32⟩
  | .hbm, ⟨47, _⟩ => ⟨S65536x1024, .f32⟩
  | .hbm, ⟨48, _⟩ => ⟨S65536x1024, .f32⟩
  | .hbm, ⟨49, _⟩ => ⟨S65536x512, .f32⟩
  | .hbm, ⟨50, _⟩ => ⟨S1x512x1024, .f32⟩
  | .hbm, ⟨51, _⟩ => ⟨S512x1024, .f32⟩
  | .hbm, ⟨52, _⟩ => ⟨S65536x1024, .f32⟩
  | .hbm, ⟨53, _⟩ => ⟨S65536x1024, .f32⟩
  | .hbm, ⟨54, _⟩ => ⟨S65536x1024, .f32⟩
  | .hbm, ⟨55, _⟩ => ⟨S1x1024x1024, .f32⟩
  | .hbm, ⟨56, _⟩ => ⟨S1024x1024, .f32⟩
  | .hbm, ⟨57, _⟩ => ⟨S65536x1024, .f32⟩
  | .hbm, ⟨58, _⟩ => ⟨S1x1024, .f32⟩
  | .hbm, ⟨59, _⟩ => ⟨S1024, .f32⟩
  | .hbm, ⟨60, _⟩ => ⟨S1x1024, .f32⟩
  | .hbm, ⟨61, _⟩ => ⟨S65536x1024, .f32⟩
  | .hbm, ⟨62, _⟩ => ⟨S65536x1024, .f32⟩
  | .hbm, ⟨63, _⟩ => ⟨S65536x1024, .f32⟩
  | .hbm, ⟨64, _⟩ => ⟨S65536x1024, .f32⟩
  | .hbm, ⟨65, _⟩ => ⟨S_, .f32⟩
  | .hbm, ⟨66, _⟩ => ⟨S65536x1024, .f32⟩
  | .hbm, ⟨67, _⟩ => ⟨S65536x1024, .f32⟩
  | .hbm, ⟨68, _⟩ => ⟨S_, .f32⟩
  | .hbm, ⟨69, _⟩ => ⟨S65536x1024, .f32⟩
  | .hbm, ⟨70, _⟩ => ⟨S65536x1024, .f32⟩
  | .hbm, ⟨71, _⟩ => ⟨S65536x512, .f32⟩
  | .hbm, ⟨72, _⟩ => ⟨S1x512x1024, .f32⟩
  | .hbm, ⟨73, _⟩ => ⟨S512x1024, .f32⟩
  | .hbm, ⟨74, _⟩ => ⟨S65536x1024, .f32⟩
  | .hbm, ⟨75, _⟩ => ⟨S65536x1024, .f32⟩
  | .hbm, ⟨76, _⟩ => ⟨S65536x1024, .f32⟩
  | .hbm, ⟨77, _⟩ => ⟨S_, .f32⟩
  | .hbm, ⟨78, _⟩ => ⟨S65536x1024, .f32⟩
  | .hbm, ⟨79, _⟩ => ⟨S65536x1024, .f32⟩
  | .hbm, ⟨80, _⟩ => ⟨S65536x1024, .f32⟩
  | .hbm, ⟨81, _⟩ => ⟨S65536x1024, .f32⟩
  | .hbm, ⟨82, _⟩ => ⟨S_, .f32⟩
  | .hbm, ⟨83, _⟩ => ⟨S65536, .f32⟩
  | .hbm, ⟨84, _⟩ => ⟨S65536x1, .f32⟩
  | .hbm, ⟨85, _⟩ => ⟨S_, .f32⟩
  | .hbm, ⟨86, _⟩ => ⟨S65536x1, .f32⟩
  | .hbm, ⟨87, _⟩ => ⟨S65536x1, .f32⟩
  | .hbm, ⟨88, _⟩ => ⟨S65536x1024, .f32⟩
  | .hbm, ⟨89, _⟩ => ⟨S65536x1024, .f32⟩
  | .hbm, ⟨90, _⟩ => ⟨S65536x1024, .f32⟩
  | .hbm, ⟨91, _⟩ => ⟨S_, .f32⟩
  | .hbm, ⟨92, _⟩ => ⟨S65536, .f32⟩
  | .hbm, ⟨93, _⟩ => ⟨S65536x1, .f32⟩
  | .hbm, ⟨94, _⟩ => ⟨S_, .f32⟩
  | .hbm, ⟨95, _⟩ => ⟨S65536x1, .f32⟩
  | .hbm, ⟨96, _⟩ => ⟨S65536x1, .f32⟩
  | .hbm, ⟨97, _⟩ => ⟨S_, .f32⟩
  | .hbm, ⟨98, _⟩ => ⟨S65536x1, .f32⟩
  | .hbm, ⟨99, _⟩ => ⟨S65536x1, .f32⟩
  | .hbm, ⟨100, _⟩ => ⟨S65536x1, .f32⟩
  | .hbm, ⟨101, _⟩ => ⟨S65536x1024, .f32⟩
  | .hbm, ⟨102, _⟩ => ⟨S65536x1024, .f32⟩
  | .hbm, ⟨103, _⟩ => ⟨S1x1024, .f32⟩
  | .hbm, ⟨104, _⟩ => ⟨S65536x1024, .f32⟩
  | .hbm, ⟨105, _⟩ => ⟨S65536x1024, .f32⟩
  | .hbm, ⟨106, _⟩ => ⟨S1x1024, .f32⟩
  | .hbm, ⟨107, _⟩ => ⟨S65536x1024, .f32⟩
  | .hbm, ⟨108, _⟩ => ⟨S65536x1024, .f32⟩
  | .hbm, ⟨109, _⟩ => ⟨S65536x4x256, .f32⟩
  | .hbm, ⟨110, _⟩ => ⟨S4x65536x256, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_1 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_3 : Ref sig .tc := ⟨.hbm, 65, rfl⟩
abbrev main_v49 : Ref sig .tc := ⟨.hbm, 66, rfl⟩
abbrev main_v50 : Ref sig .tc := ⟨.hbm, 67, rfl⟩
abbrev main_cst_4 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_5 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_6 : Ref sig .tc := ⟨.hbm, 82, rfl⟩
abbrev main_v63 : Ref sig .tc := ⟨.hbm, 83, rfl⟩
abbrev main_v64 : Ref sig .tc := ⟨.hbm, 84, rfl⟩
abbrev main_cst_7 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_8 : Ref sig .tc := ⟨.hbm, 91, rfl⟩
abbrev main_v70 : Ref sig .tc := ⟨.hbm, 92, rfl⟩
abbrev main_v71 : Ref sig .tc := ⟨.hbm, 93, rfl⟩
abbrev main_cst_9 : Ref sig .tc := ⟨.hbm, 94, rfl⟩
abbrev main_v72 : Ref sig .tc := ⟨.hbm, 95, rfl⟩
abbrev main_v73 : Ref sig .tc := ⟨.hbm, 96, rfl⟩
abbrev main_cst_10 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩

abbrev nD : Nat := 1
abbrev τ : Topo := Topo.v7x

variable {F : FTy → Type} [FloatOps F]
-- ==== Kernel3.lean ====
abbrev S4x65536x256 : Shape := ⟨3, ![4, 65536, 256]⟩
abbrev S8x65536 : Shape := ⟨2, ![8, 65536]⟩
abbrev S2x4x65536x256 : Shape := ⟨4, ![2, 4, 65536, 256]⟩
abbrev S1024 : Shape := ⟨1, ![1024]⟩
abbrev S1x1024 : Shape := ⟨2, ![1, 1024]⟩
abbrev S65536x1024 : Shape := ⟨2, ![65536, 1024]⟩
abbrev S4x512x256 : Shape := ⟨3, ![4, 512, 256]⟩
abbrev S8x512 : Shape := ⟨2, ![8, 512]⟩
abbrev S1x4x512x256 : Shape := ⟨4, ![1, 4, 512, 256]⟩
abbrev S512x1024 : Shape := ⟨2, ![512, 1024]⟩
abbrev S512x8 : Shape := ⟨2, ![512, 8]⟩
abbrev S512x1 : Shape := ⟨2, ![512, 1]⟩
abbrev S1x512x256 : Shape := ⟨3, ![1, 512, 256]⟩
abbrev S512x256 : Shape := ⟨2, ![512, 256]⟩
abbrev S512 : Shape := ⟨1, ![512]⟩

abbrev nBuf : Space → Nat
  | .hbm => 8
  | .vmem => 12
  | .smem => 0
  | _ => 0

abbrev bufTy : (tb : Table) → Fin (tcTables nBuf tb) → BufTy
  | .hbm, ⟨0, _⟩ => ⟨S4x65536x256, .f32⟩
  | .hbm, ⟨1, _⟩ => ⟨S8x65536, .f32⟩
  | .hbm, ⟨2, _⟩ => ⟨S2x4x65536x256, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S65536x1024, .f32⟩
  | .local _ .vmem, ⟨0, _⟩ => ⟨S4x512x256, .f32⟩
  | .local _ .vmem, ⟨1, _⟩ => ⟨S4x512x256, .f32⟩
  | .local _ .vmem, ⟨2, _⟩ => ⟨S8x512, .f32⟩
  | .local _ .vmem, ⟨3, _⟩ => ⟨S8x512, .f32⟩
  | .local _ .vmem, ⟨4, _⟩ => ⟨S1x4x512x256, .f32⟩
  | .local _ .vmem, ⟨5, _⟩ => ⟨S1x4x512x256, .f32⟩
  | .local _ .vmem, ⟨6, _⟩ => ⟨S1x4x512x256, .f32⟩
  | .local _ .vmem, ⟨7, _⟩ => ⟨S1x4x512x256, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S4x65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S4x65536x256 : Shape := ⟨3, ![4, 65536, 256]⟩
abbrev S8x65536 : Shape := ⟨2, ![8, 65536]⟩
abbrev S2x4x65536x256 : Shape := ⟨4, ![2, 4, 65536, 256]⟩
abbrev S1024 : Shape := ⟨1, ![1024]⟩
abbrev S65536x4x256 : Shape := ⟨3, ![65536, 4, 256]⟩
abbrev S65536x1024 : Shape := ⟨2, ![65536, 1024]⟩
abbrev S2x65536x4x256 : Shape := ⟨4, ![2, 65536, 4, 256]⟩
abbrev S2x65536x1024 : Shape := ⟨3, ![2, 65536, 1024]⟩
abbrev S1x65536x1024 : Shape := ⟨3, ![1, 65536, 1024]⟩
abbrev S1x65536 : Shape := ⟨2, ![1, 65536]⟩
abbrev S65536 : Shape := ⟨1, ![65536]⟩
abbrev S65536x1 : Shape := ⟨2, ![65536, 1]⟩
abbrev S_ : Shape := ⟨0, ![]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4x65536x256, .f32⟩
  | .hbm, ⟨1, _⟩ => ⟨S8x65536, .f32⟩
  | .hbm, ⟨2, _⟩ => ⟨S2x4x65536x256, .f32⟩
  | .hbm, ⟨3, _⟩ => ⟨S1024, .f32⟩
  | .hbm, ⟨4, _⟩ => ⟨S1024, .f32⟩
  | .hbm, ⟨5, _⟩ => ⟨S65536x4x256, .f32⟩
  | .hbm, ⟨6, _⟩ => ⟨S65536x1024, .f32⟩
  | .hbm, ⟨7, _⟩ => ⟨S2x65536x4x256, .f32⟩
  | .hbm, ⟨8, _⟩ => ⟨S2x65536x1024, .f32⟩
  | .hbm, ⟨9, _⟩ => ⟨S1x65536x1024, .f32⟩
  | .hbm, ⟨10, _⟩ => ⟨S65536x1024, .f32⟩
  | .hbm, ⟨11, _⟩ => ⟨S1x65536, .f32⟩
  | .hbm, ⟨12, _⟩ => ⟨S65536, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x65536x1024, .f32⟩
  | .hbm, ⟨17, _⟩ => ⟨S65536x1024, .f32⟩
  | .hbm, ⟨18, _⟩ => ⟨S1x65536, .f32⟩
  | .hbm, ⟨19, _⟩ => ⟨S65536, .f32⟩
  | .hbm, ⟨20, _⟩ => ⟨S65536x1, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S_, .f32⟩
  | .hbm, ⟨25, _⟩ => ⟨S65536x1024, .f32⟩
  | .hbm, ⟨26, _⟩ => ⟨S65536x1024, .f32⟩
  | .hbm, ⟨27, _⟩ => ⟨S65536x1024, .f32⟩
  | .hbm, ⟨28, _⟩ => ⟨S_, .f32⟩
  | .hbm, ⟨29, _⟩ => ⟨S65536, .f32⟩
  | .hbm, ⟨30, _⟩ => ⟨S65536x1, .f32⟩
  | .hbm, ⟨31, _⟩ => ⟨S_, .f32⟩
  | .hbm, ⟨32, _⟩ => ⟨S65536x1, .f32⟩
  | .hbm, ⟨33, _⟩ => ⟨S65536x1, .f32⟩
  | .hbm, ⟨34, _⟩ => ⟨S65536x1024, .f32⟩
  | .hbm, ⟨35, _⟩ => ⟨S65536x1024, .f32⟩
  | .hbm, ⟨36, _⟩ => ⟨S65536x1024, .f32⟩
  | .hbm, ⟨37, _⟩ => ⟨S_, .f32⟩
  | .hbm, ⟨38, _⟩ => ⟨S65536, .f32⟩
  | .hbm, ⟨39, _⟩ => ⟨S65536x1, .f32⟩
  | .hbm, ⟨40, _⟩ => ⟨S_, .f32⟩
  | .hbm, ⟨41, _⟩ => ⟨S65536x1, .f32⟩
  | .hbm, ⟨42, _⟩ => ⟨S65536x1, .f32⟩
  | .hbm, ⟨43, _⟩ => ⟨S_, .f32⟩
  | .hbm, ⟨44, _⟩ => ⟨S65536x1, .f32⟩
  | .hbm, ⟨45, _⟩ => ⟨S65536x1, .f32⟩
  | .hbm, ⟨46, _⟩ => ⟨S65536x1, .f32⟩
  | .hbm, ⟨47, _⟩ => ⟨S65536x1024, .f32⟩
  | .hbm, ⟨48, _⟩ => ⟨S65536x1024, .f32⟩
  | .hbm, ⟨49, _⟩ => ⟨S1x1024, .f32⟩
  | .hbm, ⟨50, _⟩ => ⟨S65536x1024, .f32⟩
  | .hbm, ⟨51, _⟩ => ⟨S65536x1024, .f32⟩
  | .hbm, ⟨52, _⟩ => ⟨S1x1024, .f32⟩
  | .hbm, ⟨53, _⟩ => ⟨S65536x1024, .f32⟩
  | .hbm, ⟨54, _⟩ => ⟨S65536x1024, .f32⟩
  | _, _ => ⟨S4x65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== Kernel4.lean ====
abbrev S65536x1024 : Shape := ⟨2, ![65536, 1024]⟩
abbrev S1024x4104 : Shape := ⟨2, ![1024, 4104]⟩
abbrev S8 : Shape := ⟨1, ![8]⟩
abbrev S3x512 : Shape := ⟨2, ![3, 512]⟩
abbrev S1024x1024 : Shape := ⟨2, ![1024, 1024]⟩
abbrev S1024x2560 : Shape := ⟨2, ![1024, 2560]⟩
abbrev S1024x3584 : Shape := ⟨2, ![1024, 3584]⟩
abbrev S1024x512 : Shape := ⟨2, ![1024, 512]⟩
abbrev S512x1024 : Shape := ⟨2, ![512, 1024]⟩
abbrev S1024x8 : Shape := ⟨2, ![1024, 8]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S512x512 : Shape := ⟨2, ![512, 512]⟩
abbrev S1024 : Shape := ⟨1, ![1024]⟩
abbrev S1x1024 : Shape := ⟨2, ![1, 1024]⟩
abbrev S384 : Shape := ⟨1, ![384]⟩
abbrev S384x1 : Shape := ⟨2, ![384, 1]⟩
abbrev S384x1024 : Shape := ⟨2, ![384, 1024]⟩
abbrev S512x65536 : Shape := ⟨2, ![512, 65536]⟩
abbrev S65536x512 : Shape := ⟨2, ![65536, 512]⟩
abbrev S8x512 : Shape := ⟨2, ![8, 512]⟩
abbrev S1x512 : Shape := ⟨2, ![1, 512]⟩
abbrev S512x128 : Shape := ⟨2, ![512, 128]⟩
abbrev S128x1024 : Shape := ⟨2, ![128, 1024]⟩

abbrev nBuf : Space → Nat
  | .hbm => 119
  | .vmem => 22
  | .smem => 0
  | _ => 0

abbrev bufTy : (tb : Table) → Fin (tcTables nBuf tb) → BufTy
  | .hbm, ⟨0, _⟩ => ⟨S65536x1024, .f32⟩
  | .hbm, ⟨1, _⟩ => ⟨S1024x4104, .f32⟩
  | .hbm, ⟨2, _⟩ => ⟨S8, .f32⟩
  | .hbm, ⟨3, _⟩ => ⟨S3x512, .f32⟩
  | .hbm, ⟨4, _⟩ => ⟨S1024x1024, .f32⟩
  | .hbm, ⟨5, _⟩ => ⟨S1024x2560, .f32⟩
  | .hbm, ⟨6, _⟩ => ⟨S1024x3584, .f32⟩
  | .hbm, ⟨7, _⟩ => ⟨S1024x3584, .bf16⟩
  | .hbm, ⟨8, _⟩ => ⟨S1024x512, .f32⟩
  | .hbm, ⟨9, _⟩ => ⟨S512x1024, .f32⟩
  | .hbm, ⟨10, _⟩ => ⟨S512x1024, .bf16⟩
  | .hbm, ⟨11, _⟩ => ⟨S1024x8, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x128, .bf16⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S_, .f32⟩
  | .hbm, ⟨21, _⟩ => ⟨S512x512, .f32⟩
  | .hbm, ⟨22, _⟩ => ⟨S512x512, .i32⟩
  | .hbm, ⟨23, _⟩ => ⟨S_, .i32⟩
  | .hbm, ⟨24, _⟩ => ⟨S512x512, .i32⟩
  | .hbm, ⟨25, _⟩ => ⟨S512x512, .i32⟩
  | .hbm, ⟨26, _⟩ => ⟨S512x512, .i32⟩
  | .hbm, ⟨27, _⟩ => ⟨S512x512, .i1⟩
  | .hbm, ⟨28, _⟩ => ⟨S_, .f32⟩
  | .hbm, ⟨29, _⟩ => ⟨S512x512, .f32⟩
  | .hbm, ⟨30, _⟩ => ⟨S512x512, .f32⟩
  | .hbm, ⟨31, _⟩ => ⟨S512x512, .bf16⟩
  | .hbm, ⟨32, _⟩ => ⟨S1024, .i32⟩
  | .hbm, ⟨33, _⟩ => ⟨S1x1024, .i32⟩
  | .hbm, ⟨34, _⟩ => ⟨S_, .i32⟩
  | .hbm, ⟨35, _⟩ => ⟨S1x1024, .i32⟩
  | .hbm, ⟨36, _⟩ => ⟨S1x1024, .i32⟩
  | .hbm, ⟨37, _⟩ => ⟨S_, .i32⟩
  | .hbm, ⟨38, _⟩ => ⟨S1x1024, .i32⟩
  | .hbm, ⟨39, _⟩ => ⟨S1x1024, .i32⟩
  | .hbm, ⟨40, _⟩ => ⟨S_, .i32⟩
  | .hbm, ⟨41, _⟩ => ⟨S1x1024, .i32⟩
  | .hbm, ⟨42, _⟩ => ⟨S1x1024, .i32⟩
  | .hbm, ⟨43, _⟩ => ⟨S_, .i32⟩
  | .hbm, ⟨44, _⟩ => ⟨S1x1024, .i32⟩
  | .hbm, ⟨45, _⟩ => ⟨S1x1024, .i32⟩
  | .hbm, ⟨46, _⟩ => ⟨S_, .i32⟩
  | .hbm, ⟨47, _⟩ => ⟨S1x1024, .i32⟩
  | .hbm, ⟨48, _⟩ => ⟨S1x1024, .i1⟩
  | .hbm, ⟨49, _⟩ => ⟨S1x1024, .i32⟩
  | .hbm, ⟨50, _⟩ => ⟨S_, .i32⟩
  | .hbm, ⟨51, _⟩ => ⟨S1x1024, .i32⟩
  | .hbm, ⟨52, _⟩ => ⟨S1x1024, .i32⟩
  | .hbm, ⟨53, _⟩ => ⟨S1x1024, .i32⟩
  | .hbm, ⟨54, _⟩ => ⟨S_, .i32⟩
  | .hbm, ⟨55, _⟩ => ⟨S1x1024, .i32⟩
  | .hbm, ⟨56, _⟩ => ⟨S1x1024, .i1⟩
  | .hbm, ⟨57, _⟩ => ⟨S_, .i32⟩
  | .hbm, ⟨58, _⟩ => ⟨S1x1024, .i32⟩
  | .hbm, ⟨59, _⟩ => ⟨S1x1024, .i1⟩
  | .hbm, ⟨60, _⟩ => ⟨S_, .i32⟩
  | .hbm, ⟨61, _⟩ => ⟨S1x1024, .i32⟩
  | .hbm, ⟨62, _⟩ => ⟨S1x1024, .i1⟩
  | .hbm, ⟨63, _⟩ => ⟨S_, .i32⟩
  | .hbm, ⟨64, _⟩ => ⟨S1x1024, .i32⟩
  | .hbm, ⟨65, _⟩ => ⟨S1x1024, .i1⟩
  | .hbm, ⟨66, _⟩ => ⟨S1x1024, .i1⟩
  | .hbm, ⟨67, _⟩ => ⟨S1x1024, .i1⟩
  | .hbm, ⟨68, _⟩ => ⟨S_, .i32⟩
  | .hbm, ⟨69, _⟩ => ⟨S1x1024, .i32⟩
  | .hbm, ⟨70, _⟩ => ⟨S1x1024, .i1⟩
  | .hbm, ⟨71, _⟩ => ⟨S_, .i32⟩
  | .hbm, ⟨72, _⟩ => ⟨S_, .i32⟩
  | .hbm, ⟨73, _⟩ => ⟨S1x1024, .i32⟩
  | .hbm, ⟨74, _⟩ => ⟨S1x1024, .i32⟩
  | .hbm, ⟨75, _⟩ => ⟨S1x1024, .i32⟩
  | .hbm, ⟨76, _⟩ => ⟨S1x1024, .i32⟩
  | .hbm, ⟨77, _⟩ => ⟨S1x1024, .i32⟩
  | .hbm, ⟨78, _⟩ => ⟨S_, .i32⟩
  | .hbm, ⟨79, _⟩ => ⟨S1x1024, .i32⟩
  | .hbm, ⟨80, _⟩ => ⟨S1x1024, .i32⟩
  | .hbm, ⟨81, _⟩ => ⟨S_, .i32⟩
  | .hbm, ⟨82, _⟩ => ⟨S1x1024, .i32⟩
  | .hbm, ⟨83, _⟩ => ⟨S1x1024, .i32⟩
  | .hbm, ⟨84, _⟩ => ⟨S1x1024, .i32⟩
  | .hbm, ⟨85, _⟩ => ⟨S1x1024, .i32⟩
  | .hbm, ⟨86, _⟩ => ⟨S384, .i32⟩
  | .hbm, ⟨87, _⟩ => ⟨S384x1, .i32⟩
  | .hbm, ⟨88, _⟩ => ⟨S384x1024, .i32⟩
  | .hbm, ⟨89, _⟩ => ⟨S384x1024, .i32⟩
  | .hbm, ⟨90, _⟩ => ⟨S384x1024, .i1⟩
  | .hbm, ⟨91, _⟩ => ⟨S384x1024, .i1⟩
  | .hbm, ⟨92, _⟩ => ⟨S384x1024, .i1⟩
  | .hbm, ⟨93, _⟩ => ⟨S_, .i32⟩
  | .hbm, ⟨94, _⟩ => ⟨S1x1024, .i32⟩
  | .hbm, ⟨95, _⟩ => ⟨S1x1024, .i1⟩
  | .hbm, ⟨96, _⟩ => ⟨S_, .f32⟩
  | .hbm, ⟨97, _⟩ => ⟨S_, .f32⟩
  | .hbm, ⟨98, _⟩ => ⟨S1x1024, .f32⟩
  | .hbm, ⟨99, _⟩ => ⟨S1x1024, .f32⟩
  | .hbm, ⟨100, _⟩ => ⟨S1x1024, .f32⟩
  | .hbm, ⟨101, _⟩ => ⟨S_, .f32⟩
  | .hbm, ⟨102, _⟩ => ⟨S384x1024, .f32⟩
  | .hbm, ⟨103, _⟩ => ⟨S384x1024, .f32⟩
  | .hbm, ⟨104, _⟩ => ⟨S384x1024, .f32⟩
  | .hbm, ⟨105, _⟩ => ⟨S1x1024, .i1⟩
  | .hbm, ⟨106, _⟩ => ⟨S1x1024, .i1⟩
  | .hbm, ⟨107, _⟩ => ⟨S_, .f32⟩
  | .hbm, ⟨108, _⟩ => ⟨S_, .f32⟩
  | .hbm, ⟨109, _⟩ => ⟨S1x1024, .f32⟩
  | .hbm, ⟨110, _⟩ => ⟨S1x1024, .f32⟩
  | .hbm, ⟨111, _⟩ => ⟨S1x1024, .f32⟩
  | .hbm, ⟨112, _⟩ => ⟨S384x1024, .bf16⟩
  | .hbm, ⟨113, _⟩ => ⟨S1x1024, .f32⟩
  | .hbm, ⟨114, _⟩ => ⟨S65536x1024, .bf16⟩
  | .hbm, ⟨115, _⟩ => ⟨S65536x1024, .bf16⟩
  | .hbm, ⟨116, _⟩ => ⟨S512x65536, .bf16⟩
  | .hbm, ⟨117, _⟩ => ⟨S65536x512, .f32⟩
  | .hbm, ⟨118, _⟩ => ⟨S65536x512, .bf16⟩
  | .local _ .vmem, ⟨0, _⟩ => ⟨S512x1024, .f32⟩
  | .local _ .vmem, ⟨1, _⟩ => ⟨S512x1024, .f32⟩
  | .local _ .vmem, ⟨2, _⟩ => ⟨S1024x3584, .bf16⟩
  | .local _ .vmem, ⟨3, _⟩ => ⟨S512x1024, .bf16⟩
  | .local _ .vmem, ⟨4, _⟩ => ⟨S1024x128, .bf16⟩
  | .local _ .vmem, ⟨5, _⟩ => ⟨S1x128, .f32⟩
  | .local _ .vmem, ⟨6, _⟩ => ⟨S3x512, .f32⟩
  | .local _ .vmem, ⟨7, _⟩ => ⟨S512x512, .bf16⟩
  | .local _ .vmem, ⟨8, _⟩ => ⟨S384x1024, .bf16⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x512, .bf16⟩
  | .local _ .vmem, ⟨15, _⟩ => ⟨S512x512, .bf16⟩
  | .local _ .vmem, ⟨16, _⟩ => ⟨S512x512, .f32⟩
  | .local _ .vmem, ⟨17, _⟩ => ⟨S512x512, .f32⟩
  | .local _ .vmem, ⟨18, _⟩ => ⟨S512x512, .bf16⟩
  | .local _ .vmem, ⟨19, _⟩ => ⟨S512x512, .bf16⟩
  | .local _ .vmem, ⟨20, _⟩ => ⟨S1x128, .f32⟩
  | .local _ .vmem, ⟨21, _⟩ => ⟨S8x512, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_call1_v0 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_call2_v0 : Ref sig .tc := ⟨.hbm, 22, rfl⟩
abbrev main_call2_c : Ref sig .tc := ⟨.hbm, 23, rfl⟩
abbrev main_call2_v1 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_call2_cst : Ref sig .tc := ⟨.hbm, 28, rfl⟩
abbrev main_call2_v5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_1 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_7 : Ref sig .tc := ⟨.hbm, 54, rfl⟩
abbrev main_v31 : Ref sig .tc := ⟨.hbm, 55, rfl⟩
abbrev main_v32 : Ref sig .tc := ⟨.hbm, 56, rfl⟩
abbrev main_c_8 : Ref sig .tc := ⟨.hbm, 57, rfl⟩
abbrev main_v33 : Ref sig .tc := ⟨.hbm, 58, rfl⟩
abbrev main_v34 : Ref sig .tc := ⟨.hbm, 59, rfl⟩
abbrev main_c_9 : Ref sig .tc := ⟨.hbm, 60, rfl⟩
abbrev main_v35 : Ref sig .tc := ⟨.hbm, 61, rfl⟩
abbrev main_v36 : Ref sig .tc := ⟨.hbm, 62, rfl⟩
abbrev main_c_10 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_11 : Ref sig .tc := ⟨.hbm, 68, rfl⟩
abbrev main_v41 : Ref sig .tc := ⟨.hbm, 69, rfl⟩
abbrev main_v42 : Ref sig .tc := ⟨.hbm, 70, rfl⟩
abbrev main_c_12 : Ref sig .tc := ⟨.hbm, 71, rfl⟩
abbrev main_c_13 : Ref sig .tc := ⟨.hbm, 72, rfl⟩
abbrev main_call4_v0 : Ref sig .tc := ⟨.hbm, 73, rfl⟩
abbrev main_call4_v1 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_c_14 : Ref sig .tc := ⟨.hbm, 78, rfl⟩
abbrev main_v46 : Ref sig .tc := ⟨.hbm, 79, rfl⟩
abbrev main_v47 : Ref sig .tc := ⟨.hbm, 80, rfl⟩
abbrev main_c_15 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_c_16 : Ref sig .tc := ⟨.hbm, 93, rfl⟩
abbrev main_v59 : Ref sig .tc := ⟨.hbm, 94, rfl⟩
abbrev main_v60 : Ref sig .tc := ⟨.hbm, 95, rfl⟩
abbrev main_cst_17 : Ref sig .tc := ⟨.hbm, 96, rfl⟩
abbrev main_cst_18 : Ref sig .tc := ⟨.hbm, 97, rfl⟩
abbrev main_call5_v0 : Ref sig .tc := ⟨.hbm, 98, rfl⟩
abbrev main_call5_v1 : Ref sig .tc := ⟨.hbm, 99, rfl⟩
abbrev main_v61 : Ref sig .tc := ⟨.hbm, 100, rfl⟩
abbrev main_cst_19 : Ref sig .tc := ⟨.hbm, 101, rfl⟩
abbrev main_call6_v0 : Ref sig .tc := ⟨.hbm, 102, rfl⟩
abbrev main_call6_v1 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_20 : Ref sig .tc := ⟨.hbm, 107, rfl⟩
abbrev main_cst_21 : Ref sig .tc := ⟨.hbm, 108, rfl⟩
abbrev main_call7_v0 : Ref sig .tc := ⟨.hbm, 109, rfl⟩
abbrev main_call7_v1 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68_0 : Ref sig .tc := ⟨.hbm, 114, rfl⟩
abbrev main_v68_1 : Ref sig .tc := ⟨.hbm, 115, rfl⟩
abbrev main_v68_2 : Ref sig .tc := ⟨.hbm, 116, rfl⟩
abbrev main_v68_3 : Ref sig .tc := ⟨.hbm, 117, rfl⟩
abbrev main_v68_4 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S65536x1024 : Shape := ⟨2, ![65536, 1024]⟩
abbrev S1024x4104 : Shape := ⟨2, ![1024, 4104]⟩
abbrev S8 : Shape := ⟨1, ![8]⟩
abbrev S3x512 : Shape := ⟨2, ![3, 512]⟩
abbrev S65536x4104 : Shape := ⟨2, ![65536, 4104]⟩
abbrev S65536x512 : Shape := ⟨2, ![65536, 512]⟩
abbrev S65536x8 : Shape := ⟨2, ![65536, 8]⟩
abbrev S_ : Shape := ⟨0, ![]⟩
abbrev S16x4096x512 : Shape := ⟨3, ![16, 4096, 512]⟩
abbrev S16x4098x512 : Shape := ⟨3, ![16, 4098, 512]⟩
abbrev S1x512 : Shape := ⟨2, ![1, 512]⟩
abbrev S512 : Shape := ⟨1, ![512]⟩
abbrev S1x1x512 : Shape := ⟨3, ![1, 1, 512]⟩
abbrev S512x65536 : Shape := ⟨2, ![512, 65536]⟩

abbrev nBuf : Space → Nat
  | .hbm => 52
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x4104, .f32⟩
  | .hbm, ⟨2, _⟩ => ⟨S8, .f32⟩
  | .hbm, ⟨3, _⟩ => ⟨S3x512, .f32⟩
  | .hbm, ⟨4, _⟩ => ⟨S65536x4104, .f32⟩
  | .hbm, ⟨5, _⟩ => ⟨S65536x1024, .f32⟩
  | .hbm, ⟨6, _⟩ => ⟨S65536x512, .f32⟩
  | .hbm, ⟨7, _⟩ => ⟨S65536x8, .f32⟩
  | .hbm, ⟨8, _⟩ => ⟨S65536x512, .f32⟩
  | .hbm, ⟨9, _⟩ => ⟨S65536x512, .f32⟩
  | .hbm, ⟨10, _⟩ => ⟨S65536x512, .f32⟩
  | .hbm, ⟨11, _⟩ => ⟨S65536x512, .f32⟩
  | .hbm, ⟨12, _⟩ => ⟨S65536x512, .f32⟩
  | .hbm, ⟨13, _⟩ => ⟨S65536x512, .f32⟩
  | .hbm, ⟨14, _⟩ => ⟨S65536x512, .f32⟩
  | .hbm, ⟨15, _⟩ => ⟨S_, .f32⟩
  | .hbm, ⟨16, _⟩ => ⟨S65536x512, .f32⟩
  | .hbm, ⟨17, _⟩ => ⟨S65536x512, .f32⟩
  | .hbm, ⟨18, _⟩ => ⟨S_, .f32⟩
  | .hbm, ⟨19, _⟩ => ⟨S65536x512, .f32⟩
  | .hbm, ⟨20, _⟩ => ⟨S65536x512, .f32⟩
  | .hbm, ⟨21, _⟩ => ⟨S65536x512, .f32⟩
  | .hbm, ⟨22, _⟩ => ⟨S65536x512, .f32⟩
  | .hbm, ⟨23, _⟩ => ⟨S16x4096x512, .f32⟩
  | .hbm, ⟨24, _⟩ => ⟨S_, .i32⟩
  | .hbm, ⟨25, _⟩ => ⟨S_, .f32⟩
  | .hbm, ⟨26, _⟩ => ⟨S16x4098x512, .f32⟩
  | .hbm, ⟨27, _⟩ => ⟨S1x512, .f32⟩
  | .hbm, ⟨28, _⟩ => ⟨S512, .f32⟩
  | .hbm, ⟨29, _⟩ => ⟨S16x4096x512, .f32⟩
  | .hbm, ⟨30, _⟩ => ⟨S1x1x512, .f32⟩
  | .hbm, ⟨31, _⟩ => ⟨S16x4096x512, .f32⟩
  | .hbm, ⟨32, _⟩ => ⟨S16x4096x512, .f32⟩
  | .hbm, ⟨33, _⟩ => ⟨S1x512, .f32⟩
  | .hbm, ⟨34, _⟩ => ⟨S512, .f32⟩
  | .hbm, ⟨35, _⟩ => ⟨S16x4096x512, .f32⟩
  | .hbm, ⟨36, _⟩ => ⟨S1x1x512, .f32⟩
  | .hbm, ⟨37, _⟩ => ⟨S16x4096x512, .f32⟩
  | .hbm, ⟨38, _⟩ => ⟨S16x4096x512, .f32⟩
  | .hbm, ⟨39, _⟩ => ⟨S16x4096x512, .f32⟩
  | .hbm, ⟨40, _⟩ => ⟨S1x512, .f32⟩
  | .hbm, ⟨41, _⟩ => ⟨S512, .f32⟩
  | .hbm, ⟨42, _⟩ => ⟨S16x4096x512, .f32⟩
  | .hbm, ⟨43, _⟩ => ⟨S1x1x512, .f32⟩
  | .hbm, ⟨44, _⟩ => ⟨S16x4096x512, .f32⟩
  | .hbm, ⟨45, _⟩ => ⟨S16x4096x512, .f32⟩
  | .hbm, ⟨46, _⟩ => ⟨S16x4096x512, .f32⟩
  | .hbm, ⟨47, _⟩ => ⟨S65536x512, .f32⟩
  | .hbm, ⟨48, _⟩ => ⟨S65536x512, .f32⟩
  | .hbm, ⟨49, _⟩ => ⟨S512x65536, .f32⟩
  | .hbm, ⟨50, _⟩ => ⟨S512x65536, .bf16⟩
  | .hbm, ⟨51, _⟩ => ⟨S65536x512, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩

abbrev nD : Nat := 1
abbrev τ : Topo := Topo.v7x

variable {F : FTy → Type} [FloatOps F]
-- ==== Proof.KernelFrame.lean ====
/-
  The word-level kernel's frame: the body runs at every grid point whatever it computes, so the program terminates,
  leaves its arguments and returns every semaphore counter to zero. Nothing is said here of what the result holds.
-/
module

public import proofs.«01_k».proof.Proof.Gen.Kernel.Loops
public import proofs.«01_k».proof.Proof.Gen.Kernel.Frame
public import Idealize.ShloMosaic.Lib.Quiescent

@[expose] public section

set_option maxRecDepth 16384

noncomputable section

namespace Cert.Kernel.Fox

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

abbrev 𝒱₀ : Variants := Variants.none

variable (m : (ℓ : Loc nD τ sig) → Buf (Elt F) ℓ) (ρ : Dev nD → PrngReg)

section body

variable (c : Dev nD) (i : grid0.Coords)
  (arg3 : Memref sig .tc .vmem S512x256 .bf16) (harg3 : arg3.IsWhole)
  (arg4 : Memref sig .tc .vmem S4096x256 .bf16) (harg4 : arg4.IsWhole)
  (arg5 : Memref sig .tc .vmem S128x4096 .bf16) (harg5 : arg5.IsWhole)
  (arg6 : Memref sig .tc .vmem S512x128 .bf16) (harg6 : arg6.IsWhole)
  (arg7 : Memref sig .tc .vmem S128x512 .f32) (harg7 : arg7.IsWhole)
  (arg8 : Memref sig .tc .vmem S128x512 .f32) (harg8 : arg8.IsWhole)

set_option maxHeartbeats 4000000 in
/-- The body up to its last store: it returns some value, the input blocks being as they were. -/
theorem part25 (E : Set ℕ)
    (f3 : BufTy.Contents (Elt F) arg3.view.ty) (f4 : BufTy.Contents (Elt F) arg4.view.ty) (f5 : BufTy.Contents (Elt F) arg5.view.ty)
    (f6 : BufTy.Contents (Elt F) arg6.view.ty)
    (f7 : BufTy.Contents (Elt F) arg7.view.ty) (f8 : BufTy.Contents (Elt F) arg8.view.ty) :
    (iprop((arg3.view.loc (c : Thread nD τ) ↦[arg3.view.set]{fullShare} f3)
      ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (arg7.view.loc (c : Thread nD τ) ↦[arg7.view.set]{fullShare} f7)
      ∗ (arg8.view.loc (c : Thread nD τ) ↦[arg8.view.set]{fullShare} f8)) : sProp 𝕄)
    ⊢ wp frame (wpE (defs₀ (F := F)) 𝒱₀ (c : Thread nD τ) none) E
        (k0_part25 (F := F) i arg3 harg3 arg4 harg4 arg5 harg5 arg6 harg6 arg7 harg7 arg8 harg8)
        (fun _ => iprop(
      (arg3.view.loc (c : Thread nD τ) ↦[arg3.view.set]{fullShare} f3)
      ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (∃ f, (arg7.view.loc (c : Thread nD τ) ↦[arg7.view.set]{fullShare} f))
      ∗ (∃ f, (arg8.view.loc (c : Thread nD τ) ↦[arg8.view.set]{fullShare} f)))) := by
  rw [k0_part25_eq_skeleton]
  unfold k0_part25_skel
  rw [k0_part11_eq_skeleton, k0_part12_eq_skeleton, k0_part13_eq_skeleton, k0_part14_eq_skeleton,
    k0_part15_eq_skeleton, k0_part16_eq_skeleton, k0_part17_eq_skeleton, k0_part18_eq_skeleton, k0_part19_eq_skeleton,
    k0_part20_eq_skeleton, k0_part21_eq_skeleton, k0_part22_eq_skeleton, k0_part23_eq_skeleton, k0_part24_eq_skeleton]
  unfold k0_part11_skel k0_part12_skel k0_part13_skel k0_part14_skel k0_part15_skel k0_part16_skel k0_part17_skel
    k0_part18_skel k0_part19_skel k0_part20_skel k0_part21_skel k0_part22_skel k0_part23_skel k0_part24_skel
  iintro ⟨H3, H4, H5, H6, H7, H8⟩
  by_cases h1 : k0_cond1 i = 1#1
  on_goal 1 => by_cases h2 : k0_cond2 i = 1#1
  on_goal 1 => by_cases h3 : k0_cond3 i = 1#1
  on_goal 1 => sl_exec (disch := first | sl_exact h1 | sl_exact h2 | sl_exact h3)
  on_goal 2 => sl_exec (disch := first | sl_exact h1 | sl_exact h2 | sl_exact h3)
  on_goal 3 => sl_exec (disch := first | sl_exact h1 | sl_exact h2)
  on_goal 4 => sl_exec (disch := sl_exact h1)
  all_goals
    sl_step
    isplitl [H3]; · iexact H3
    isplitl [H4]; · iexact H4
    isplitl [H5]; · iexact H5
    isplitl [H6]; · iexact H6
    isplitl [H7]
    · iexists _; iexact H7
    iexists _; iexact H8

/-- The body at a grid point: from the three blocks it leaves the blocks as they were. -/
theorem body (E : Set ℕ) (K : PUnit → sProp 𝕄)
    (x3 : Vec F S512x256 .bf16) (x4 : Vec F S4096x256 .bf16) (x5 : Vec F S128x4096 .bf16) :
    iprop(owns (c : Thread nD τ) arg3 fullShare x3 ∗ owns (c : Thread nD τ) arg4 fullShare x4
      ∗ owns (c : Thread nD τ) arg5 fullShare x5 ∗ (∃ d, owns (c : Thread nD τ) arg6 fullShare d)
      ∗ (∃ d, owns (c : Thread nD τ) arg7 fullShare d)
      ∗ (∃ d, owns (c : Thread nD τ) arg8 fullShare d)
      ∗ (iprop(owns (c : Thread nD τ) arg3 fullShare x3 ∗ owns (c : Thread nD τ) arg4 fullShare x4
          ∗ owns (c : Thread nD τ) arg5 fullShare x5 ∗ (∃ d, owns (c : Thread nD τ) arg6 fullShare d)
          ∗ (∃ d, owns (c : Thread nD τ) arg7 fullShare d)
          ∗ (∃ d, owns (c : Thread nD τ) arg8 fullShare d)) -∗ K ⟨⟩))
    ⊢ wp frame (wpE (defs₀ (F := F)) 𝒱₀ c none) E
        (cc0_fox_attn (F := F) i arg3 harg3 arg4 harg4 arg5 harg5 arg6 harg6 arg7 harg7 arg8 harg8) K := by
  rw [cc0_fox_attn_eq_skeleton]
  unfold cc0_fox_attn_skel
  unfold owns
  iintro ⟨⟨%f3, %hf3, H3⟩, ⟨%f4, %hf4, H4⟩, ⟨%f5, %hf5, H5⟩, ⟨%d6, %f6, -, H6⟩, ⟨%d7, %f7, -, H7⟩, ⟨%d8, %f8, -, H8⟩, Hk⟩
  rw [wp_bind]
  iapply (wp_wand_r frame (wpE (defs₀ (F := F)) 𝒱₀ (c : Thread nD τ) none) E)
  isplitl [H3 H4 H5 H6 H7 H8]
  · iapply (part25 c i arg3 harg3 arg4 harg4 arg5 harg5 arg6 harg6 arg7 harg7 arg8 harg8 E f3 f4 f5 f6 f7 f8)
    isplitl [H3]; · iexact H3
    isplitl [H4]; · iexact H4
    isplitl [H5]; · iexact H5
    isplitl [H6]; · iexact H6
    isplitl [H7]; · iexact H7
    iexact H8
  iintro %r ⟨H3, H4, H5, H6, ⟨%g7, H7⟩, ⟨%g8, H8⟩⟩
  sl_exec
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; iexists _; isplitr; swap; · iexact H6
    ipureintro; rfl
  isplitl [H7]
  · iexists _; iexists _; isplitr; swap; · iexact H7
    ipureintro; rfl
  iexists _; iexists _; isplitr; swap; · iexact H8
  ipureintro; rfl

end body

/-- The core's buffers beside the staged ones: the two accumulators. -/
theorem scratch_eq (c : Dev nD) :
    (Pipeline.scopedRest (Ix := Unit) (Name := ℕ) (U := UR sig nD τ) (Lvl := ℕ) (Val := Elt F) spec0 c : sProp 𝕄)
      = iprop((∃ d, owns (c : Thread nD τ) (Memref.whole cc0_scratch0) fullShare d)
        ∗ (∃ d, owns (c : Thread nD τ) (Memref.whole cc0_scratch1) fullShare d)) := by
  rw [scopedRest0_eq]
  simp only [owns_whole]

/-- The pipeline's proof data: the arrays as launched, every input's buffer at its block; of the result's buffer nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The windows of which nothing is said: the result's. -/
abbrev fgt (w : Fin 4) : Bool := w == 3

/-- The body keeps the pipeline's invariant at every point and leaves the input blocks in place. -/
theorem body_obligation (c : Dev nD) :
    Pipeline.BodyObligationLoose (dats (F := F) m 0 c) (defs₀ (F := F)) 𝒱₀ () Set.univ fgt := fun t => by
  rw [bigSep_W0, bigSep_W0]
  sl_whnfR [defs₀, Defs.onTc]
  simp only [before0_0, before0_1, before0_2, show fgt 0 = false from rfl, show fgt 1 = false from rfl,
    show fgt 2 = false from rfl, show fgt 3 = true from rfl]
  rw [show (dats m 0 c).Φ t.succ = (dats m 0 c).Φ t.castSucc from rfl,
    show (dats m 0 c).owesAt () t.succ = (dats m 0 c).owesAt () t.castSucc from rfl, after0_0, after0_1, after0_2]
  rw [show (dats m 0 c).Φ t.castSucc = Pipeline.ΦA spec0 c from rfl]
  unfold Pipeline.ΦA
  rw [scratch_eq]
  iintro ⟨⟨⟨HS0, HS1⟩, HR⟩, Ho, ⟨%d0, H0⟩, ⟨%d1, H1⟩, ⟨%d2, H2⟩, ⟨%d3, H3⟩⟩
  iapply (body c (grid0.coords t) _ _ _ _ _ _ _ _ (Memref.whole cc0_scratch0) _ (Memref.whole cc0_scratch1) _ Set.univ _
    (iblk m c 0 t) (iblk m c 1 t) (iblk m c 2 t))
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HS0 HS1 HR]
  · isplitl [HS0 HS1]
    · isplitl [HS0]; · iexact HS0
      iexact HS1
    iexact HR
  isplitl [Ho]; · iexact Ho
  isplitl [H0]; · iexact H0
  isplitl [H1]; · iexact H1
  isplitl [H2]; · iexact H2
  iexact H3

set_option backward.isDefEq.respectTransparency.types false in
/-- From any memory with zero counters the program terminates, its input arrays as launched and every semaphore
    counter at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ 𝒱₀ fgt m ρ main
    (hbody := body_obligation m) (hshare := fun c => (dats m 0 c).share_full fun _ => rfl)
    (howed := fun _ _ => rfl) (V := V m) (hmain := hmain m 𝒱₀) (hA := fun _ _ => rfl) (hΦ := fun _ _ => rfl)

/-- The program leaves its arguments unchanged and every semaphore counter at zero. -/
theorem frame_run :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨Pipeline.RDat.FramePost.arr_in h.1 c 0 rfl, Pipeline.RDat.FramePost.arr_in h.1 c 1 rfl, Pipeline.RDat.FramePost.arr_in h.1 c 2 rfl⟩, h.2⟩) (run_main (F := F) m ρ)

end Cert.Kernel.Fox

end
-- ==== Proof.Tiles.lean ====
/-
  The forgetting-attention kernel's arithmetic, one tile at a time: a query tile of 512 positions meets the key tiles
  one after another, each folded into a running maximum, running sums and an accumulator per head. Here are the tile's
  step, the tiles of the key and value blocks, where each of the body's reads lands, and the whole fold.
-/
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.Frame
public import Idealize.ShloMosaic.Lib.Pipeline.Value
public import Idealize.ShloMosaic.Lib.Pipeline.FrameBody
public import Idealize.ShloMosaic.Lib.VecWindow
public import Idealize.ShloMosaic.Lib.Pointwise.Index

@[expose] public section

set_option maxRecDepth 16384

noncomputable section

namespace Cert.KernelIdeal.Fox

open Cert.KernelIdeal Cert.KernelIdeal.Gen
open Idealize.ShloMosaic Idealize.ShloMosaic.TcCoe

variable {F : FTy → Type} [FloatOps F] [Named F]

/-- One head's running state over the key tiles: the maximum, the eight partial sums, the accumulator. -/
abbrev Head (F : FTy → Type) : Type := FVec F S1x512 .f32 × FVec F S8x512 .f32 × Vec F S128x512 .f32

/-- One tile of one head: scores `s` and values `v` folded into the state. -/
def tile (s : FVec F S512x512 .f32) (v : Vec F S128x512 .bf16) (h : Head F) : Head F :=
  (k0_pay9 h.1 s, k0_pay12 h.1 h.2.1 s, k0_pay13 h.1 s v h.2.2)

/-- Tile `n` of the keys: rows `512 n …` (the row taken modulo the array's height, so that every `n` has one). -/
def ktile (K : Vec F S4096x256 .bf16) (n : ℕ) : Vec F S512x256 .bf16 :=
  fun y => K (ix2 ⟨(512 * n + (y 0).val) % 4096, Nat.mod_lt _ (by decide)⟩ (y 1))

/-- Tile `n` of the values: columns `512 n …`. -/
def vtile (V : Vec F S128x4096 .bf16) (n : ℕ) : Vec F S128x512 .bf16 :=
  fun y => V (ix2 (y 0) ⟨(512 * n + (y 1).val) % 4096, Nat.mod_lt _ (by decide)⟩)

/-- The scores of the queries `q` against key tile `n`. -/
def scores (q : Vec F S512x256 .bf16) (K : Vec F S4096x256 .bf16) (n : ℕ) : FVec F S512x512 .f32 :=
  k0_pay1 q (ktile K n)

/-- Tiles `b, b+1, …, b+n-1` in turn. -/
def steps (q : Vec F S512x256 .bf16) (K : Vec F S4096x256 .bf16) (V : Vec F S128x4096 .bf16) (b : ℕ) :
    ℕ → Head F → Head F
  | 0, h => h
  | n + 1, h => tile (scores q K (b + n)) (vtile V (b + n)) (steps q K V b n h)

theorem steps_add (q : Vec F S512x256 .bf16) (K : Vec F S4096x256 .bf16) (V : Vec F S128x4096 .bf16) (b n : ℕ)
    (h : Head F) : ∀ k, steps q K V b (n + k) h = steps q K V (b + n) k (steps q K V b n h)
  | 0 => rfl
  | k + 1 => by
    show tile _ _ (steps q K V b (n + k) h) = tile _ _ _
    rw [steps_add q K V b n h k, Nat.add_assoc]; rfl

theorem hz : (![0, 0] : Fin 2 → Nat) = fun _ => 0 := funext fun a => by fin_cases a <;> rfl

/-- A load of a whole buffer whose last store was a whole store reads that store's payload. -/
theorem readCov_cons_unit_zero {Val : EltTy → Type} [∀ e, Nonempty (Val e)] {S : Shape} {e : EltTy} {sig : RefSig}
    {κ : Kind} {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- A read of 512 rows of the keys from row `512 n` is key tile `n`. -/
theorem ld_ktile (K : Vec F S4096x256 .bf16) {off : Fin 2 → ℕ} (n : ℕ) (h : off = ![512 * n, 0])
    (inb : ∀ a, off a + S512x256.size a ≤ S4096x256.size a) :
    View.ld K (Rect.unit (s := S4096x256) off S512x256.size inb) = ktile K n := by
  subst h
  have hb : 512 * n + 512 ≤ 4096 := inb 0
  funext y
  have hy : (y 0).val < 512 := (y 0).isLt
  refine congrArg K (funext fun a => Fin.ext ?_)
  match a with
  | ⟨0, _⟩ =>
    show 512 * n + 1 * (y 0).val = (512 * n + (y 0).val) % 4096
    rw [Nat.mod_eq_of_lt (by omega)]; omega
  | ⟨1, _⟩ => show 0 + 1 * (y 1).val = (y 1).val; omega

/-- A read of 512 columns of the values from column `512 n` is value tile `n`. -/
theorem ld_vtile (V : Vec F S128x4096 .bf16) {off : Fin 2 → ℕ} (n : ℕ) (h : off = ![0, 512 * n])
    (inb : ∀ a, off a + S128x512.size a ≤ S128x4096.size a) :
    View.ld V (Rect.unit (s := S128x4096) off S128x512.size inb) = vtile V n := by
  subst h
  have hb : 512 * n + 512 ≤ 4096 := inb 1
  funext y
  have hy : (y 1).val < 512 := (y 1).isLt
  refine congrArg V (funext fun a => Fin.ext ?_)
  match a with
  | ⟨0, _⟩ => show 0 + 1 * (y 0).val = (y 0).val; omega
  | ⟨1, _⟩ =>
    show 512 * n + 1 * (y 1).val = (512 * n + (y 1).val) % 4096
    rw [Nat.mod_eq_of_lt (by omega)]; omega

/-! ### Where the reads land -/

theorem off1_eq (i : grid0.Coords) (k : Fin (k0_t1_loop i).trips) (j : Fin 4) :
    k0_off1 i k (BitVec.ofNat 32 j.val) = ![512 * (4 * k.val + j.val), 0] := by
  have h := k.isLt
  have ht := (k0_t1_abs i).2.1
  have hk : k.val = 0 := by omega
  unfold k0_off1
  dsimp only
  rw [hk]; revert j; decide

theorem off2_eq (i : grid0.Coords) (k : Fin (k0_t1_loop i).trips) (j : Fin 4) :
    k0_off2 i k (BitVec.ofNat 32 j.val) = ![0, 512 * (4 * k.val + j.val)] := by
  have h := k.isLt
  have ht := (k0_t1_abs i).2.1
  have hk : k.val = 0 := by omega
  unfold k0_off2
  dsimp only
  rw [hk]; revert j; decide

theorem off5_eq (i : grid0.Coords) (h : (i 2).val % 4 = 3) (j : Fin 3) :
    k0_off5 i (BitVec.ofNat 32 j.val) = ![512 * (4 * ((i 2).val / 4) + j.val), 0] := by
  unfold k0_off5; dsimp only
  generalize i 2 = x at h ⊢
  revert x j; decide +kernel

theorem off7_eq (i : grid0.Coords) (h : (i 2).val % 4 = 3) (j : Fin 3) :
    k0_off7 i (BitVec.ofNat 32 j.val) = ![0, 512 * (4 * ((i 2).val / 4) + j.val)] := by
  unfold k0_off7; dsimp only
  generalize i 2 = x at h ⊢
  revert x j; decide +kernel

theorem off9_eq (i : grid0.Coords) (h : (i 2).val % 4 = 2) (j : Fin 2) :
    k0_off9 i (BitVec.ofNat 32 j.val) = ![512 * (4 * ((i 2).val / 4) + j.val), 0] := by
  unfold k0_off9; dsimp only
  generalize i 2 = x at h ⊢
  revert x j; decide +kernel

theorem off11_eq (i : grid0.Coords) (h : (i 2).val % 4 = 2) (j : Fin 2) :
    k0_off11 i (BitVec.ofNat 32 j.val) = ![0, 512 * (4 * ((i 2).val / 4) + j.val)] := by
  unfold k0_off11; dsimp only
  generalize i 2 = x at h ⊢
  revert x j; decide +kernel

theorem off13_eq (i : grid0.Coords) (h : (i 2).val % 4 = 1) : k0_off13 i = ![512 * (4 * ((i 2).val / 4) + 0), 0] := by
  unfold k0_off13; dsimp only
  generalize i 2 = x at h ⊢
  revert x; decide +kernel

theorem off15_eq (i : grid0.Coords) (h : (i 2).val % 4 = 1) : k0_off15 i = ![0, 512 * (4 * ((i 2).val / 4) + 0)] := by
  unfold k0_off15; dsimp only
  generalize i 2 = x at h ⊢
  revert x; decide +kernel

/-- The loop over four tiles at a time makes `⌊i/4⌋` trips at query tile `i`, the other loop none; and the number of
    tiles left over before the diagonal one decides the branch. -/
theorem trips1_eq (i : grid0.Coords) : (k0_t1_loop i).trips = (i 2).val / 4 := by
  unfold k0_t1_loop; dsimp only
  generalize i 2 = x
  revert x; decide +kernel

theorem cond1_iff (i : grid0.Coords) : k0_cond1 i = 1#1 ↔ (i 2).val % 4 ≠ 0 := by
  unfold k0_cond1; dsimp only
  generalize i 2 = x
  revert x; decide +kernel

theorem cond2_iff (i : grid0.Coords) (h : (i 2).val % 4 ≠ 0) : k0_cond2 i = 1#1 ↔ (i 2).val % 4 ≠ 1 := by
  unfold k0_cond2; dsimp only
  generalize i 2 = x at h ⊢
  revert x; decide +kernel

theorem cond3_iff (i : grid0.Coords) (h : (i 2).val % 4 ≠ 0) (h' : (i 2).val % 4 ≠ 1) :
    k0_cond3 i = 1#1 ↔ (i 2).val % 4 ≠ 2 := by
  unfold k0_cond3; dsimp only
  generalize i 2 = x at h h' ⊢
  revert x; decide +kernel

end Cert.KernelIdeal.Fox
-- ==== Proof.Trip.lean ====
/-
  The kernel's loop over four key tiles at a time: what one trip does, and the loop's invariant.
-/
module

public import proofs.«01_k».proof.Proof.Tiles

@[expose] public section

set_option maxRecDepth 65536

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

variable (𝒱 : Variants) (c : Dev nD) (bd : Option 𝒱.V) (i : grid0.Coords)
  (arg3 : Memref sig .tc .vmem S512x256 .bf16) (harg3 : arg3.IsWhole)
  (arg4 : Memref sig .tc .vmem S4096x256 .bf16) (harg4 : arg4.IsWhole)
  (arg5 : Memref sig .tc .vmem S128x4096 .bf16) (harg5 : arg5.IsWhole)
  (arg6 : Memref sig .tc .vmem S512x128 .bf16) (harg6 : arg6.IsWhole)
  (arg7 : Memref sig .tc .vmem S128x512 .f32) (harg7 : arg7.IsWhole)
  (arg8 : Memref sig .tc .vmem S128x512 .f32) (harg8 : arg8.IsWhole)

/-- What the loop carries of the two heads besides the accumulators. -/
abbrev Carry (F : FTy → Type) : Type :=
  FVec F S1x512 .f32 × FVec F S8x512 .f32 × FVec F S1x512 .f32 × FVec F S8x512 .f32

/-- The carried part of two heads' states. -/
abbrev carry (h0 h1 : Head F) : Carry F := (h0.1, h0.2.1, h1.1, h1.2.1)

/-- One trip folds four tiles into each head's state. -/
theorem trip1 (E : Set ℕ) (v16 v28 : Vec F S512x256 .bf16) (k : Fin (k0_t1_loop i).trips) (h0 h1 : Head F)
    (f4 : BufTy.Contents (Elt F) arg4.view.ty) (f5 : BufTy.Contents (Elt F) arg5.view.ty)
    (f7 : BufTy.Contents (Elt F) arg7.view.ty) (f8 : BufTy.Contents (Elt F) arg8.view.ty)
    (h7 : arg7.view.read (Elt F) f7 = h0.2.2) (h8 : arg8.view.read (Elt F) f8 = h1.2.2) :
    (iprop((arg4.view.loc (c : Thread nD τ) ↦[arg4.view.set]{fullShare} f4)
      ∗ (arg5.view.loc (c : Thread nD τ) ↦[arg5.view.set]{fullShare} f5)
      ∗ (arg7.view.loc (c : Thread nD τ) ↦[arg7.view.set]{fullShare} f7)
      ∗ (arg8.view.loc (c : Thread nD τ) ↦[arg8.view.set]{fullShare} f8)) :
        sProp (MT nD τ sig Unit (Elt F) ℕ (UR sig nD τ) ℕ))
    ⊢ wp frame (wpE (defs₀ (F := F)) 𝒱 (c : Thread nD τ) bd) E
        (k0_t1_body (F := F) i arg3 harg3 arg4 harg4 arg5 harg5 arg6 harg6 arg7 harg7 arg8 harg8 v16 v28 0#32 k (carry h0 h1))
        (fun yld => iprop(
      (arg4.view.loc (c : Thread nD τ) ↦[arg4.view.set]{fullShare} f4)
      ∗ (arg5.view.loc (c : Thread nD τ) ↦[arg5.view.set]{fullShare} f5)
      ∗ (∃ f, (arg7.view.loc (c : Thread nD τ) ↦[arg7.view.set]{fullShare} f) ∗ ⌜arg7.view.read (Elt F) f
          = (steps v16 (arg4.view.read (Elt F) f4) (arg5.view.read (Elt F) f5) (4 * k.val) 4 h0).2.2⌝)
      ∗ (∃ f, (arg8.view.loc (c : Thread nD τ) ↦[arg8.view.set]{fullShare} f) ∗ ⌜arg8.view.read (Elt F) f
          = (steps v28 (arg4.view.read (Elt F) f4) (arg5.view.read (Elt F) f5) (4 * k.val) 4 h1).2.2⌝)
      ∗ ⌜yld = carry (steps v16 (arg4.view.read (Elt F) f4) (arg5.view.read (Elt F) f5) (4 * k.val) 4 h0)
          (steps v28 (arg4.view.read (Elt F) f4) (arg5.view.read (Elt F) f5) (4 * k.val) 4 h1)⌝)) := by
  obtain ⟨m0, l0, A0⟩ := h0
  obtain ⟨m1, l1, A1⟩ := h1
  have a0 : k0_off1 i k 0#32 = ![512 * (4 * k.val + 0), 0] := off1_eq i k 0
  have a1 : k0_off1 i k 1#32 = ![512 * (4 * k.val + 1), 0] := off1_eq i k 1
  have a2 : k0_off1 i k 2#32 = ![512 * (4 * k.val + 2), 0] := off1_eq i k 2
  have a3 : k0_off1 i k 3#32 = ![512 * (4 * k.val + 3), 0] := off1_eq i k 3
  have b0 : k0_off2 i k 0#32 = ![0, 512 * (4 * k.val + 0)] := off2_eq i k 0
  have b1 : k0_off2 i k 1#32 = ![0, 512 * (4 * k.val + 1)] := off2_eq i k 1
  have b2 : k0_off2 i k 2#32 = ![0, 512 * (4 * k.val + 2)] := off2_eq i k 2
  have b3 : k0_off2 i k 3#32 = ![0, 512 * (4 * k.val + 3)] := off2_eq i k 3
  unfold k0_t1_body
  simp only [k0_part1_eq_skeleton, k0_part2_eq_skeleton, k0_part3_eq_skeleton, k0_part4_eq_skeleton, k0_part5_eq_skeleton]
  unfold k0_part1_skel k0_part2_skel k0_part3_skel k0_part4_skel k0_part5_skel
  iintro ⟨HR_arg4, HR_arg5, HW_arg7, HW_arg8⟩
  sl_exec
  sl_step
  isplitl [HR_arg4]; · iexact HR_arg4
  isplitl [HR_arg5]; · iexact HR_arg5
  isplitl [HW_arg7]
  · iexists _; isplitl [HW_arg7]; · iexact HW_arg7
    ipureintro
    sl_unfold_run_names
    sl_unfold_run_names
    dsimp only
    rw [View.read_writes_full]
    simp only [readCov_cons_unit_zero (S := S128x512) _ hz, View.readAt_eq_ld, h7, View.ld_unit_zero (S := S128x512) hz,
      ld_ktile _ _ a0, ld_ktile _ _ a1, ld_ktile _ _ a2, ld_ktile _ _ a3,
      ld_vtile _ _ b0, ld_vtile _ _ b1, ld_vtile _ _ b2, ld_vtile _ _ b3]
    simp only [steps, scores, tile]
    rfl
  isplitl [HW_arg8]
  · iexists _; isplitl [HW_arg8]; · iexact HW_arg8
    ipureintro
    sl_unfold_run_names
    sl_unfold_run_names
    dsimp only
    rw [View.read_writes_full]
    simp only [readCov_cons_unit_zero (S := S128x512) _ hz, View.readAt_eq_ld, h8, View.ld_unit_zero (S := S128x512) hz,
      ld_ktile _ _ a0, ld_ktile _ _ a1, ld_ktile _ _ a2, ld_ktile _ _ a3,
      ld_vtile _ _ b0, ld_vtile _ _ b1, ld_vtile _ _ b2, ld_vtile _ _ b3]
    simp only [steps, scores, tile]
    rfl
  ipureintro
  sl_unfold_run_names
  sl_unfold_run_names
  dsimp only
  simp only [View.readAt_eq_ld,
      ld_ktile _ _ a0, ld_ktile _ _ a1, ld_ktile _ _ a2, ld_ktile _ _ a3]
  simp only [carry, steps, scores, tile]
  rfl

end Cert.KernelIdeal.Fox
-- ==== Proof.Loop.lean ====
/-
  The kernel's two counted loops by their invariants: the first folds four key tiles a trip into each head's state, the
  second, whose trips would fold the tiles left over by four, has none.
-/
module

public import proofs.«01_k».proof.Proof.Trip

@[expose] public section

set_option maxRecDepth 65536

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

variable (𝒱 : Variants) (c : Dev nD) (bd : Option 𝒱.V) (i : grid0.Coords)
  (arg3 : Memref sig .tc .vmem S512x256 .bf16) (harg3 : arg3.IsWhole)
  (arg4 : Memref sig .tc .vmem S4096x256 .bf16) (harg4 : arg4.IsWhole)
  (arg5 : Memref sig .tc .vmem S128x4096 .bf16) (harg5 : arg5.IsWhole)
  (arg6 : Memref sig .tc .vmem S512x128 .bf16) (harg6 : arg6.IsWhole)
  (arg7 : Memref sig .tc .vmem S128x512 .f32) (harg7 : arg7.IsWhole)
  (arg8 : Memref sig .tc .vmem S128x512 .f32) (harg8 : arg8.IsWhole)

/-- A head's state from the carried value and the accumulator's buffer. -/
abbrev head0 (a : Carry F) (f : BufTy.Contents (Elt F) arg7.view.ty) : Head F := (a.1, a.2.1, arg7.view.read (Elt F) f)
abbrev head1 (a : Carry F) (f : BufTy.Contents (Elt F) arg8.view.ty) : Head F := (a.2.2.1, a.2.2.2, arg8.view.read (Elt F) f)

/-- The carried value is that of two heads' states. -/
def Carried (a : Carry F) (h0 h1 : Head F) : Prop := a = carry h0 h1

@[simp] theorem carried_iff (a : Carry F) (h0 h1 : Head F) : Carried a h0 h1 ↔ a = carry h0 h1 := Iff.rfl

@[simp] theorem steps_zero (q : Vec F S512x256 .bf16) (K : Vec F S4096x256 .bf16) (V : Vec F S128x4096 .bf16) (b : ℕ)
    (h : Head F) : steps q K V b 0 h = h := rfl

set_option warn.classDefReducibility false in
/-- Before trip `k` of the first loop each head's state is the fold of tiles `0 … 4k-1` from the state found. -/
@[sl_loop] def loop1 (E : Set ℕ) (v16 v28 : Vec F S512x256 .bf16)
    (f4 : BufTy.Contents (Elt F) arg4.view.ty) (f5 : BufTy.Contents (Elt F) arg5.view.ty)
    (f7 : BufTy.Contents (Elt F) arg7.view.ty) (f8 : BufTy.Contents (Elt F) arg8.view.ty) (init : Carry F) :
    Idealize.ShloMosaic.LoopInv (M := MT nD τ sig Unit (Elt F) ℕ (UR sig nD τ) ℕ) Idealize.ShloMosaic.frame
      (wpE (defs₀ (F := F)) 𝒱 (c : Thread nD τ) bd) E (k0_t1_loop i).lb (k0_t1_loop i).ub (k0_t1_loop i).st (k0_t1_ok i) init
      (k0_t1_body (F := F) i arg3 harg3 arg4 harg4 arg5 harg5 arg6 harg6 arg7 harg7 arg8 harg8 v16 v28 0#32) where
  inv k acc := iprop(
    (arg4.view.loc (c : Thread nD τ) ↦[arg4.view.set]{fullShare} f4)
    ∗ (arg5.view.loc (c : Thread nD τ) ↦[arg5.view.set]{fullShare} f5)
    ∗ (∃ f, (arg7.view.loc (c : Thread nD τ) ↦[arg7.view.set]{fullShare} f) ∗ ⌜arg7.view.read (Elt F) f
        = (steps v16 (arg4.view.read (Elt F) f4) (arg5.view.read (Elt F) f5) 0 (4 * k) (head0 arg7 init f7)).2.2⌝)
    ∗ (∃ f, (arg8.view.loc (c : Thread nD τ) ↦[arg8.view.set]{fullShare} f) ∗ ⌜arg8.view.read (Elt F) f
        = (steps v28 (arg4.view.read (Elt F) f4) (arg5.view.read (Elt F) f5) 0 (4 * k) (head1 arg8 init f8)).2.2⌝)
    ∗ ⌜Carried acc (steps v16 (arg4.view.read (Elt F) f4) (arg5.view.read (Elt F) f5) 0 (4 * k) (head0 arg7 init f7))
        (steps v28 (arg4.view.read (Elt F) f4) (arg5.view.read (Elt F) f5) 0 (4 * k) (head1 arg8 init f8))⌝)
  step k acc := by
    iintro ⟨H4, H5, ⟨%g7, H7, %h7⟩, ⟨%g8, H8, %h8⟩, %ha⟩
    obtain rfl := ha
    iapply (wp_wand_r Idealize.ShloMosaic.frame (wpE (defs₀ (F := F)) 𝒱 (c : Thread nD τ) bd) E)
    isplitl [H4 H5 H7 H8]
    · iapply (trip1 𝒱 c bd i arg3 harg3 arg4 harg4 arg5 harg5 arg6 harg6 arg7 harg7 arg8 harg8 E v16 v28 k _ _ f4 f5 g7 g8 h7 h8)
      isplitl [H4]; · iexact H4
      isplitl [H5]; · iexact H5
      isplitl [H7]; · iexact H7
      iexact H8
    · iintro %yld ⟨H4, H5, ⟨%k7, H7, %e7⟩, ⟨%k8, H8, %e8⟩, %ey⟩
      have s : ∀ (q : Vec F S512x256 .bf16) h, steps q (arg4.view.read (Elt F) f4) (arg5.view.read (Elt F) f5) 0 (4 * (k.val + 1)) h
          = steps q (arg4.view.read (Elt F) f4) (arg5.view.read (Elt F) f5) (4 * k.val) 4
              (steps q (arg4.view.read (Elt F) f4) (arg5.view.read (Elt F) f5) 0 (4 * k.val) h) := fun q h => by
        rw [Nat.mul_add, steps_add, Nat.zero_add]
      isplitl [H4]; · iexact H4
      isplitl [H5]; · iexact H5
      isplitl [H7]
      · iexists _; isplitl [H7]; · iexact H7
        ipureintro; rw [s, e7]
      isplitl [H8]
      · iexists _; isplitl [H8]; · iexact H8
        ipureintro; rw [s, e8]
      ipureintro; rw [s, s]; exact ey

set_option warn.classDefReducibility false in
/-- The second loop has no trip, and so changes nothing. -/
@[sl_loop] def loop2 (E : Set ℕ) (v16 v28 : Vec F S512x256 .bf16) (v80 : BitVec 32)
    (f7 : BufTy.Contents (Elt F) arg7.view.ty) (f8 : BufTy.Contents (Elt F) arg8.view.ty) (init : Carry F) :
    Idealize.ShloMosaic.LoopInv (M := MT nD τ sig Unit (Elt F) ℕ (UR sig nD τ) ℕ) Idealize.ShloMosaic.frame
      (wpE (defs₀ (F := F)) 𝒱 (c : Thread nD τ) bd) E (k0_t2_loop i).lb (k0_t2_loop i).ub (k0_t2_loop i).st (k0_t2_ok i) init
      (k0_t2_body (F := F) i arg3 harg3 arg4 harg4 arg5 harg5 arg6 harg6 arg7 harg7 arg8 harg8 v16 v28 v80) where
  inv _ acc := iprop(
    (∃ f, (arg7.view.loc (c : Thread nD τ) ↦[arg7.view.set]{fullShare} f) ∗ ⌜f = f7⌝)
    ∗ (∃ f, (arg8.view.loc (c : Thread nD τ) ↦[arg8.view.set]{fullShare} f) ∗ ⌜f = f8⌝)
    ∗ ⌜acc = init⌝)
  step k _ := (Nat.not_lt_of_le (k0_t2_abs i).2.1 (Nat.lt_of_le_of_lt (Nat.zero_le _) k.isLt)).elim

end Cert.KernelIdeal.Fox
-- ==== Proof.Body.lean ====
/-
  The kernel's two counted loops by their invariants: the first folds four key tiles a trip into each head's state, the
  second, whose trips would fold the tiles left over by four, has none.
-/
module

public import proofs.«01_k».proof.Proof.Loop

@[expose] public section

set_option maxRecDepth 65536

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

variable (𝒱 : Variants) (c : Dev nD) (bd : Option 𝒱.V) (i : grid0.Coords)
  (arg3 : Memref sig .tc .vmem S512x256 .bf16) (harg3 : arg3.IsWhole)
  (arg4 : Memref sig .tc .vmem S4096x256 .bf16) (harg4 : arg4.IsWhole)
  (arg5 : Memref sig .tc .vmem S128x4096 .bf16) (harg5 : arg5.IsWhole)
  (arg6 : Memref sig .tc .vmem S512x128 .bf16) (harg6 : arg6.IsWhole)
  (arg7 : Memref sig .tc .vmem S128x512 .f32) (harg7 : arg7.IsWhole)
  (arg8 : Memref sig .tc .vmem S128x512 .f32) (harg8 : arg8.IsWhole)

/-- The words the body masks the diagonal tile by: the query tile's first position, its number found again from that by
    a floor division, and the key tile's first position. -/
def rowWord (i : grid0.Coords) : BitVec 32 := Scalar.muli (BitVec.ofNat 32 (i 2).val) 512#32

def numWord (i : grid0.Coords) : BitVec 32 :=
  Scalar.select (Scalar.andi (Scalar.cmpi .ne (Scalar.subi (Scalar.extui (Scalar.cmpi .sgt (rowWord i) 0#32))
      (Scalar.extui (Scalar.cmpi .slt (rowWord i) 0#32))) 1#32) (Scalar.cmpi .ne (Scalar.remsi (rowWord i) 512#32) 0#32))
    (Scalar.subi (Scalar.divsi (rowWord i) 512#32) 1#32) (Scalar.divsi (rowWord i) 512#32)

def keyWord (i : grid0.Coords) : BitVec 32 := Scalar.muli (numWord i) 512#32

theorem rowWord_eq (i : grid0.Coords) : rowWord i = BitVec.ofNat 32 (512 * (i 2).val) := by
  unfold rowWord
  generalize i 2 = x
  revert x; decide +kernel

theorem keyWord_eq (i : grid0.Coords) : keyWord i = BitVec.ofNat 32 (512 * (i 2).val) := by
  unfold keyWord numWord rowWord
  generalize i 2 = x
  revert x; decide +kernel

theorem trips1_eq' (i : grid0.Coords) :
    Scf.trips (k0_t1_loop i).lb (k0_t1_loop i).ub (k0_t1_loop i).st = (i 2).val / 4 := trips1_eq i

/-- The masked scores of the diagonal tile: key `a + k` against query `b + q`. -/
def masked (a b : BitVec 32) (s : FVec F S512x512 .f32) : FVec F S512x512 .f32 :=
  select (cmpi .sle (addi (broadcast S512x512 a) (iota .tc S512x512 32 [0] iota_S512x512_d0_w32))
    (addi (broadcast S512x512 b) (iota .tc S512x512 32 [1] iota_S512x512_d1_w32))) s
    (broadcast S512x512 (Named.named κ "mask" 0xF149F2CA#32))

/-- A head's state before any tile. -/
def init : Head F := (k0_pay240, k0_pay241, k0_pay237)

/-- The diagonal tile `n`, masked by the two words, folded into the state. -/
def diag (a b : BitVec 32) (q : Vec F S512x256 .bf16) (K : Vec F S4096x256 .bf16) (V : Vec F S128x4096 .bf16) (n : ℕ)
    (h : Head F) : Head F :=
  tile (masked a b (scores q K n)) (vtile V n) h

/-- A head's state after every tile of query tile `n`: the tiles before the diagonal, then the diagonal one, masked. -/
def folded (q : Vec F S512x256 .bf16) (K : Vec F S4096x256 .bf16) (V : Vec F S128x4096 .bf16) (n : ℕ) : Head F :=
  diag (BitVec.ofNat 32 (512 * n)) (BitVec.ofNat 32 (512 * n)) q K V n (steps q K V 0 n init)

/-- The two heads' accumulators divided by their sums, transposed and put side by side. -/
def merged (h0 h1 : Head F) : Vec F S512x128 .bf16 := k0_pay259 h0.2.1 h1.2.1 h0.2.2 h1.2.2

/-- What the body writes for query tile `n`. -/
def foxOut (Q : Vec F S512x256 .bf16) (K : Vec F S4096x256 .bf16) (V : Vec F S128x4096 .bf16) (n : ℕ) : Vec F S512x128 .bf16 :=
  merged (folded (k0_pay235 Q) K V n) (folded (k0_pay236 Q) K V n)

/-- The output by the run's words: `n = b + r` tiles before the diagonal, of which the loop has folded `b`. -/
theorem foxOut_split (Q : Vec F S512x256 .bf16) (K : Vec F S4096x256 .bf16) (V : Vec F S128x4096 .bf16) (i : grid0.Coords)
    (r : ℕ) (hn : (i 2).val = 4 * ((i 2).val / 4) + r) :
    foxOut Q K V (i 2).val
      = merged (diag (keyWord i) (rowWord i) (k0_pay235 Q) K V (i 2).val
            (steps (k0_pay235 Q) K V (4 * ((i 2).val / 4)) r (steps (k0_pay235 Q) K V 0 (4 * ((i 2).val / 4)) init)))
          (diag (keyWord i) (rowWord i) (k0_pay236 Q) K V (i 2).val
            (steps (k0_pay236 Q) K V (4 * ((i 2).val / 4)) r (steps (k0_pay236 Q) K V 0 (4 * ((i 2).val / 4)) init))) := by
  have s : ∀ q : Vec F S512x256 .bf16, steps q K V (4 * ((i 2).val / 4)) r (steps q K V 0 (4 * ((i 2).val / 4)) init)
      = steps q K V 0 (i 2).val init := fun q => by
    have e := steps_add q K V 0 (4 * ((i 2).val / 4)) init r
    rw [← hn, Nat.zero_add] at e
    exact e.symm
  rw [keyWord_eq, rowWord_eq, s, s]
  rfl

set_option maxHeartbeats 4000000 in
/-- The body up to its last store: it returns the query tile's output, the accumulators' buffers being its own. -/
theorem part25 (E : Set ℕ)
    (f3 : BufTy.Contents (Elt F) arg3.view.ty) (f4 : BufTy.Contents (Elt F) arg4.view.ty) (f5 : BufTy.Contents (Elt F) arg5.view.ty)
    (f6 : BufTy.Contents (Elt F) arg6.view.ty)
    (f7 : BufTy.Contents (Elt F) arg7.view.ty) (f8 : BufTy.Contents (Elt F) arg8.view.ty) :
    (iprop((arg3.view.loc (c : Thread nD τ) ↦[arg3.view.set]{fullShare} f3)
      ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (arg7.view.loc (c : Thread nD τ) ↦[arg7.view.set]{fullShare} f7)
      ∗ (arg8.view.loc (c : Thread nD τ) ↦[arg8.view.set]{fullShare} f8)) :
        sProp (MT nD τ sig Unit (Elt F) ℕ (UR sig nD τ) ℕ))
    ⊢ wp frame (wpE (defs₀ (F := F)) 𝒱 (c : Thread nD τ) bd) E
        (k0_part25 (F := F) i arg3 harg3 arg4 harg4 arg5 harg5 arg6 harg6 arg7 harg7 arg8 harg8)
        (fun r => iprop(
      (arg3.view.loc (c : Thread nD τ) ↦[arg3.view.set]{fullShare} f3)
      ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ ⌜r = foxOut (arg3.view.read (Elt F) f3) (arg4.view.read (Elt F) f4) (arg5.view.read (Elt F) f5) (i 2).val⌝
      ∗ (∃ f, (arg7.view.loc (c : Thread nD τ) ↦[arg7.view.set]{fullShare} f))
      ∗ (∃ f, (arg8.view.loc (c : Thread nD τ) ↦[arg8.view.set]{fullShare} f)))) := by
  rw [k0_part25_eq_skeleton]
  unfold k0_part25_skel
  rw [k0_part11_eq_skeleton, k0_part12_eq_skeleton, k0_part13_eq_skeleton, k0_part14_eq_skeleton,
    k0_part15_eq_skeleton, k0_part16_eq_skeleton, k0_part17_eq_skeleton, k0_part18_eq_skeleton, k0_part19_eq_skeleton,
    k0_part20_eq_skeleton, k0_part21_eq_skeleton, k0_part22_eq_skeleton, k0_part23_eq_skeleton, k0_part24_eq_skeleton]
  unfold k0_part11_skel k0_part12_skel k0_part13_skel k0_part14_skel k0_part15_skel k0_part16_skel k0_part17_skel
    k0_part18_skel k0_part19_skel k0_part20_skel k0_part21_skel k0_part22_skel k0_part23_skel k0_part24_skel
  obtain ⟨r, hr⟩ : ∃ r, r = (i 2).val % 4 := ⟨_, rfl⟩
  have hr4 : r < 4 := by omega
  have hn : (i 2).val = 4 * ((i 2).val / 4) + r := by omega
  have ldk : ∀ (off : Fin 2 → ℕ) (n : ℕ) (h : off = ![512 * n, 0]) (K : Vec F S4096x256 .bf16)
      (inb : ∀ a, off a + S512x256.size a ≤ S4096x256.size a),
      View.ld K (Rect.unit (s := S4096x256) off S512x256.size inb) = ktile K n := fun _ n h K inb => ld_ktile K n h inb
  have ldv : ∀ (off : Fin 2 → ℕ) (n : ℕ) (h : off = ![0, 512 * n]) (V : Vec F S128x4096 .bf16)
      (inb : ∀ a, off a + S128x512.size a ≤ S128x4096.size a),
      View.ld V (Rect.unit (s := S128x4096) off S128x512.size inb) = vtile V n := fun _ n h V inb => ld_vtile V n h inb
  iintro ⟨H3, H4, H5, H6, H7, H8⟩
  rcases (by omega : r = 0 ∨ r = 1 ∨ r = 2 ∨ r = 3) with rfl | rfl | rfl | rfl
  on_goal 1 =>
    have h1 : ¬ k0_cond1 i = 1#1 := fun e => (cond1_iff i).mp e hr.symm
    have reads := And.intro (ldk _ _ (k0_off17_eq i)) (ldv _ _ (k0_off18_eq i))
    sl_exec (disch := sl_exact h1)
  on_goal 2 =>
    have h1 : k0_cond1 i = 1#1 := (cond1_iff i).mpr (by omega)
    have h2 : ¬ k0_cond2 i = 1#1 := fun e => (cond2_iff i (by omega)).mp e hr.symm
    have reads := And.intro (And.intro (ldk _ _ (off13_eq i hr.symm)) (ldv _ _ (off15_eq i hr.symm)))
      (And.intro (ldk _ _ (k0_off14_eq i)) (ldv _ _ (k0_off16_eq i)))
    sl_exec (disch := first | sl_exact h1 | sl_exact h2)
  on_goal 3 =>
    have h1 : k0_cond1 i = 1#1 := (cond1_iff i).mpr (by omega)
    have h2 : k0_cond2 i = 1#1 := (cond2_iff i (by omega)).mpr (by omega)
    have h3 : ¬ k0_cond3 i = 1#1 := fun e => (cond3_iff i (by omega) (by omega)).mp e hr.symm
    have reads := And.intro (And.intro (And.intro (ldk (k0_off9 i 0#32) _ (off9_eq i hr.symm 0)) (ldk (k0_off9 i 1#32) _ (off9_eq i hr.symm 1)))
        (And.intro (ldv (k0_off11 i 0#32) _ (off11_eq i hr.symm 0)) (ldv (k0_off11 i 1#32) _ (off11_eq i hr.symm 1))))
      (And.intro (ldk _ _ (k0_off10_eq i)) (ldv _ _ (k0_off12_eq i)))
    sl_exec (disch := first | sl_exact h1 | sl_exact h2 | sl_exact h3)
  on_goal 4 =>
    have h1 : k0_cond1 i = 1#1 := (cond1_iff i).mpr (by omega)
    have h2 : k0_cond2 i = 1#1 := (cond2_iff i (by omega)).mpr (by omega)
    have h3 : k0_cond3 i = 1#1 := (cond3_iff i (by omega) (by omega)).mpr (by omega)
    have reads := And.intro (And.intro (And.intro (ldk (k0_off5 i 0#32) _ (off5_eq i hr.symm 0)) (And.intro (ldk (k0_off5 i 1#32) _ (off5_eq i hr.symm 1)) (ldk (k0_off5 i 2#32) _ (off5_eq i hr.symm 2))))
        (And.intro (ldv (k0_off7 i 0#32) _ (off7_eq i hr.symm 0)) (And.intro (ldv (k0_off7 i 1#32) _ (off7_eq i hr.symm 1)) (ldv (k0_off7 i 2#32) _ (off7_eq i hr.symm 2)))))
      (And.intro (ldk _ _ (k0_off6_eq i)) (ldv _ _ (k0_off8_eq i)))
    sl_exec (disch := first | sl_exact h1 | sl_exact h2 | sl_exact h3)
  all_goals
    sl_step
    have e7 : arg7.view.read (Elt F) fL0 = (steps (k0_pay235 (arg3.view.read (Elt F) f3)) (arg4.view.read (Elt F) f4)
        (arg5.view.read (Elt F) f5) 0 (4 * ((i 2).val / 4)) init).2.2 := by
      rw [hL3, trips1_eq', View.readAt_eq_ld, View.ld_unit_zero (S := S512x256) hz]
      sl_unfold_run_names
      unfold head0
      rw [View.read_writes_full]
      rfl
    have e8 : arg8.view.read (Elt F) fL1 = (steps (k0_pay236 (arg3.view.read (Elt F) f3)) (arg4.view.read (Elt F) f4)
        (arg5.view.read (Elt F) f5) 0 (4 * ((i 2).val / 4)) init).2.2 := by
      rw [hL5, trips1_eq', View.readAt_eq_ld, View.ld_unit_zero (S := S512x256) hz]
      sl_unfold_run_names
      unfold head1
      rw [View.read_writes_full]
      rfl
    rename_i acc
    have ea : acc = carry (steps (k0_pay235 (arg3.view.read (Elt F) f3)) (arg4.view.read (Elt F) f4)
        (arg5.view.read (Elt F) f5) 0 (4 * ((i 2).val / 4)) init) (steps (k0_pay236 (arg3.view.read (Elt F) f3)) (arg4.view.read (Elt F) f4)
        (arg5.view.read (Elt F) f5) 0 (4 * ((i 2).val / 4)) init) := by
      rw [hL6, trips1_eq', View.readAt_eq_ld, View.ld_unit_zero (S := S512x256) hz]
      sl_unfold_run_names
      unfold head0 head1
      rw [View.read_writes_full, View.read_writes_full]
      rfl
    clear hL3 hL5 hL6
    isplitl [H3]; · iexact H3
    isplitl [H4]; · iexact H4
    isplitl [H5]; · iexact H5
    isplitl [H6]; · iexact H6
    isplitr
    · ipureintro
      rw [foxOut_split _ _ _ i _ hn]
      generalize hS0 : steps (k0_pay235 (arg3.view.read (Elt F) f3)) (arg4.view.read (Elt F) f4)
        (arg5.view.read (Elt F) f5) 0 (4 * ((i 2).val / 4)) init = S0 at e7 ea ⊢
      generalize hS1 : steps (k0_pay236 (arg3.view.read (Elt F) f3)) (arg4.view.read (Elt F) f4)
        (arg5.view.read (Elt F) f5) 0 (4 * ((i 2).val / 4)) init = S1 at e8 ea ⊢
      clear hS0 hS1
      obtain ⟨m0, l0, A0⟩ := S0
      obtain ⟨m1, l1, A1⟩ := S1
      subst ea
      sl_unfold_run_names
      sl_unfold_run_names
      dsimp only [carry] at e7 e8 ⊢
      simp only [readCov_cons_unit_zero (S := S128x512) _ hz, View.readAt_eq_ld, e7, e8,
        View.ld_unit_zero (S := S128x512) hz, View.ld_unit_zero (S := S512x256) hz,
        reads]
      simp only [merged, diag, steps, scores, tile]
      simp only [keyWord, numWord, rowWord]
      rfl
    isplitl [H7]
    · iexists _; iexact H7
    iexists _; iexact H8

end Cert.KernelIdeal.Fox
-- ==== Proof.Run.lean ====
/-
  The kernel's run: what the body leaves at a grid point, the pipeline's proof data, and the run of the whole program.
-/
module

public import proofs.«01_k».proof.Proof.Body
public import proofs.«01_k».proof.Proof.Gen.KernelIdeal.Frame
public import Idealize.ShloMosaic.Lib.Pipeline.Value
public import Idealize.ShloMosaic.Lib.Quiescent

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

abbrev 𝒱₀ : Variants := Variants.none

variable (m : (ℓ : Loc nD τ sig) → Buf (Elt F) ℓ) (ρ : Dev nD → PrngReg)

section body

variable (c : Dev nD) (i : grid0.Coords)
  (arg3 : Memref sig .tc .vmem S512x256 .bf16) (harg3 : arg3.IsWhole)
  (arg4 : Memref sig .tc .vmem S4096x256 .bf16) (harg4 : arg4.IsWhole)
  (arg5 : Memref sig .tc .vmem S128x4096 .bf16) (harg5 : arg5.IsWhole)
  (arg6 : Memref sig .tc .vmem S512x128 .bf16) (harg6 : arg6.IsWhole)
  (arg7 : Memref sig .tc .vmem S128x512 .f32) (harg7 : arg7.IsWhole)
  (arg8 : Memref sig .tc .vmem S128x512 .f32) (harg8 : arg8.IsWhole)

/-- The body at a grid point: from the three blocks it leaves the query tile's output in the result's buffer. -/
theorem body (E : Set ℕ) (K : PUnit → sProp 𝕄)
    (x3 : Vec F S512x256 .bf16) (x4 : Vec F S4096x256 .bf16) (x5 : Vec F S128x4096 .bf16) :
    iprop(owns (c : Thread nD τ) arg3 fullShare x3 ∗ owns (c : Thread nD τ) arg4 fullShare x4
      ∗ owns (c : Thread nD τ) arg5 fullShare x5 ∗ (∃ d, owns (c : Thread nD τ) arg6 fullShare d)
      ∗ (∃ d, owns (c : Thread nD τ) arg7 fullShare d)
      ∗ (∃ d, owns (c : Thread nD τ) arg8 fullShare d)
      ∗ (iprop(owns (c : Thread nD τ) arg3 fullShare x3 ∗ owns (c : Thread nD τ) arg4 fullShare x4
          ∗ owns (c : Thread nD τ) arg5 fullShare x5 ∗ owns (c : Thread nD τ) arg6 fullShare (foxOut x3 x4 x5 (i 2).val)
          ∗ (∃ d, owns (c : Thread nD τ) arg7 fullShare d)
          ∗ (∃ d, owns (c : Thread nD τ) arg8 fullShare d)) -∗ K ⟨⟩))
    ⊢ wp frame (wpE (defs₀ (F := F)) 𝒱₀ c none) E
        (cc0_fox_attn (F := F) i arg3 harg3 arg4 harg4 arg5 harg5 arg6 harg6 arg7 harg7 arg8 harg8) K := by
  rw [cc0_fox_attn_eq_skeleton]
  unfold cc0_fox_attn_skel
  unfold owns
  iintro ⟨⟨%f3, %hf3, H3⟩, ⟨%f4, %hf4, H4⟩, ⟨%f5, %hf5, H5⟩, ⟨%d6, %f6, -, H6⟩, ⟨%d7, %f7, -, H7⟩, ⟨%d8, %f8, -, H8⟩, Hk⟩
  rw [wp_bind]
  iapply (wp_wand_r frame (wpE (defs₀ (F := F)) 𝒱₀ (c : Thread nD τ) none) E)
  isplitl [H3 H4 H5 H6 H7 H8]
  · iapply (part25 𝒱₀ c none i arg3 harg3 arg4 harg4 arg5 harg5 arg6 harg6 arg7 harg7 arg8 harg8 E f3 f4 f5 f6 f7 f8)
    isplitl [H3]; · iexact H3
    isplitl [H4]; · iexact H4
    isplitl [H5]; · iexact H5
    isplitl [H6]; · iexact H6
    isplitl [H7]; · iexact H7
    iexact H8
  iintro %r ⟨H3, H4, H5, H6, %hr, ⟨%g7, H7⟩, ⟨%g8, H8⟩⟩
  sl_exec
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; swap; · iexact H6
    ipureintro
    sl_unfold_run_names
    rw [View.read_writes_full, hr, hf3, hf4, hf5]
  isplitl [H7]
  · iexists _; iexists _; isplitr; swap; · iexact H7
    ipureintro; rfl
  iexists _; iexists _; isplitr; swap; · iexact H8
  ipureintro; rfl

end body

/-- The core's buffers beside the staged ones: the two accumulators. -/
theorem scratch_eq (c : Dev nD) :
    (Pipeline.scopedRest (Ix := Unit) (Name := ℕ) (U := UR sig nD τ) (Lvl := ℕ) (Val := Elt F) spec0 c : sProp 𝕄)
      = iprop((∃ d, owns (c : Thread nD τ) (Memref.whole cc0_scratch0) fullShare d)
        ∗ (∃ d, owns (c : Thread nD τ) (Memref.whole cc0_scratch1) fullShare d)) := by
  rw [scopedRest0_eq]
  simp only [owns_whole]

/-- Query tile `t`'s output, of the blocks that the pipeline stages at point `t`. -/
def outsAt (c : Dev nD) (t : Fin cfg0.N) : Vec F S512x128 .bf16 :=
  foxOut (iblk m c 0 t) (iblk m c 1 t) (iblk m c 2 t) (grid0.coords t 2).val

/-- The pipeline's proof data: the arrays as launched, every input's buffer at its block, the result's at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outsAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The body keeps the pipeline's invariant at every point and leaves the buffers as the proof data says. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2]
  rw [show (dats m 0 c).Φ t.succ = (dats m 0 c).Φ t.castSucc from rfl,
    show (dats m 0 c).owesAt () t.succ = (dats m 0 c).owesAt () t.castSucc from rfl, after0_0, after0_1, after0_2, after0_3]
  rw [show (dats m 0 c).Φ t.castSucc = Pipeline.ΦA spec0 c from rfl]
  unfold outsAt Pipeline.ΦA
  rw [scratch_eq]
  iintro ⟨⟨⟨HS0, HS1⟩, HR⟩, Ho, ⟨%d0, H0⟩, ⟨%d1, H1⟩, ⟨%d2, H2⟩, ⟨%d3, H3⟩⟩
  iapply (body c (grid0.coords t) _ _ _ _ _ _ _ _ (Memref.whole cc0_scratch0) _ (Memref.whole cc0_scratch1) _ Set.univ _
    (iblk m c 0 t) (iblk m c 1 t) (iblk m c 2 t))
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HS0 HS1 HR]
  · isplitl [HS0 HS1]
    · isplitl [HS0]; · iexact HS0
      iexact HS1
    iexact HR
  isplitl [Ho]; · iexact Ho
  isplitl [H0]; · iexact H0
  isplitl [H1]; · iexact H1
  isplitl [H2]; · iexact H2
  iexact H3

set_option backward.isDefEq.respectTransparency.types false in
/-- From any memory with zero counters the program terminates, every array at what the proof data gives and every
    semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The program leaves its arguments unchanged and every semaphore counter at zero. -/
theorem frame_run :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) fun _ _ => rfl) (run_main (F := F) m ρ)

end Cert.KernelIdeal.Fox

end
-- ==== Proof.Softmax.lean ====
/-
  Base-2 softmax over the extended reals: the weight `2^(s - m)` of a score `s` against a maximum `m`, how a weight is
  rescaled when the maximum grows, and a running softmax — maximum, sum of weights, weighted sum of values — that meets the
  scores in groups. Nothing here knows of a kernel.
-/
module

public import Idealize.ShloMosaic.PureOps.Ideal
public import Mathlib.Tactic.Ring
public import Mathlib.Tactic.NormNum

@[expose] public section

noncomputable section

namespace Cert.Softmax

open Idealize.ShloMosaic Finset

/-- The weight of the score `s` against the maximum `m`. -/
def wt (s m : EReal) : EReal := Ideal.exp2 (s - m)

theorem exp2_nonneg (x : EReal) : 0 ≤ Ideal.exp2 x := by
  induction x with
  | bot => simp
  | top => simp
  | coe r => rw [Ideal.exp2_coe]; exact_mod_cast Real.rpow_nonneg (by norm_num) r

theorem wt_nonneg (s m : EReal) : 0 ≤ wt s m := exp2_nonneg _

/-- A masked score has no weight, whatever the maximum. -/
theorem wt_bot (m : EReal) : wt ⊥ m = 0 := by
  unfold wt; rw [sub_eq_add_neg, EReal.bot_add, Ideal.exp2_bot]

theorem wt_ne_top {s m : EReal} (h : s ≤ m) : wt s m ≠ ⊤ := by
  unfold wt
  induction s with
  | bot => rw [sub_eq_add_neg, EReal.bot_add]; simp
  | top => obtain rfl : m = ⊤ := top_le_iff.1 h; rw [sub_eq_add_neg, EReal.neg_top, EReal.add_bot]; simp
  | coe a =>
    induction m with
    | bot => simp at h
    | top => rw [sub_eq_add_neg, EReal.neg_top, EReal.add_bot]; simp
    | coe b => rw [← EReal.coe_sub, Ideal.exp2_coe]; exact EReal.coe_ne_top _

/-- When the maximum grows from `m` to `m'`, every weight is multiplied by the weight of `m` against `m'`. -/
theorem wt_rescale {s m m' : EReal} (h : s ≤ m) (h' : m ≤ m') : wt m m' * wt s m = wt s m' := by
  induction s with
  | bot => rw [wt_bot, wt_bot, mul_zero]
  | top =>
    obtain rfl : m = ⊤ := top_le_iff.1 h
    obtain rfl : m' = ⊤ := top_le_iff.1 h'
    unfold wt; rw [sub_eq_add_neg, EReal.neg_top, EReal.add_bot]; simp
  | coe a =>
    induction m with
    | bot => simp at h
    | top =>
      obtain rfl : m' = ⊤ := top_le_iff.1 h'
      unfold wt; rw [sub_eq_add_neg, sub_eq_add_neg, EReal.neg_top, EReal.add_bot, EReal.add_bot]; simp
    | coe b =>
      induction m' with
      | bot => simp at h'
      | top => unfold wt; simp [sub_eq_add_neg]
      | coe c =>
        unfold wt
        rw [← EReal.coe_sub, ← EReal.coe_sub, ← EReal.coe_sub, Ideal.exp2_coe, Ideal.exp2_coe, Ideal.exp2_coe,
          ← EReal.coe_mul]
        congr 1
        show (2 : ℝ) ^ (b - c) * (2 : ℝ) ^ (a - b) = (2 : ℝ) ^ (a - c)
        rw [← Real.rpow_add (by norm_num)]; congr 1; ring

/-- A non-negative factor that is not `⊤` goes into a finite sum. -/
theorem mul_sum' {ι : Type*} {a : EReal} (h0 : 0 ≤ a) (ht : a ≠ ⊤) (T : Finset ι) (f : ι → EReal) :
    a * ∑ i ∈ T, f i = ∑ i ∈ T, a * f i := by
  classical
  induction T using Finset.induction_on with
  | empty => simp
  | insert i T hi ih => rw [sum_insert hi, sum_insert hi, EReal.left_distrib_of_nonneg_of_ne_top h0 ht, ih]

/-- The weighted sum over a set of scores, rescaled to a greater maximum. -/
theorem rescale_sum {ι : Type*} (T : Finset ι) (s v : ι → EReal) {m m' : EReal} (hm : ∀ i ∈ T, s i ≤ m) (h : m ≤ m') :
    wt m m' * ∑ i ∈ T, v i * wt (s i) m = ∑ i ∈ T, v i * wt (s i) m' := by
  rw [mul_sum' (wt_nonneg _ _) (wt_ne_top h)]
  refine sum_congr rfl fun i hi => ?_
  rw [mul_left_comm, wt_rescale (hm i hi) h]

/-- The same with every value one: the sum of the weights. -/
theorem rescale_sum_one {ι : Type*} (T : Finset ι) (s : ι → EReal) {m m' : EReal} (hm : ∀ i ∈ T, s i ≤ m) (h : m ≤ m') :
    wt m m' * ∑ i ∈ T, wt (s i) m = ∑ i ∈ T, wt (s i) m' := by
  have := rescale_sum T s (fun _ => 1) hm h
  simpa only [one_mul] using this

/-- The greatest of the first `n` scores (`⊥` when there is none). -/
def top (s : ℕ → EReal) (n : ℕ) : EReal := (range n).sup s

theorem le_top {s : ℕ → EReal} {n i : ℕ} (h : i < n) : s i ≤ top s n := le_sup (f := s) (mem_range.2 h)

theorem top_add (s : ℕ → EReal) (n k : ℕ) : top s (n + k) = max (top s n) ((range k).sup fun i => s (n + i)) := by
  unfold top
  refine le_antisymm (Finset.sup_le fun i hi => ?_) (max_le (sup_mono (range_mono (Nat.le_add_right ..)))
    (Finset.sup_le fun i hi => le_sup (f := s) (mem_range.2 (by have := mem_range.1 hi; omega))))
  rcases lt_or_ge i n with h | h
  · exact le_max_of_le_left (le_sup (f := s) (mem_range.2 h))
  · refine le_max_of_le_right ?_
    have : s i = (fun j => s (n + j)) (i - n) := by show s i = s (n + (i - n)); congr 1; omega
    rw [this]; exact le_sup (f := fun j => s (n + j)) (mem_range.2 (by have := mem_range.1 hi; omega))

theorem top_le_add (s : ℕ → EReal) (n k : ℕ) : top s n ≤ top s (n + k) := by rw [top_add]; exact le_max_left _ _

/-- The weighted sum of the first `n` values, against the greatest of the first `n` scores. -/
def acc (s v : ℕ → EReal) (n : ℕ) : EReal := ∑ i ∈ range n, v i * wt (s i) (top s n)

/-- The sum of the first `n` weights. -/
def den (s : ℕ → EReal) (n : ℕ) : EReal := ∑ i ∈ range n, wt (s i) (top s n)

/-- The part of that sum at positions `≡ r` modulo 8, over `8 n` positions. -/
def part (s : ℕ → EReal) (r n : ℕ) : EReal := ∑ i ∈ range n, wt (s (8 * i + r)) (top s (8 * n))

theorem acc_add (s v : ℕ → EReal) (n k : ℕ) :
    acc s v (n + k) = wt (top s n) (top s (n + k)) * acc s v n
      + ∑ i ∈ range k, v (n + i) * wt (s (n + i)) (top s (n + k)) := by
  unfold acc
  rw [rescale_sum _ s v (fun i hi => le_top (mem_range.1 hi)) (top_le_add s n k), sum_range_add]

theorem part_add (s : ℕ → EReal) {r : ℕ} (hr : r < 8) (n k : ℕ) :
    part s r (n + k) = wt (top s (8 * n)) (top s (8 * n + 8 * k)) * part s r n
      + ∑ i ∈ range k, wt (s (8 * n + (8 * i + r))) (top s (8 * n + 8 * k)) := by
  unfold part
  rw [rescale_sum_one (range n) (fun i => s (8 * i + r))
    (fun i hi => le_top (by have := mem_range.1 hi; omega)) (top_le_add s (8 * n) (8 * k)), sum_range_add, ← Nat.mul_add]
  congr 1
  refine sum_congr rfl fun i _ => ?_
  congr 2; ring

/-- The eight parts make up the sum of the weights. -/
theorem sum_part (s : ℕ → EReal) (n : ℕ) : ∑ r ∈ range 8, part s r n = den s (8 * n) := by
  unfold part den
  generalize top s (8 * n) = M
  rw [sum_comm]
  induction n with
  | zero => simp
  | succ n ih => rw [sum_range_succ, ih, Nat.mul_succ, sum_range_add]

/-- What masked scores add: nothing. Beyond position `n` every score is `⊥`. -/
theorem top_of_masked {s : ℕ → EReal} {n N : ℕ} (h : n ≤ N) (hs : ∀ i, n ≤ i → s i = ⊥) : top s N = top s n := by
  obtain ⟨k, rfl⟩ := Nat.exists_eq_add_of_le h
  rw [top_add]
  refine max_eq_left (Finset.sup_le fun i _ => ?_)
  rw [hs _ (Nat.le_add_right ..)]; exact bot_le

theorem acc_of_masked {s : ℕ → EReal} (v : ℕ → EReal) {n N : ℕ} (h : n ≤ N) (hs : ∀ i, n ≤ i → s i = ⊥) :
    acc s v N = acc s v n := by
  unfold acc
  rw [top_of_masked h hs]
  obtain ⟨k, rfl⟩ := Nat.exists_eq_add_of_le h
  rw [sum_range_add]
  refine (congrArg _ (sum_eq_zero fun i _ => ?_)).trans (add_zero _)
  rw [hs _ (Nat.le_add_right ..), wt_bot, mul_zero]

theorem den_of_masked {s : ℕ → EReal} {n N : ℕ} (h : n ≤ N) (hs : ∀ i, n ≤ i → s i = ⊥) : den s N = den s n := by
  have := acc_of_masked (fun _ => 1) h hs
  unfold acc at this; unfold den
  simpa only [one_mul] using this

/-- With a score that is a number among the first `n`, and none of them `⊤`, the weights' sum is a positive number. -/
theorem den_pos {s : ℕ → EReal} {n i : ℕ} (hi : i < n) (h : s i ≠ ⊥) (ht : ∀ j, s j ≠ ⊤) : 0 < den s n ∧ den s n ≠ ⊤ := by
  have hM : top s n ≠ ⊤ := fun e => by
    have := (Finset.sup_lt_iff (s := range n) (f := s) (a := ⊤) (by simp)).2 fun j _ => lt_top_iff_ne_top.2 (ht j)
    exact this.ne e
  have hM' : top s n ≠ ⊥ := fun e => h (le_bot_iff.1 (e ▸ le_top hi))
  constructor
  · refine lt_of_lt_of_le ?_ (single_le_sum (fun j _ => wt_nonneg _ _) (mem_range.2 hi))
    unfold wt
    lift top s n to ℝ using ⟨hM, hM'⟩ with M
    lift s i to ℝ using ⟨ht i, h⟩ with a
    rw [← EReal.coe_sub, Ideal.exp2_coe]
    exact_mod_cast Real.rpow_pos_of_pos (by norm_num) (a - M)
  · unfold den
    have : ∀ T ⊆ range n, ∑ j ∈ T, wt (s j) (top s n) ≠ ⊤ := by
      intro T hT
      induction T using Finset.induction_on with
      | empty => simp
      | insert j T hj ih =>
        rw [sum_insert hj]
        exact EReal.add_ne_top (wt_ne_top (le_top (mem_range.1 (hT (mem_insert_self _ _)))))
          (ih fun x hx => hT (mem_insert_of_mem hx))
    exact this _ (Subset.refl _)

/-- Dividing the weighted sum by a positive number is weighting by the divided weights. -/
theorem div_acc {s v : ℕ → EReal} {n : ℕ} {L : EReal} (h0 : 0 < L) (ht : L ≠ ⊤) :
    Ideal.div (acc s v n) L = ∑ i ∈ range n, Ideal.div (wt (s i) (top s n)) L * v i := by
  have hL : L ≠ 0 := h0.ne'
  have hi : 0 ≤ L⁻¹ := EReal.inv_nonneg_of_nonneg h0.le
  have hit : L⁻¹ ≠ ⊤ := by
    lift L to ℝ using ⟨ht, (bot_lt_iff_ne_bot.1 (lt_trans EReal.bot_lt_zero h0))⟩ with l
    rw [← EReal.coe_inv]; exact EReal.coe_ne_top _
  unfold Ideal.div
  simp only [if_neg hL]
  unfold acc
  rw [mul_comm, mul_sum' hi hit]
  refine sum_congr rfl fun i _ => ?_
  rw [mul_comm (v i), ← mul_assoc, mul_comm (L⁻¹)]

end Cert.Softmax

end
-- ==== Proof.Formula.lean ====
/-
  Causal attention of base-2 scores, one entry at a time: from packed queries and keys (per pair of heads 256 columns — the
  two heads' 64 coordinates each, then their 6 bias coordinates each) and transposed values, as sums over key positions.
-/
module

public import proofs.«01_k».proof.Proof.Softmax
public import Idealize.ShloMosaic.Lib.Pointwise

@[expose] public section

noncomputable section

namespace Cert.Attention

open Idealize.ShloMosaic Finset Cert.Softmax

/-- The greatest of the first `n` scores, as a fold of `max` over them. -/
theorem fold_max_eq (n : ℕ) (f : Fin n → EReal) (s : ℕ → EReal) (h : ∀ i : Fin n, f i = s i) :
    Finset.univ.fold max ⊥ f = (range n).sup s := by
  show Finset.univ.sup f = _
  refine le_antisymm (Finset.sup_le fun i _ => ?_) (Finset.sup_le fun i hi => ?_)
  · rw [h]; exact le_sup (f := s) (mem_range.2 i.2)
  · rw [← h ⟨i, mem_range.1 hi⟩]; exact le_sup (f := f) (mem_univ _)

theorem ofBits_neg_inf : Ideal.ofBits .f32 0xFF800000#32 = ⊥ := by simp [Ideal.ofBits, Ideal.ieee]

theorem ofBits_inf : Ideal.ofBits .f32 0x7F800000#32 = ⊤ := by simp [Ideal.ofBits, Ideal.ieee]

theorem ofBits_two : Ideal.ofBits .f32 0x40000000#32 = ((2 : ℝ) : EReal) := by
  simp [Ideal.ofBits, Ideal.ieee]
  rw [← EReal.coe_mul]; norm_num

/-- Two to a power is `exp2`. -/
theorem pow_two (x : EReal) : Ideal.pow ((2 : ℝ) : EReal) x = Ideal.exp2 x := by
  induction x with
  | bot => show (if (2 : ℝ) < 0 then (⊥ : EReal) else if 1 < (2 : ℝ) then 0 else if (2 : ℝ) = 1 then 1 else ⊤) = 0; norm_num
  | top => show (if (2 : ℝ) < 0 then (⊥ : EReal) else if 1 < (2 : ℝ) then ⊤ else if (2 : ℝ) = 1 then 1 else 0) = ⊤; norm_num
  | coe r => rfl

/-- Packed queries or keys. -/
abbrev Packed : Type := (⟨2, ![65536, 1024]⟩ : Shape).Idx → EReal

/-- Transposed values. -/
abbrev Values : Type := (⟨2, ![512, 65536]⟩ : Shape).Idx → EReal

/-- The row of position `p` of sequence `b`. -/
def row (b : Fin 16) (p : Fin 4096) : Fin 65536 := ⟨b * 4096 + p, by omega⟩

/-- The column of head `h`'s coordinate `e`. -/
def mainCol (h : Fin 8) (e : Fin 64) : Fin 1024 := ⟨h / 2 * 256 + (h % 2 * 64 + e), by omega⟩

/-- The column of head `h`'s bias coordinate `e`. -/
def biasCol (h : Fin 8) (e : Fin 6) : Fin 1024 := ⟨h / 2 * 256 + (128 + (h % 2 * 6 + e)), by omega⟩

/-- The score of the query at `p` against the key at `k`. -/
def logit (Q K : Packed) (b : Fin 16) (h : Fin 8) (p k : Fin 4096) : EReal :=
  ∑ e : Fin 64, Q (ix2 (row b p) (mainCol h e)) * K (ix2 (row b k) (mainCol h e))
    + ∑ e : Fin 6, Q (ix2 (row b p) (biasCol h e)) * K (ix2 (row b k) (biasCol h e))

/-- The scores of the query at `p`, position by position: a key after it is masked. -/
def seq (Q K : Packed) (b : Fin 16) (h : Fin 8) (p : Fin 4096) (k : ℕ) : EReal :=
  if hk : k ≤ p then logit Q K b h p ⟨k, by omega⟩ else ⊥

/-- Coordinate `d` of the values, position by position. -/
def val (V : Values) (b : Fin 16) (h : Fin 8) (d : Fin 64) (k : ℕ) : EReal :=
  V (ix2 ⟨h * 64 + d, by omega⟩ (row b ⟨k % 4096, Nat.mod_lt _ (by decide)⟩))

/-- Attention: the values' sum, weighted by the powers of two of the scores, over the weights' sum. -/
def attend (Q K : Packed) (V : Values) (b : Fin 16) (h : Fin 8) (p : Fin 4096) (d : Fin 64) : EReal :=
  Ideal.div (acc (seq Q K b h p) (val V b h d) 4096) (den (seq Q K b h p) 4096)

/-- The array of a kernel's result: entry `(r, j)` is position `r % 4096` of sequence `r / 4096`, coordinate `j % 64` of
    head `j / 64`. -/
def attention (Q K : Packed) (V : Values) : (⟨2, ![65536, 512]⟩ : Shape).Idx → EReal := fun i =>
  attend Q K V ⟨(i 0).val / 4096, by have : (i 0).val < 65536 := (i 0).2; omega⟩
    ⟨(i 1).val / 64, by have : (i 1).val < 512 := (i 1).2; omega⟩ ⟨(i 0).val % 4096, Nat.mod_lt _ (by decide)⟩
    ⟨(i 1).val % 64, Nat.mod_lt _ (by decide)⟩

/-- Every entry is a number. -/
def Finite (A : Packed) : Prop := ∀ i, A i ≠ ⊥ ∧ A i ≠ ⊤

theorem sum_mul_finite {n : ℕ} (f g : Fin n → EReal) (hf : ∀ i, f i ≠ ⊥ ∧ f i ≠ ⊤) (hg : ∀ i, g i ≠ ⊥ ∧ g i ≠ ⊤) :
    ∃ r : ℝ, ∑ i, f i * g i = (r : EReal) := by
  refine ⟨∑ i, (f i).toReal * (g i).toReal, ?_⟩
  have hs : ((∑ i, (f i).toReal * (g i).toReal : ℝ) : EReal) = ∑ i, (((f i).toReal * (g i).toReal : ℝ) : EReal) :=
    map_sum (⟨⟨fun x : ℝ => (x : EReal), EReal.coe_zero⟩, EReal.coe_add⟩ : ℝ →+ EReal) _ _
  rw [hs]
  refine sum_congr rfl fun i _ => ?_
  rw [EReal.coe_mul, EReal.coe_toReal (hf i).2 (hf i).1, EReal.coe_toReal (hg i).2 (hg i).1]

theorem logit_finite {Q K : Packed} (hQ : Finite Q) (hK : Finite K) (b : Fin 16) (h : Fin 8) (p k : Fin 4096) :
    ∃ r : ℝ, logit Q K b h p k = (r : EReal) := by
  obtain ⟨r, hr⟩ := sum_mul_finite (fun e => Q (ix2 (row b p) (mainCol h e))) (fun e => K (ix2 (row b k) (mainCol h e)))
    (fun _ => hQ _) (fun _ => hK _)
  obtain ⟨t, ht⟩ := sum_mul_finite (fun e => Q (ix2 (row b p) (biasCol h e))) (fun e => K (ix2 (row b k) (biasCol h e)))
    (fun _ => hQ _) (fun _ => hK _)
  exact ⟨r + t, by unfold logit; rw [hr, ht, EReal.coe_add]⟩

theorem seq_ne_top {Q K : Packed} (hQ : Finite Q) (hK : Finite K) (b : Fin 16) (h : Fin 8) (p : Fin 4096) (k : ℕ) :
    seq Q K b h p k ≠ ⊤ := by
  unfold seq
  split
  · obtain ⟨r, hr⟩ := logit_finite hQ hK b h p ⟨k, by omega⟩
    rw [hr]; exact EReal.coe_ne_top r
  · exact bot_ne_top

/-- The query's own position is never masked, so the sum of its weights is a positive number. -/
theorem den_seq {Q K : Packed} (hQ : Finite Q) (hK : Finite K) (b : Fin 16) (h : Fin 8) (p : Fin 4096) :
    0 < den (seq Q K b h p) 4096 ∧ den (seq Q K b h p) 4096 ≠ ⊤ := by
  refine den_pos p.2 ?_ (seq_ne_top hQ hK b h p)
  unfold seq
  rw [dif_pos le_rfl]
  obtain ⟨r, hr⟩ := logit_finite hQ hK b h p ⟨p, p.2⟩
  rw [hr]; exact EReal.coe_ne_bot r

/-- Attention over the positions up to any `n` beyond the query's: the rest is masked. -/
theorem attend_eq (Q K : Packed) (V : Values) (b : Fin 16) (h : Fin 8) (p : Fin 4096) (d : Fin 64) {n : ℕ}
    (hp : p.val < n) (hn : n ≤ 4096) :
    attend Q K V b h p d = Ideal.div (acc (seq Q K b h p) (val V b h d) n) (den (seq Q K b h p) n) := by
  have hs : ∀ i, n ≤ i → seq Q K b h p i = ⊥ := fun i hi => dif_neg (by omega)
  unfold attend
  rw [acc_of_masked _ hn hs, den_of_masked hn hs]

/-- Attention with the weights divided first. -/
theorem attend_eq_sum {Q K : Packed} (hQ : Finite Q) (hK : Finite K) (V : Values) (b : Fin 16) (h : Fin 8)
    (p : Fin 4096) (d : Fin 64) :
    attend Q K V b h p d = ∑ k ∈ range 4096,
      Ideal.div (wt (seq Q K b h p k) (top (seq Q K b h p) 4096)) (den (seq Q K b h p) 4096) * val V b h d k :=
  div_acc (den_seq hQ hK b h p).1 (den_seq hQ hK b h p).2

end Cert.Attention

end
-- ==== Proof.Seen.lean ====
/-
  The kernel's tile arithmetic over the extended reals: after `n` tiles of keys, a head's state holds — for each query of
  the tile — the greatest of the `512 n` scores it has met, the eight parts of the weights' sum and the weighted sum of the
  values. `Softmax.lean` says what these are; here each of the kernel's operations is read at an entry.
-/
module

public import proofs.«01_k».proof.Proof.Body
public import proofs.«01_k».proof.Proof.Formula
public import Idealize.ShloMosaic.Lib.Pointwise
public import Idealize.ShloMosaic.Lib.WordCmp

@[expose] public section

set_option maxRecDepth 16384

noncomputable section

namespace Cert.KernelIdeal.Fox

open Cert.KernelIdeal Cert.KernelIdeal.Gen
open Idealize.ShloMosaic Idealize.ShloMosaic.TcCoe Idealize.SL.Sem
open Cert.Attention Cert.Softmax

/-! ## The operations at an entry -/

theorem mask_eq : (Named.named κ "mask" 0xF149F2CA#32 : Ideal .f32) = (⊥ : EReal) :=
  IdealRules.named_const.ideal_named_scalar _ _ _ _ rfl

theorem max_at (m : FVec Ideal S1x512 .f32) (s : FVec Ideal S512x512 .f32) (x : Fin 512) :
    k0_pay9 (F := Ideal) m s (ix2 0 x) = max (m (ix2 0 x)) (Finset.univ.fold max ⊥ fun i : Fin 512 => s (ix2 i x)) := by
  pointwise [k0_pay9]
  rw [ofBits_neg_inf]

theorem sum_at (m : FVec Ideal S1x512 .f32) (l : FVec Ideal S8x512 .f32) (s : FVec Ideal S512x512 .f32) (r : Fin 8)
    (x : Fin 512) :
    k0_pay12 (F := Ideal) m l s (ix2 r x) = wt (m (ix2 0 x)) (k0_pay9 (F := Ideal) m s (ix2 0 x)) * l (ix2 r x)
      + ∑ i : Fin 64, wt (s (ix2 ⟨i * 8 + r, by omega⟩ x)) (k0_pay9 (F := Ideal) m s (ix2 0 x)) := by
  pointwise [k0_pay12, k0_pay11, k0_pay10]
  rfl

theorem acc_at (m : FVec Ideal S1x512 .f32) (s : FVec Ideal S512x512 .f32) (v : Vec Ideal S128x512 .bf16)
    (a : Vec Ideal S128x512 .f32) (d : Fin 128) (x : Fin 512) :
    (show EReal from k0_pay13 (F := Ideal) m s v a (ix2 d x))
      = wt (m (ix2 0 x)) (k0_pay9 (F := Ideal) m s (ix2 0 x)) * (show EReal from a (ix2 d x))
      + ∑ i : Fin 512, (show EReal from v (ix2 d i)) * wt (s (ix2 i x)) (k0_pay9 (F := Ideal) m s (ix2 0 x)) := by
  pointwise [k0_pay13, k0_pay11, k0_pay10]
  rfl

theorem scores_at (q : Vec Ideal S512x256 .bf16) (K : Vec Ideal S4096x256 .bf16) (n : ℕ) (i x : Fin 512) :
    (show EReal from scores q K n (ix2 i x)) = ∑ l : Fin 256,
      (show EReal from K (ix2 ⟨(512 * n + i) % 4096, Nat.mod_lt _ (by decide)⟩ l)) * (show EReal from q (ix2 x l)) := by
  unfold scores
  pointwise [k0_pay1]
  rfl

theorem masked_at (n : ℕ) (hn : n < 8) (s : FVec Ideal S512x512 .f32) (i x : Fin 512) :
    masked (F := Ideal) (BitVec.ofNat 32 (512 * n)) (BitVec.ofNat 32 (512 * n)) s (ix2 i x)
      = if i ≤ x then s (ix2 i x) else (⊥ : EReal) := by
  pointwise [masked]
  rw [mask_eq]
  have hi : i.val < 512 := i.2
  have hx : x.val < 512 := x.2
  have ea (a b : ℕ) : IntOp.addi (BitVec.ofNat 32 a) (BitVec.ofNat 32 b) = BitVec.ofNat 32 (a + b) :=
    (BitVec.ofNat_add ..).symm
  rw [ea, ea]
  simp (disch := word_cmp_side) only [hlo_ix]
  by_cases h : i ≤ x
  · rw [if_pos h, if_pos (by have : i.val ≤ x.val := h; omega)]
  · rw [if_neg h, if_neg (by have : ¬ i.val ≤ x.val := h; omega)]

/-- The lanes of one head: its 64 coordinates and its 6 bias coordinates. -/
def lane (c : Fin 2) (l : Fin 256) : Prop :=
  64 * c.val ≤ l.val ∧ l.val < 64 * c.val + 64 ∨ 128 + 6 * c.val ≤ l.val ∧ l.val < 128 + 6 * c.val + 6

instance (c : Fin 2) (l : Fin 256) : Decidable (lane c l) := inferInstanceAs (Decidable (_ ∨ _))

theorem lane_word0 : ∀ l : Fin 256, (IntOp.ori
    (IntOp.andi (IntOp.cmpi .sge (BitVec.ofNat 32 l.val) 0#32) (IntOp.cmpi .slt (BitVec.ofNat 32 l.val) 64#32))
    (IntOp.andi (IntOp.cmpi .sge (IntOp.subi (BitVec.ofNat 32 l.val) 128#32) 0#32)
      (IntOp.cmpi .slt (IntOp.subi (BitVec.ofNat 32 l.val) 128#32) 6#32))) = BitVec.ofBool (decide (lane 0 l)) := by
  decide

theorem lane_word1 : ∀ l : Fin 256, (IntOp.ori
    (IntOp.andi (IntOp.cmpi .sge (BitVec.ofNat 32 l.val) 64#32) (IntOp.cmpi .slt (BitVec.ofNat 32 l.val) 128#32))
    (IntOp.andi (IntOp.cmpi .sge (IntOp.subi (BitVec.ofNat 32 l.val) 128#32) 6#32)
      (IntOp.cmpi .slt (IntOp.subi (BitVec.ofNat 32 l.val) 128#32) 12#32))) = BitVec.ofBool (decide (lane 1 l)) := by
  decide

theorem select_ofBool {α : Type} (p : Prop) [Decidable p] (a b : α) :
    Scalar.select (BitVec.ofBool (decide p)) a b = if p then a else b := by
  by_cases h : p <;> simp [Scalar.select, h]

/-- The queries with every other head's lanes zeroed. -/
theorem query0_at (q : Vec Ideal S512x256 .bf16) (x : Fin 512) (l : Fin 256) :
    (show EReal from k0_pay235 (F := Ideal) q (ix2 x l)) = if lane 0 l then (show EReal from q (ix2 x l)) else 0 := by
  pointwise [k0_pay235, k0_pay233, k0_pay234]
  rw [lane_word0, select_ofBool]

theorem query1_at (q : Vec Ideal S512x256 .bf16) (x : Fin 512) (l : Fin 256) :
    (show EReal from k0_pay236 (F := Ideal) q (ix2 x l)) = if lane 1 l then (show EReal from q (ix2 x l)) else 0 := by
  pointwise [k0_pay236, k0_pay233, k0_pay234]
  rw [lane_word1, select_ofBool]

/-! ## The lanes of a head -/

/-- A sum that is zero outside one block of positions is that block's. -/
theorem sum_block (G : ℕ → EReal) (a n N : ℕ) (h : a + n ≤ N) (h0 : ∀ i, ¬(a ≤ i ∧ i < a + n) → G i = 0) :
    ∑ i ∈ Finset.range N, G i = ∑ i ∈ Finset.range n, G (a + i) := by
  obtain ⟨m, rfl⟩ := Nat.exists_eq_add_of_le h
  rw [Finset.sum_range_add, Finset.sum_range_add,
    Finset.sum_eq_zero (s := Finset.range a) fun i hi => h0 i (by have := Finset.mem_range.1 hi; omega),
    Finset.sum_eq_zero (s := Finset.range m) fun i _ => h0 _ (by omega), zero_add, add_zero]

/-- A product summed over the 256 lanes, with all but one head's zeroed, is the sum over that head's. -/
theorem sum_lanes (c : Fin 2) (q k : Fin 256 → EReal) :
    ∑ l, k l * (if lane c l then q l else 0)
      = ∑ e : Fin 64, q ⟨64 * c + e, by omega⟩ * k ⟨64 * c + e, by omega⟩
        + ∑ e : Fin 6, q ⟨128 + 6 * c + e, by omega⟩ * k ⟨128 + 6 * c + e, by omega⟩ := by
  have hc : c.val < 2 := c.2
  let f : ℕ → EReal := fun l => if h : l < 256 then q ⟨l, h⟩ * k ⟨l, h⟩ else 0
  have key : ∑ l, k l * (if lane c l then q l else 0)
      = ∑ l ∈ Finset.range 256, ((if 64 * c.val ≤ l ∧ l < 64 * c.val + 64 then f l else 0)
        + (if 128 + 6 * c.val ≤ l ∧ l < 128 + 6 * c.val + 6 then f l else 0)) := by
    rw [Finset.sum_range]
    refine Finset.sum_congr rfl fun l _ => ?_
    have hf : f l.val = q l * k l := dif_pos l.2
    rw [hf]
    by_cases h1 : 64 * c.val ≤ l.val ∧ l.val < 64 * c.val + 64
    · rw [if_pos (show lane c l from .inl h1), if_pos h1, if_neg (by omega), add_zero, mul_comm]
    · by_cases h2 : 128 + 6 * c.val ≤ l.val ∧ l.val < 128 + 6 * c.val + 6
      · rw [if_pos (show lane c l from .inr h2), if_neg h1, if_pos h2, zero_add, mul_comm]
      · rw [if_neg (fun h : lane c l => h.elim h1 h2), if_neg h1, if_neg h2, mul_zero, add_zero]
  rw [key, Finset.sum_add_distrib,
    sum_block _ (64 * c.val) 64 256 (by omega) (fun i hi => if_neg hi),
    sum_block _ (128 + 6 * c.val) 6 256 (by omega) (fun i hi => if_neg hi), Finset.sum_range, Finset.sum_range]
  refine congrArg₂ (· + ·) (Finset.sum_congr rfl fun e _ => ?_) (Finset.sum_congr rfl fun e _ => ?_)
  · have he : e.val < 64 := e.2
    rw [if_pos (by omega)]; exact dif_pos (by omega)
  · have he : e.val < 6 := e.2
    rw [if_pos (by omega)]; exact dif_pos (by omega)

/-! ## The state after some tiles -/

/-- A head's state at query `x` after `n` tiles of the scores `s`; `v d` is the value row `d`. -/
structure Seen (h : Head Ideal) (x : Fin 512) (s : ℕ → EReal) (v : Fin 128 → ℕ → EReal) (n : ℕ) : Prop where
  top_eq : h.1 (ix2 0 x) = top s (512 * n)
  part_eq : ∀ r : Fin 8, h.2.1 (ix2 r x) = part s r (64 * n)
  acc_eq : ∀ d : Fin 128, h.2.2 (ix2 d x) = acc s (v d) (512 * n)

theorem seen_init (x : Fin 512) (s : ℕ → EReal) (v : Fin 128 → ℕ → EReal) : Seen init x s v 0 where
  top_eq := by
    show k0_pay240 (F := Ideal) (ix2 0 x) = _
    pointwise [k0_pay240]
    rw [mask_eq]; rfl
  part_eq r := by
    show k0_pay241 (F := Ideal) (ix2 r x) = _
    pointwise [k0_pay241]
    rfl
  acc_eq d := by
    show (show EReal from k0_pay237 (F := Ideal) (ix2 d x)) = _
    pointwise [k0_pay237]
    rfl

/-- One more tile. -/
theorem Seen.tile {h : Head Ideal} {x : Fin 512} {s : ℕ → EReal} {v : Fin 128 → ℕ → EReal} {n : ℕ} (H : Seen h x s v n)
    (t : FVec Ideal S512x512 .f32) (w : Vec Ideal S128x512 .bf16)
    (ht : ∀ i : Fin 512, t (ix2 i x) = s (512 * n + i)) (hw : ∀ (d : Fin 128) (i : Fin 512), w (ix2 d i) = v d (512 * n + i)) :
    Seen (tile t w h) x s v (n + 1) := by
  have hm : k0_pay9 (F := Ideal) h.1 t (ix2 0 x) = top s (512 * n + 512) := by
    rw [max_at, top_add, H.top_eq, fold_max_eq 512 _ (fun i => s (512 * n + i)) ht]
  refine ⟨hm, fun r => ?_, fun d => ?_⟩
  · show k0_pay12 (F := Ideal) h.1 h.2.1 t (ix2 r x) = part s r (64 * n + 64)
    have e1 : 8 * (64 * n) = 512 * n := by ring
    rw [sum_at, hm, part_add s r.2, H.top_eq, H.part_eq, Finset.sum_range, e1]
    refine congrArg _ (Finset.sum_congr rfl fun i _ => ?_)
    rw [ht]
    show wt (s (512 * n + (i.val * 8 + r.val))) _ = _
    rw [Nat.mul_comm i.val 8]
  · refine (acc_at h.1 t w h.2.2 d x).trans ?_
    show _ = acc s (v d) (512 * n + 512)
    rw [hm, acc_add, H.top_eq, Finset.sum_range]
    refine congrArg₂ (· + ·) (congrArg _ (H.acc_eq d)) (Finset.sum_congr rfl fun i _ => ?_)
    rw [ht]; exact congrArg (· * _) (hw d i)

end Cert.KernelIdeal.Fox

end
-- ==== Proof.Block.lean ====
/-
  A block of the kernel's result is the block of attention: the whole fold over the key tiles, the diagonal one masked, read
  at an entry, for query and key blocks that are cut out of the packed arrays.
-/
module

public import proofs.«01_k».proof.Proof.Seen

@[expose] public section

set_option maxRecDepth 16384

noncomputable section

namespace Cert.KernelIdeal.Fox

open Cert.KernelIdeal Cert.KernelIdeal.Gen
open Idealize.ShloMosaic Idealize.ShloMosaic.TcCoe Idealize.SL.Sem
open Cert.Attention Cert.Softmax

/-- Row `d` of the values' block, position by position. -/
def vrow (V : Vec Ideal S128x4096 .bf16) (d : Fin 128) (k : ℕ) : EReal :=
  V (ix2 d ⟨k % 4096, Nat.mod_lt _ (by decide)⟩)

/-- The score of the query row `x` against key `k`, over the 256 lanes. -/
def raw (q : Vec Ideal S512x256 .bf16) (K : Vec Ideal S4096x256 .bf16) (x : Fin 512) (k : ℕ) : EReal :=
  ∑ l : Fin 256, (show EReal from K (ix2 ⟨k % 4096, Nat.mod_lt _ (by decide)⟩ l)) * (show EReal from q (ix2 x l))

/-- After the tiles before the diagonal: the scores below position `512 n` have been met. -/
theorem seen_steps (q : Vec Ideal S512x256 .bf16) (K : Vec Ideal S4096x256 .bf16) (V : Vec Ideal S128x4096 .bf16)
    (x : Fin 512) (s : ℕ → EReal) : ∀ n : ℕ, (∀ k < 512 * n, s k = raw q K x k) →
      Seen (steps q K V 0 n init) x s (vrow V) n
  | 0, _ => seen_init x s _
  | n + 1, hs => by
    refine (seen_steps q K V x s n fun k hk => hs k (by omega)).tile _ _ (fun i => ?_) (fun d i => ?_)
    · rw [hs _ (by omega), Nat.zero_add]; exact scores_at q K n i x
    · rw [Nat.zero_add]; rfl

/-- After the diagonal tile: the masked scores below position `512 (n + 1)`. -/
theorem seen_folded (q : Vec Ideal S512x256 .bf16) (K : Vec Ideal S4096x256 .bf16) (V : Vec Ideal S128x4096 .bf16)
    (x : Fin 512) (s : ℕ → EReal) (n : ℕ) (hn : n < 8)
    (hs : ∀ k < 4096, s k = if k ≤ 512 * n + x then raw q K x k else ⊥) :
    Seen (folded q K V n) x s (vrow V) (n + 1) := by
  refine (seen_steps q K V x s n fun k hk => ?_).tile _ _ (fun i => ?_) (fun d i => rfl)
  · rw [hs k (by omega), if_pos (by omega)]
  · rw [masked_at n hn, hs _ (by omega)]
    by_cases h : i ≤ x
    · rw [if_pos h, if_pos (by have : i.val ≤ x.val := h; omega)]; exact scores_at q K n i x
    · rw [if_neg h, if_neg (by have : ¬ i.val ≤ x.val := h; omega)]

/-- The two heads' quotients side by side. -/
theorem merged_at (h0 h1 : Head Ideal) (x : Fin 512) (j : Fin 128) {s0 s1 : ℕ → EReal} {v : Fin 128 → ℕ → EReal} {n : ℕ}
    (H0 : Seen h0 x s0 v n) (H1 : Seen h1 x s1 v n) :
    (show EReal from merged h0 h1 (ix2 x j)) = if j.val < 64 then Ideal.div (acc s0 (v j) (512 * n)) (den s0 (512 * n))
      else Ideal.div (acc s1 (v j) (512 * n)) (den s1 (512 * n)) := by
  have hd {h : Head Ideal} {s : ℕ → EReal} (H : Seen h x s v n) : ∑ r : Fin 8, h.2.1 (ix2 r x) = den s (512 * n) := by
    have e1 : 8 * (64 * n) = 512 * n := by ring
    rw [← e1, ← sum_part, Finset.sum_range]
    exact Finset.sum_congr rfl fun r _ => H.part_eq r
  unfold merged
  pointwise [k0_pay259]
  have hj : j.val < 128 := j.2
  simp (disch := word_cmp_side) only [hlo_ix]
  rw [hd H0, hd H1]
  exact congrArg₂ (fun a b => if j.val < 64 then Ideal.div a _ else Ideal.div b _) (H0.acc_eq j) (H1.acc_eq j)

/-- The column of lane `l` of the pair of heads `g`. -/
def pairCol (g : Fin 4) (l : Fin 256) : Fin 1024 := ⟨g * 256 + l, by omega⟩

/-- Head `c` of the pair `g`. -/
def pairHead (g : Fin 4) (c : Fin 2) : Fin 8 := ⟨2 * g + c, by omega⟩

/-- A score over the 256 lanes, the other head's zeroed, is the head's score. -/
theorem raw_eq {Q K : Packed} {b : Fin 16} {g : Fin 4} {p : Fin 4096} {x : Fin 512} (c : Fin 2)
    {q q' : Vec Ideal S512x256 .bf16} {Kb : Vec Ideal S4096x256 .bf16}
    (hq : ∀ l, (show EReal from q (ix2 x l)) = Q (ix2 (row b p) (pairCol g l)))
    (hK : ∀ k l, (show EReal from Kb (ix2 k l)) = K (ix2 (row b k) (pairCol g l)))
    (hq' : ∀ l, (show EReal from q' (ix2 x l)) = if lane c l then (show EReal from q (ix2 x l)) else 0) (k : Fin 4096) :
    raw q' Kb x k = logit Q K b (pairHead g c) p k := by
  have hg : g.val < 4 := g.2
  have hc : c.val < 2 := c.2
  have hm (e : Fin 64) : pairCol g ⟨64 * c + e, by omega⟩ = mainCol (pairHead g c) e := by
    refine Fin.ext ?_
    show g.val * 256 + (64 * c.val + e.val) = (2 * g.val + c.val) / 2 * 256 + ((2 * g.val + c.val) % 2 * 64 + e.val)
    rw [show (2 * g.val + c.val) / 2 = g.val by omega, show (2 * g.val + c.val) % 2 = c.val by omega]; ring
  have hb (e : Fin 6) : pairCol g ⟨128 + 6 * c + e, by omega⟩ = biasCol (pairHead g c) e := by
    refine Fin.ext ?_
    show g.val * 256 + (128 + 6 * c.val + e.val) = (2 * g.val + c.val) / 2 * 256 + (128 + ((2 * g.val + c.val) % 2 * 6 + e.val))
    rw [show (2 * g.val + c.val) / 2 = g.val by omega, show (2 * g.val + c.val) % 2 = c.val by omega]; ring
  have hk : (⟨k.val % 4096, Nat.mod_lt _ (by decide)⟩ : Fin 4096) = k := Fin.ext (Nat.mod_eq_of_lt k.2)
  unfold raw
  rw [hk]
  simp only [hq', hK, hq]
  rw [sum_lanes c (fun l => Q (ix2 (row b p) (pairCol g l))) (fun l => K (ix2 (row b k) (pairCol g l)))]
  simp only [hm, hb]
  rfl

/-- The body's output at an entry is attention at that entry. -/
theorem foxOut_at {Q K : Packed} {V : Values} {b : Fin 16} {g : Fin 4} {n : Fin 8}
    {q : Vec Ideal S512x256 .bf16} {Kb : Vec Ideal S4096x256 .bf16} {Vb : Vec Ideal S128x4096 .bf16}
    (hq : ∀ (x : Fin 512) l, (show EReal from q (ix2 x l)) = Q (ix2 (row b ⟨512 * n + x, by omega⟩) (pairCol g l)))
    (hK : ∀ k l, (show EReal from Kb (ix2 k l)) = K (ix2 (row b k) (pairCol g l)))
    (hV : ∀ (d : Fin 128) k, (show EReal from Vb (ix2 d k)) = V (ix2 ⟨g * 128 + d, by omega⟩ (row b k)))
    (x : Fin 512) (j : Fin 128) :
    (show EReal from foxOut q Kb Vb n (ix2 x j))
      = attend Q K V b (pairHead g ⟨j.val / 64, by omega⟩) ⟨512 * n + x, by omega⟩ ⟨j.val % 64, Nat.mod_lt _ (by decide)⟩ := by
  have hn : n.val < 8 := n.2
  have hx : x.val < 512 := x.2
  have hj : j.val < 128 := j.2
  have hs (c : Fin 2) (q' : Vec Ideal S512x256 .bf16)
      (hq' : ∀ l, (show EReal from q' (ix2 x l)) = if lane c l then (show EReal from q (ix2 x l)) else 0) :
      Seen (folded q' Kb Vb n) x (seq Q K b (pairHead g c) ⟨512 * n + x, by omega⟩) (vrow Vb) (n + 1) := by
    refine seen_folded q' Kb Vb x _ n hn fun k hk => ?_
    unfold seq
    by_cases h : k ≤ 512 * n.val + x.val
    · rw [dif_pos h, if_pos h]; exact (raw_eq c (hq x) hK hq' ⟨k, hk⟩).symm
    · rw [dif_neg h, if_neg h]
  have hv : vrow Vb j = val V b (pairHead g ⟨j.val / 64, by omega⟩) ⟨j.val % 64, Nat.mod_lt _ (by decide)⟩ := by
    funext k
    refine (hV j _).trans ?_
    unfold val
    congr 2
    refine Fin.ext ?_
    show g.val * 128 + j.val = (2 * g.val + j.val / 64) * 64 + j.val % 64
    omega
  refine (merged_at _ _ x j (hs 0 _ (query0_at q x)) (hs 1 _ (query1_at q x))).trans ?_
  rw [attend_eq Q K V b _ _ _ (n := 512 * (n.val + 1)) (by show 512 * n.val + x.val < _; omega) (by omega), ← hv]
  by_cases h : j.val < 64
  · rw [if_pos h]
    rw [show (⟨j.val / 64, by omega⟩ : Fin 2) = 0 from Fin.ext (by show j.val / 64 = 0; omega)]
  · rw [if_neg h]
    rw [show (⟨j.val / 64, by omega⟩ : Fin 2) = 1 from Fin.ext (by show j.val / 64 = 1; omega)]

end Cert.KernelIdeal.Fox

end
-- ==== Proof.Value.lean ====
/-
  The kernel's result array: each grid point writes one block of 512 positions by 128 columns, the block of attention there,
  and the blocks cover the array.
-/
module

public import proofs.«01_k».proof.Proof.Run
public import proofs.«01_k».proof.Proof.Block

@[expose] public section

set_option maxRecDepth 16384

noncomputable section

namespace Cert.KernelIdeal.Fox

open Cert.KernelIdeal Cert.KernelIdeal.Gen
open Idealize.ShloMosaic Idealize.ShloMosaic.TcCoe Idealize.SL.Sem
open Idealize.ShloMosaic.Pipeline (Dat)
open Cert.Attention

variable (m : (ℓ : Loc nD τ sig) → Buf (Elt Ideal) ℓ) (ρ : Dev nD → PrngReg)

/-- Every window's block index at every point: sequence `a`, pair of heads `g`, query tile `n`. -/
theorem index_eq : ∀ t : Fin cfg0.N,
    (win0_0.index t 0 = (grid0.coords t 0).val * 8 + (grid0.coords t 2).val ∧ win0_0.index t 1 = (grid0.coords t 1).val)
    ∧ (win0_1.index t 0 = (grid0.coords t 0).val ∧ win0_1.index t 1 = (grid0.coords t 1).val)
    ∧ (win0_2.index t 0 = (grid0.coords t 1).val ∧ win0_2.index t 1 = (grid0.coords t 0).val)
    ∧ (win0_3.index t 0 = (grid0.coords t 0).val * 8 + (grid0.coords t 2).val
      ∧ win0_3.index t 1 = (grid0.coords t 1).val) :=
  (by decide +kernel : ∀ t : Fin grid0.N, _)

/-- The sequence, the pair of heads and the query tile of a point. -/
abbrev sq (t : Fin cfg0.N) : Fin 16 := grid0.coords t 0
abbrev pr (t : Fin cfg0.N) : Fin 4 := grid0.coords t 1
abbrev qt (t : Fin cfg0.N) : Fin 8 := grid0.coords t 2

/-- The points in order: the query tile moves fastest, the sequence slowest. -/
theorem coords_eq : ∀ t : Fin cfg0.N, (grid0.coords t 0).val = t.val / 32 ∧ (grid0.coords t 1).val = t.val / 8 % 4
    ∧ (grid0.coords t 2).val = t.val % 8 :=
  (by decide +kernel : ∀ t : Fin grid0.N, _)

/-- Every sequence, pair and query tile is a point's. -/
theorem point_of : ∀ (a : Fin 16) (g : Fin 4) (n : Fin 8), ∃ t : Fin cfg0.N, sq t = a ∧ pr t = g ∧ qt t = n := fun a g n => by
  have ha : a.val < 16 := a.2
  have hg : g.val < 4 := g.2
  have hn : n.val < 8 := n.2
  refine ⟨⟨a.val * 32 + g.val * 8 + n.val, by rw [show cfg0.N = 512 from N_0]; omega⟩, ?_, ?_, ?_⟩
  · refine Fin.ext ((coords_eq _).1.trans ?_)
    show (a.val * 32 + g.val * 8 + n.val) / 32 = a.val; omega
  · refine Fin.ext ((coords_eq _).2.1.trans ?_)
    show (a.val * 32 + g.val * 8 + n.val) / 8 % 4 = g.val; omega
  · refine Fin.ext ((coords_eq _).2.2.trans ?_)
    show (a.val * 32 + g.val * 8 + n.val) % 8 = n.val; omega

/-- The query block. -/
theorem query_block (c : Dev nD) (t : Fin cfg0.N) (x : Fin 512) (l : Fin 256) :
    (show EReal from (iblk m c 0 t : Vec Ideal S512x256 .bf16) (ix2 x l))
      = (m ((c : Thread nD τ).loc main_arg0) : Packed)
          (ix2 (row (sq t) ⟨512 * (qt t).val + x, by have := (qt t).2; omega⟩) (pairCol (pr t) l)) := by
  unfold iblk
  rw [View.read_apply]
  show V m c main_arg0 _ = m (c.tc.loc main_arg0) _
  unfold V
  congr 1
  funext a
  apply Fin.ext
  match a with
  | ⟨0, _⟩ =>
    show win0_0.index t 0 * 512 + 1 * x.val = (grid0.coords t 0).val * 4096 + (512 * (grid0.coords t 2).val + x.val)
    rw [(index_eq t).1.1]; ring
  | ⟨1, _⟩ =>
    show win0_0.index t 1 * 256 + 1 * l.val = (grid0.coords t 1).val * 256 + l.val
    rw [(index_eq t).1.2]; ring

/-- The keys' block: a whole sequence. -/
theorem key_block (c : Dev nD) (t : Fin cfg0.N) (k : Fin 4096) (l : Fin 256) :
    (show EReal from (iblk m c 1 t : Vec Ideal S4096x256 .bf16) (ix2 k l))
      = (m ((c : Thread nD τ).loc main_arg1) : Packed) (ix2 (row (sq t) k) (pairCol (pr t) l)) := by
  unfold iblk
  rw [View.read_apply]
  show V m c main_arg1 _ = m (c.tc.loc main_arg1) _
  unfold V
  congr 1
  funext a
  apply Fin.ext
  match a with
  | ⟨0, _⟩ =>
    show win0_1.index t 0 * 4096 + 1 * k.val = (grid0.coords t 0).val * 4096 + k.val
    rw [(index_eq t).2.1.1]; ring
  | ⟨1, _⟩ =>
    show win0_1.index t 1 * 256 + 1 * l.val = (grid0.coords t 1).val * 256 + l.val
    rw [(index_eq t).2.1.2]; ring

/-- The values' block. -/
theorem value_block (c : Dev nD) (t : Fin cfg0.N) (d : Fin 128) (k : Fin 4096) :
    (show EReal from (iblk m c 2 t : Vec Ideal S128x4096 .bf16) (ix2 d k))
      = (m ((c : Thread nD τ).loc main_arg2) : Values)
          (ix2 ⟨(pr t).val * 128 + d, by have := (pr t).2; omega⟩ (row (sq t) k)) := by
  unfold iblk
  rw [View.read_apply]
  show V m c main_arg2 _ = m (c.tc.loc main_arg2) _
  unfold V
  congr 1
  funext a
  apply Fin.ext
  match a with
  | ⟨0, _⟩ =>
    show win0_2.index t 0 * 128 + 1 * d.val = (grid0.coords t 1).val * 128 + d.val
    rw [(index_eq t).2.2.1.1]; ring
  | ⟨1, _⟩ =>
    show win0_2.index t 1 * 4096 + 1 * k.val = (grid0.coords t 0).val * 4096 + k.val
    rw [(index_eq t).2.2.1.2]; ring

/-- The result: attention over the argument arrays. -/
def result (c : Dev nD) : Buf (Elt Ideal) ((c : Thread nD τ).loc main_v0) :=
  attention (m ((c : Thread nD τ).loc main_arg0)) (m ((c : Thread nD τ).loc main_arg1)) (m ((c : Thread nD τ).loc main_arg2))

/-- Attention at a row and a column given by their parts. -/
theorem attention_at (Q K : Packed) (V : Values) (b : Fin 16) (g : Fin 4) (p : Fin 4096) (j : Fin 128)
    (i : (⟨2, ![65536, 512]⟩ : Shape).Idx) (h0 : (i 0).val = b.val * 4096 + p.val) (h1 : (i 1).val = g.val * 128 + j.val) :
    attention Q K V i
      = attend Q K V b (pairHead g ⟨j.val / 64, by omega⟩) p ⟨j.val % 64, Nat.mod_lt _ (by decide)⟩ := by
  have hp : p.val < 4096 := p.2
  have hj : j.val < 128 := j.2
  unfold attention
  congr 1
  · exact Fin.ext (by show (i 0).val / 4096 = b.val; omega)
  · exact Fin.ext (by show (i 1).val / 64 = 2 * g.val + j.val / 64; omega)
  · exact Fin.ext (by show (i 0).val % 4096 = p.val; omega)
  · exact Fin.ext (by show (i 1).val % 64 = j.val % 64; omega)

/-- What a point writes back is the block of the result there. -/
theorem flushed_eq (c : Dev nD) (t : Fin cfg0.N) (hf : (cfg0.win 3).flush t = true) :
    (dats m 0 c).flushed 3 t = ((cfg0.win 3).blk t).view.read (Elt Ideal) (result m c) := by
  show (cfg0.win 3).cut (grid0.coords t) ((dats m 0 c).after 3 t) = _
  rw [after0_3]
  funext y
  obtain ⟨x, j, rfl⟩ : ∃ (x : Fin 512) (j : Fin 128), y = (ix2 x j : S512x128.Idx) := ⟨y 0, y 1, eq_ix2 (n0 := 512) (n1 := 128) y⟩
  rw [View.read_apply]
  refine (foxOut_at (n := qt t) (query_block m c t) (key_block m c t) (value_block m c t) x j).trans ?_
  refine (attention_at _ _ _ (sq t) (pr t) ⟨512 * (qt t).val + x, by have := (qt t).2; omega⟩ j _ ?_ ?_).symm
  · show win0_3.index t 0 * 512 + 1 * x.val = (grid0.coords t 0).val * 4096 + (512 * (grid0.coords t 2).val + x.val)
    rw [(index_eq t).2.2.2.1]; ring
  · show win0_3.index t 1 * 128 + 1 * j.val = (grid0.coords t 1).val * 128 + j.val
    rw [(index_eq t).2.2.2.2]; ring

/-- The result array ends holding attention. -/
theorem final (c : Dev nD) : (dats m 0 c).arrAt 3 cfg0.N = result m c :=
  (dats m 0 c).arrAt_eq_of_cover 3 (result m c) (flushed_eq m c) fun i => by
    have h0 : (i 0 : ℕ) < 65536 := (i 0).isLt
    have h1 : (i 1 : ℕ) < 512 := (i 1).isLt
    obtain ⟨t, ha, hg, hn⟩ := point_of ⟨(i 0 : ℕ) / 4096, by omega⟩ ⟨(i 1 : ℕ) / 128, by omega⟩
      ⟨(i 0 : ℕ) % 4096 / 512, by omega⟩
    have ha' : (grid0.coords t 0).val = (i 0 : ℕ) / 4096 := congrArg Fin.val ha
    have hg' : (grid0.coords t 1).val = (i 1 : ℕ) / 128 := congrArg Fin.val hg
    have hn' : (grid0.coords t 2).val = (i 0 : ℕ) % 4096 / 512 := congrArg Fin.val hn
    refine ⟨t, flush0_3 t, ?_⟩
    show i ∈ ((View.whole main_v0).slice (win0_3.rect t)).set
    rw [View.set_slice_whole, Rect.mem_set_unit]
    intro a
    match a with
    | ⟨0, _⟩ =>
      show win0_3.index t 0 * 512 ≤ (i 0 : ℕ) ∧ (i 0 : ℕ) < win0_3.index t 0 * 512 + 512
      rw [(index_eq t).2.2.2.1, ha', hn']; omega
    | ⟨1, _⟩ =>
      show win0_3.index t 1 * 128 ≤ (i 1 : ℕ) ∧ (i 1 : ℕ) < win0_3.index t 1 * 128 + 128
      rw [(index_eq t).2.2.2.2, hg']; omega

/-- The run read at the result array, the arguments unchanged. -/
theorem value_run : θ_run defs (onTc (τ := τ) (main (F := Ideal))) ⟨m, fun _ => 0, ρ⟩ (fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c => ⟨((h.1 c).1 3).trans (final m c), ((h.1 c).1 0).trans ((dats m 0 c).arrAt_in 0 rfl _),
    ((h.1 c).1 1).trans ((dats m 0 c).arrAt_in 1 rfl _), ((h.1 c).1 2).trans ((dats m 0 c).arrAt_in 2 rfl _)⟩)
    (run_main m ρ)

end Cert.KernelIdeal.Fox

end
-- ==== Proof.Reference.lean ====
/-
  The reference's result at an entry: it is causal attention of base-2 scores as `Formula.lean` states it, wherever the
  queries and keys are finite.
-/
module

public import proofs.«01_k».proof.Proof.Gen.ReferenceIdeal.Run
public import proofs.«01_k».proof.Proof.Formula
public import Idealize.ShloMosaic.Lib.Pointwise
public import Idealize.ShloMosaic.Lib.WordCmp

@[expose] public section

set_option maxRecDepth 16384

noncomputable section

namespace Cert.ReferenceIdeal.Entry

open Cert.ReferenceIdeal Cert.ReferenceIdeal.Gen Cert.ReferenceIdeal.Value
open Idealize.ShloMosaic Idealize.ShloMosaic.TcCoe Idealize.SL.Sem
open Cert.Attention Cert.Softmax

/-- The 64 coordinates of every head, out of the packed columns. -/
def mains (A : FVec Ideal S65536x1024 .bf16) : FVec Ideal S16x8x4096x64 .f32 :=
  transpose S16x8x4096x64 [0, 2, 1, 3]
    (shapeCast _ (extractStridedSlice S16x4096x4x128 ![0, 0, 0, 0]
      (shapeCast _ (extf .f32 A bitsLt_bf16_f32) shapeCasts_S65536x1024_S16x4096x4x256)
      slices_S16x4096x4x256_S16x4096x4x128_0_0_0_0) shapeCasts_S16x4096x4x128_S16x4096x8x64)
    transposes_S16x4096x8x64_S16x8x4096x64_0_2_1_3

/-- The 6 bias coordinates of every head. -/
def biases (A : FVec Ideal S65536x1024 .bf16) : FVec Ideal S16x8x4096x6 .f32 :=
  transpose S16x8x4096x6 [0, 2, 1, 3]
    (shapeCast _ (extractStridedSlice S16x4096x4x12 ![0, 0, 0, 128]
      (shapeCast _ (extf .f32 A bitsLt_bf16_f32) shapeCasts_S65536x1024_S16x4096x4x256)
      slices_S16x4096x4x256_S16x4096x4x12_0_0_0_128) shapeCasts_S16x4096x4x12_S16x4096x8x6)
    transposes_S16x4096x8x6_S16x8x4096x6_0_2_1_3

/-- The values of every head. -/
def vals (V : FVec Ideal S512x65536 .bf16) : FVec Ideal S16x8x4096x64 .f32 :=
  transpose S16x8x4096x64 [2, 0, 3, 1] (shapeCast _ (extf .f32 V bitsLt_bf16_f32) shapeCasts_S512x65536_S8x64x16x4096)
    transposes_S8x64x16x4096_S16x8x4096x64_2_0_3_1

/-- The causally masked scores. -/
def logits (Q K : FVec Ideal S65536x1024 .bf16) : FVec Ideal S16x8x4096x4096 .f32 :=
  select (broadcastInDim S16x8x4096x4096 ![2, 3] bcast_S4096x4096_S16x8x4096x4096_2_3
      (cmpi .sge
        (broadcastInDim S4096x4096 ![0, 1] bcast_S4096x1_S4096x4096_0_1
          (broadcastInDim S4096x1 ![0] bcast_S4096_S4096x1_0 (iotaInDim S4096 32 0)))
        (broadcastInDim S4096x4096 ![0, 1] bcast_S1x4096_S4096x4096_0_1
          (broadcastInDim S1x4096 ![1] bcast_S4096_S1x4096_1 (iotaInDim S4096 32 0)))))
    (addf
      (Host.dotGeneral dot_S16x8x4096x64_S16x8x4096x64_S16x8x4096x4096_3_3_2_2_01_01 none (mains Q) (mains K))
      (Host.dotGeneral dot_S16x8x4096x6_S16x8x4096x6_S16x8x4096x4096_3_3_2_2_01_01 none (biases Q) (biases K)))
    (broadcastInDim S16x8x4096x4096 ![] bcast_S_S16x8x4096x4096 (id (constant S_ .f32 0xFF800000#32)))

/-- Two to the power of a score less its row's maximum. -/
def weights (s : FVec Ideal S16x8x4096x4096 .f32) : FVec Ideal S16x8x4096x4096 .f32 :=
  Host.powf (broadcastInDim S16x8x4096x4096 ![] bcast_S_S16x8x4096x4096 (constant S_ .f32 0x40000000#32))
    (subf s (broadcastInDim S16x8x4096x4096 ![0, 1, 2, 3] bcast_S16x8x4096x1_S16x8x4096x4096_0_1_2_3
      (broadcastInDim S16x8x4096x1 ![0, 1, 2] bcast_S16x8x4096_S16x8x4096x1_0_1_2
        (Host.reduce FloatOps.maximumf s (constant S_ .f32 0xFF800000#32) reducesTo_S16x8x4096x4096_S16x8x4096_d3
          h_S_))))

/-- The weights divided by their row's sum, times the values; the heads side by side. -/
def mixed (e : FVec Ideal S16x8x4096x4096 .f32) (V : FVec Ideal S512x65536 .bf16) : FVec Ideal S65536x512 .bf16 :=
  truncf .bf16 (shapeCast _ (transpose S16x4096x8x64 [0, 2, 1, 3]
    (Host.dotGeneral dot_S16x8x4096x4096_S16x8x4096x64_S16x8x4096x64_3_2_2_3_01_01 none
      (Host.divf e (broadcastInDim S16x8x4096x4096 ![0, 1, 2, 3] bcast_S16x8x4096x1_S16x8x4096x4096_0_1_2_3
        (broadcastInDim S16x8x4096x1 ![0, 1, 2] bcast_S16x8x4096_S16x8x4096x1_0_1_2
          (Host.reduceAdd e (constant S_ .f32 0x00000000#32) reducesTo_S16x8x4096x4096_S16x8x4096_d3 h_S_))))
      (vals V)) transposes_S16x8x4096x64_S16x4096x8x64_0_2_1_3) shapeCasts_S16x4096x8x64_S65536x512) bitsLt_bf16_f32

/-- The reference's term is these, one after another. -/
theorem result_eq (m : (ℓ : Loc nD τ sig) → Buf (Elt Ideal) ℓ) (c : Dev nD) :
    res_main_v43 m c = mixed (weights (logits (m ((c.tc : Thread nD τ).loc main_arg0))
      (m ((c.tc : Thread nD τ).loc main_arg1)))) (m ((c.tc : Thread nD τ).loc main_arg2)) := rfl

theorem mains_at (A : FVec Ideal S65536x1024 .bf16) (b : Fin 16) (h : Fin 8) (p : Fin 4096) (e : Fin 64) :
    mains A (ix4 b h p e) = A (ix2 (row b p) (mainCol h e)) := by
  pointwise [mains]
  rfl

theorem biases_at (A : FVec Ideal S65536x1024 .bf16) (b : Fin 16) (h : Fin 8) (p : Fin 4096) (e : Fin 6) :
    biases A (ix4 b h p e) = A (ix2 (row b p) (biasCol h e)) := by
  pointwise [biases]
  rfl

theorem vals_at (V : FVec Ideal S512x65536 .bf16) (b : Fin 16) (h : Fin 8) (p : Fin 4096) (e : Fin 64) :
    vals V (ix4 b h p e) = V (ix2 ⟨h * 64 + e, by omega⟩ (row b p)) := by
  pointwise [vals]
  rfl

/-- A masked score is the sequence of scores at its key. -/
theorem logits_at (Q K : FVec Ideal S65536x1024 .bf16) (b : Fin 16) (h : Fin 8) (p k : Fin 4096) :
    logits Q K (ix4 b h p k) = seq Q K b h p k := by
  pointwise [logits, mains_at, biases_at]
  show Scalar.select _ (logit Q K b h p k) (Ideal.ofBits .f32 0xFF800000#32) = _
  rw [ofBits_neg_inf]
  have hp : p.val < 4096 := p.2
  have hk : k.val < 4096 := k.2
  simp (disch := word_cmp_side) only [hlo_ix]
  unfold seq
  by_cases hle : k.val ≤ p.val
  · rw [dif_pos hle, if_pos hle]
  · rw [dif_neg hle, if_neg hle]

theorem weights_at (s : FVec Ideal S16x8x4096x4096 .f32) (b : Fin 16) (h : Fin 8) (p k : Fin 4096) (f : ℕ → EReal)
    (hf : ∀ k : Fin 4096, s (ix4 b h p k) = f k) : weights s (ix4 b h p k) = wt (f k) (top f 4096) := by
  pointwise [weights]
  rw [ofBits_two, ofBits_neg_inf, pow_two, fold_max_eq 4096 _ f hf, hf]
  rfl

/-- The result at an entry: the sequence, position, head and coordinate are read off its row and column. -/
theorem mixed_at (e : FVec Ideal S16x8x4096x4096 .f32) (V : FVec Ideal S512x65536 .bf16) (r : Fin 65536) (j : Fin 512) :
    mixed e V (ix2 r j)
      = ∑ k : Fin 4096, Ideal.div
          (e (ix4 ⟨r.val / 4096, by omega⟩ ⟨j.val / 64, by omega⟩ ⟨r.val % 4096, by omega⟩ k))
          (∑ l : Fin 4096, e (ix4 ⟨r.val / 4096, by omega⟩ ⟨j.val / 64, by omega⟩ ⟨r.val % 4096, by omega⟩ l))
        * vals V (ix4 ⟨r.val / 4096, by omega⟩ ⟨j.val / 64, by omega⟩ k ⟨j.val % 64, by omega⟩) := by
  pointwise [mixed]

/-- Sums over the keys in the two spellings. -/
theorem sum_eq (s v : ℕ → EReal) (E W : Fin 4096 → EReal) (M L : EReal) (hE : ∀ k, E k = wt (s k) M)
    (hW : ∀ k, W k = v k) (hL : L = ∑ k ∈ Finset.range 4096, wt (s k) M) :
    ∑ k, Ideal.div (E k) (∑ l, E l) * W k = ∑ k ∈ Finset.range 4096, Ideal.div (wt (s k) M) L * v k := by
  rw [hL, Finset.sum_range, Finset.sum_range]
  simp only [hE, hW]

/-- The reference's result is attention. -/
theorem mixed_eq {Q K : FVec Ideal S65536x1024 .bf16} (hQ : Finite Q) (hK : Finite K)
    (V : FVec Ideal S512x65536 .bf16) : mixed (weights (logits Q K)) V = attention Q K V := by
  funext i
  obtain ⟨r, j, rfl⟩ : ∃ (r : Fin 65536) (j : Fin 512), i = ix2 r j := ⟨i 0, i 1, eq_ix2 i⟩
  rw [mixed_at]
  refine Eq.trans ?_ (attend_eq_sum hQ hK V _ _ _ _).symm
  refine sum_eq _ _ _ _ _ _ (fun k => weights_at _ _ _ _ k _ (logits_at Q K _ _ _)) (fun k => ?_) rfl
  rw [vals_at]
  unfold val
  congr 2
  exact congrArg _ (Fin.ext (Nat.mod_eq_of_lt k.2).symm)

end Cert.ReferenceIdeal.Entry

end
-- ==== Proof.Condition.lean ====
/-
  The precondition read back: where `finite_scores` holds, every entry of the queries and keys is a number.
-/
module

public import proofs.«01_k».proof.Pre_finite_scores
public import proofs.«01_k».proof.Proof.Formula
public import Idealize.ShloMosaic.Lib.ReduceAll

@[expose] public section

set_option maxRecDepth 16384

noncomputable section

namespace Cert.Pre_finite_scores

open Idealize.ShloMosaic Cert.Attention

/-- The shape relations of the precondition's operations. -/
instance facts : Facts where
  bitsLt_bf16_f32 := by decide
  bcast_S_S65536x1024 := by decide
  reducesTo_S65536x1024_S_d0_1 := by decide
  h_S_ := by decide

instance : Subsingleton S_.Idx := ⟨fun a b => funext fun i => i.elim0⟩

/-- A magnitude below `⊤` is a number's. -/
theorem finite_of_abs {x : EReal} (h : max x (-x) < ⊤) : x ≠ ⊥ ∧ x ≠ ⊤ :=
  ⟨fun e => by rw [e] at h; simp at h, fun e => by rw [e] at h; simp at h⟩

/-- A comparison's bit is one only where the comparison holds. -/
theorem of_bit {p : Prop} [Decidable p] (h : BitVec.ofBool (decide p) = 1#1) : p := by
  by_contra hn
  rw [decide_eq_false hn] at h
  exact absurd h (by decide)

/-- Where all magnitudes are below `⊤`, every entry is a number. -/
theorem finite_of_all {A : FVec Ideal S65536x1024 .bf16}
    (e : Host.reduce IntOp.andi (cmpf .olt (Host.absf (extf .f32 A Facts.bitsLt_bf16_f32))
      (broadcastInDim S65536x1024 ![] Facts.bcast_S_S65536x1024 (constant (F := Ideal) S_ .f32 0x7F800000#32)))
      (constantI S_ 1 1#1) Facts.reducesTo_S65536x1024_S_d0_1 Facts.h_S_ = fun _ => 1#1) : Finite A := fun i => by
  have h := Host.reduce_andi_all _ _ _ _ _ (congrFun e ix0) i
  revert h
  pointwise
  rw [ofBits_inf]
  intro h
  exact finite_of_abs (of_bit h)

/-- The precondition, for the queries and for the keys. -/
theorem finite_of_pre (Q K : FVec Ideal S65536x1024 .bf16) (V : FVec Ideal S512x65536 .bf16)
    (h : fn Q K V = fun _ => 1#1) : Finite Q ∧ Finite K := by
  have h0 := IntOp.andi_eq_one.1 (congrFun h ix0)
  exact ⟨finite_of_all (funext fun j => by rw [Subsingleton.elim j ix0]; exact h0.1), finite_of_all (funext fun j => by rw [Subsingleton.elim j ix0]; exact h0.2)⟩

end Cert.Pre_finite_scores

end
-- ==== Proof.Merge.lean ====
/-
  The gated merge of a layer's three branches, the output projection and the norm, for one row: plain functions of the
  row's input, the three branches' rows and the weights.
-/
module

public import Idealize.ShloMosaic.PureOps.Ideal

@[expose] public section

noncomputable section

namespace Cert.Merge

open Idealize.ShloMosaic

/-- The sigmoid. -/
def sigmoid (z : EReal) : EReal := Ideal.div 1 (1 + Ideal.exp (-z))

/-- One branch at one column: the sigmoid of the gate's logit (the layer's input times the gate's weights, plus a bias)
    times the branch's projection. -/
def branch (x w : Fin 1024 → EReal) (b : EReal) (a v : Fin 512 → EReal) : EReal :=
  sigmoid (∑ d, x d * w d + b) * ∑ d, a d * v d

/-- The factor of the layer's input in the residual, and the norm's row length and epsilon, as their words have them. -/
def alpha : EReal := Ideal.ofBits .f32 0x3FD744FD#32
def width : EReal := Ideal.ofBits .f32 0x44800000#32
def eps : EReal := Ideal.ofBits .f32 0x3727C5AC#32

/-- An entry less its row's mean. -/
def centred (y : Fin 1024 → EReal) (j : Fin 1024) : EReal := y j - Ideal.div (∑ l, y l) width

/-- The norm of a centred row, scaled and shifted. -/
def scaled (d : Fin 1024 → EReal) (g b : EReal) (j : Fin 1024) : EReal :=
  d j * Ideal.rsqrt (Ideal.div (∑ l, d l * d l) width + eps) * g + b

/-- The weights of the merge: gates and their biases, projections of the branches, the output projection, the norm's scale
    and shift. -/
structure Weights where
  wg : Fin 3 → Fin 1024 → Fin 1024 → EReal
  bg : Fin 3 → Fin 1024 → EReal
  wb : Fin 3 → Fin 512 → Fin 1024 → EReal
  wo : Fin 1024 → Fin 1024 → EReal
  g : Fin 1024 → EReal
  b : Fin 1024 → EReal

/-- The sum of the three branches at a column. -/
def merged (w : Weights) (x : Fin 1024 → EReal) (a c s : Fin 512 → EReal) (j : Fin 1024) : EReal :=
  branch x (w.wg 0 · j) (w.bg 0 j) a (w.wb 0 · j) + branch x (w.wg 1 · j) (w.bg 1 j) c (w.wb 1 · j)
    + branch x (w.wg 2 · j) (w.bg 2 j) s (w.wb 2 · j)

/-- The residual at a column. -/
def residual (w : Weights) (x : Fin 1024 → EReal) (a c s : Fin 512 → EReal) (j : Fin 1024) : EReal :=
  alpha * x j + ∑ l, merged w x a c s l * w.wo l j

/-- The row's result at a column. -/
def mixed (w : Weights) (x : Fin 1024 → EReal) (a c s : Fin 512 → EReal) (j : Fin 1024) : EReal :=
  scaled (centred (residual w x a c s)) (w.g j) (w.b j) j

end Cert.Merge

end
-- ==== Proof.MergeBlock.lean ====
/-
  The merge kernel's block of 512 rows: each of its rows is the merge of `Merge.lean`, for the row's input, the row's
  branches and the weights.
-/
module

public import proofs.«01_k».proof.Proof.Gen.Kernel2Ideal.Skeleton
public import proofs.«01_k».proof.Proof.Merge
public import Idealize.ShloMosaic.Lib.Pointwise

@[expose] public section

set_option maxRecDepth 16384

noncomputable section

namespace Cert.Kernel2Ideal.Merge

open Cert.Kernel2Ideal Cert.Kernel2Ideal.Gen
open Idealize.ShloMosaic Idealize.ShloMosaic.TcCoe Idealize.SL.Sem

/-- The branches' sum, as the kernel adds it up: the first branch, then the other two onto it. -/
def branches (x : Vec Ideal S512x1024 .f32) (a c s : Vec Ideal S512x512 .bf16) (w0 w1 w2 : Vec Ideal S1x1024x1024 .bf16)
    (b0 b1 b2 : Vec Ideal S1x1x1024 .f32) (v0 v1 v2 : Vec Ideal S1x512x1024 .bf16) : FVec Ideal S512x1024 .bf16 :=
  k0_pay6 (k0_pay3 x) (k0_pay4 x w0 b0 a v0) (k0_pay5 x w1 b1) c v1 w2 b2 s v2

/-- What the slices of the weights hold. -/
structure Slices (W : Cert.Merge.Weights) (w0 w1 w2 : Vec Ideal S1x1024x1024 .bf16) (b0 b1 b2 : Vec Ideal S1x1x1024 .f32)
    (v0 v1 v2 : Vec Ideal S1x512x1024 .bf16) (wo : Vec Ideal S1024x1024 .bf16) (g b : Vec Ideal S1x1024 .f32) : Prop where
  hw0 : ∀ d j, (show EReal from w0 (ix3 0 d j)) = W.wg 0 d j
  hw1 : ∀ d j, (show EReal from w1 (ix3 0 d j)) = W.wg 1 d j
  hw2 : ∀ d j, (show EReal from w2 (ix3 0 d j)) = W.wg 2 d j
  hb0 : ∀ j, (show EReal from b0 (ix3 0 0 j)) = W.bg 0 j
  hb1 : ∀ j, (show EReal from b1 (ix3 0 0 j)) = W.bg 1 j
  hb2 : ∀ j, (show EReal from b2 (ix3 0 0 j)) = W.bg 2 j
  hv0 : ∀ d j, (show EReal from v0 (ix3 0 d j)) = W.wb 0 d j
  hv1 : ∀ d j, (show EReal from v1 (ix3 0 d j)) = W.wb 1 d j
  hv2 : ∀ d j, (show EReal from v2 (ix3 0 d j)) = W.wb 2 d j
  hwo : ∀ d j, (show EReal from wo (ix2 d j)) = W.wo d j
  hg : ∀ j, (show EReal from g (ix2 0 j)) = W.g j
  hb : ∀ j, (show EReal from b (ix2 0 j)) = W.b j

section
variable {W : Cert.Merge.Weights} {w0 w1 w2 : Vec Ideal S1x1024x1024 .bf16} {b0 b1 b2 : Vec Ideal S1x1x1024 .f32}
  {v0 v1 v2 : Vec Ideal S1x512x1024 .bf16} {wo : Vec Ideal S1024x1024 .bf16} {g b : Vec Ideal S1x1024 .f32}
  (H : Slices W w0 w1 w2 b0 b1 b2 v0 v1 v2 wo g b) (x : Vec Ideal S512x1024 .f32) (a c s : Vec Ideal S512x512 .bf16)
include H

theorem branches_at (r : Fin 512) (j : Fin 1024) :
    (show EReal from branches x a c s w0 w1 w2 b0 b1 b2 v0 v1 v2 (ix2 r j))
      = Cert.Merge.merged W (fun d => x (ix2 r d)) (fun d => a (ix2 r d)) (fun d => c (ix2 r d)) (fun d => s (ix2 r d)) j := by
  have hw0 : ∀ d j, w0 (ix3 0 d j) = W.wg 0 d j := H.hw0
  have hw1 : ∀ d j, w1 (ix3 0 d j) = W.wg 1 d j := H.hw1
  have hw2 : ∀ d j, w2 (ix3 0 d j) = W.wg 2 d j := H.hw2
  have hb0 : ∀ j, b0 (ix3 0 0 j) = W.bg 0 j := H.hb0
  have hb1 : ∀ j, b1 (ix3 0 0 j) = W.bg 1 j := H.hb1
  have hb2 : ∀ j, b2 (ix3 0 0 j) = W.bg 2 j := H.hb2
  have hv0 : ∀ d j, v0 (ix3 0 d j) = W.wb 0 d j := H.hv0
  have hv1 : ∀ d j, v1 (ix3 0 d j) = W.wb 1 d j := H.hv1
  have hv2 : ∀ d j, v2 (ix3 0 d j) = W.wb 2 d j := H.hv2
  pointwise [branches, k0_pay6, k0_pay3, k0_pay4, k0_pay5]
  simp only [hw0, hw1, hw2, hb0, hb1, hb2, hv0, hv1, hv2, zero_sub]
  rfl

/-- The block before it is cut into chunks: every entry is the merge at its row and column. -/
theorem block_at (r : Fin 512) (j : Fin 1024) :
    (show EReal from k0_pay7 x (branches x a c s w0 w1 w2 b0 b1 b2 v0 v1 v2) wo g b (ix2 r j))
      = Cert.Merge.mixed W (fun d => x (ix2 r d)) (fun d => a (ix2 r d)) (fun d => c (ix2 r d)) (fun d => s (ix2 r d)) j := by
  have hr : ∀ j, Ideal.ofBits FTy.f32 1071072509#32 * x (ix2 r j)
      + ∑ l, branches x a c s w0 w1 w2 b0 b1 b2 v0 v1 v2 (ix2 r l) * wo (ix2 l j)
      = Cert.Merge.residual W (fun d => x (ix2 r d)) (fun d => a (ix2 r d)) (fun d => c (ix2 r d)) (fun d => s (ix2 r d)) j := by
    intro j
    have hwo : ∀ d j, wo (ix2 d j) = W.wo d j := H.hwo
    have hm : ∀ l, branches x a c s w0 w1 w2 b0 b1 b2 v0 v1 v2 (ix2 r l) = Cert.Merge.merged W (fun d => x (ix2 r d))
      (fun d => a (ix2 r d)) (fun d => c (ix2 r d)) (fun d => s (ix2 r d)) l := branches_at H x a c s r
    simp only [hwo, hm]
    rfl
  have hg : ∀ j, g (ix2 0 j) = W.g j := H.hg
  have hb : ∀ j, b (ix2 0 j) = W.b j := H.hb
  pointwise [k0_pay7]
  simp only [hr, hg, hb]
  rfl

end

/-- The four chunks of a block are its columns' quarters. -/
theorem chunk0_at (x : Vec Ideal S512x1024 .f32) (mg : FVec Ideal S512x1024 .bf16) (wo : Vec Ideal S1024x1024 .bf16)
    (g b : Vec Ideal S1x1024 .f32) (r : Fin 512) (j : Fin 256) :
    k0_pay8 x mg wo g b (ix3 0 r j) = k0_pay7 x mg wo g b (ix2 r ⟨0 * 256 + j.val, by omega⟩) := by
  pointwise [k0_pay8]

theorem chunk1_at (x : Vec Ideal S512x1024 .f32) (mg : FVec Ideal S512x1024 .bf16) (wo : Vec Ideal S1024x1024 .bf16)
    (g b : Vec Ideal S1x1024 .f32) (r : Fin 512) (j : Fin 256) :
    k0_pay9 x mg wo g b (ix3 0 r j) = k0_pay7 x mg wo g b (ix2 r ⟨1 * 256 + j.val, by omega⟩) := by
  pointwise [k0_pay9]

theorem chunk2_at (x : Vec Ideal S512x1024 .f32) (mg : FVec Ideal S512x1024 .bf16) (wo : Vec Ideal S1024x1024 .bf16)
    (g b : Vec Ideal S1x1024 .f32) (r : Fin 512) (j : Fin 256) :
    k0_pay11 (k0_pay10 x mg wo g b) (ix3 0 r j) = k0_pay7 x mg wo g b (ix2 r ⟨2 * 256 + j.val, by omega⟩) := by
  pointwise [k0_pay11, k0_pay10]

theorem chunk3_at (y : FVec Ideal S512x1024 .f32) (r : Fin 512) (j : Fin 256) :
    k0_pay12 y (ix3 0 r j) = y (ix2 r ⟨3 * 256 + j.val, by omega⟩) := by
  pointwise [k0_pay12]

end Cert.Kernel2Ideal.Merge

end
-- ==== Proof.MergeRun.lean ====
/-
  What a point of the merge's grid leaves in the block of its first result: four chunks of 256 columns, which are the columns'
  quarters of the mixed rows.
-/
module

public import proofs.«01_k».proof.Proof.Gen.Kernel2Ideal.Value
public import proofs.«01_k».proof.Proof.MergeBlock
public import Idealize.ShloMosaic.Lib.WritesUnit

@[expose] public section

set_option maxRecDepth 16384

noncomputable section

namespace Cert.Kernel2Ideal.Merge

open Cert.Kernel2Ideal Cert.Kernel2Ideal.Gen Cert.Kernel2Ideal.Value
open Idealize.ShloMosaic Idealize.ShloMosaic.TcCoe Idealize.ShloMosaic.Tactic Idealize.SL.Sem
open Idealize.ShloMosaic.Pipeline (Dat)

/-- Four chunks written one after another, read at an entry: chunk `k` holds the columns from `256 k`. -/
theorem read_chunks (v : View sig .tc .vmem S4x512x256 .f32) (f : v.ty.Contents (Elt Ideal)) (Y : FVec Ideal S512x1024 .f32)
    (p0 p1 p2 p3 : Vec Ideal S1x512x256 .f32)
    (h0 : ∀ (r : Fin 512) (j : Fin 256), p0 (ix3 0 r j) = Y (ix2 r ⟨0 * 256 + j.val, by omega⟩))
    (h1 : ∀ (r : Fin 512) (j : Fin 256), p1 (ix3 0 r j) = Y (ix2 r ⟨1 * 256 + j.val, by omega⟩))
    (h2 : ∀ (r : Fin 512) (j : Fin 256), p2 (ix3 0 r j) = Y (ix2 r ⟨2 * 256 + j.val, by omega⟩))
    (h3 : ∀ (r : Fin 512) (j : Fin 256), p3 (ix3 0 r j) = Y (ix2 r ⟨3 * 256 + j.val, by omega⟩))
    (k : Fin 4) (r : Fin 512) (j : Fin 256) :
    v.read (Elt Ideal) (v.writes (Elt Ideal) f
      [⟨Rect.unit ![3, 0, 0] ![1, 512, 256] inb_S4x512x256_S1x512x256_3_0_0, p3⟩,
        ⟨Rect.unit ![2, 0, 0] ![1, 512, 256] inb_S4x512x256_S1x512x256_2_0_0, p2⟩,
        ⟨Rect.unit ![1, 0, 0] ![1, 512, 256] inb_S4x512x256_S1x512x256_1_0_0, p1⟩,
        ⟨Rect.unit ![0, 0, 0] ![1, 512, 256] inb_S4x512x256_S1x512x256_0_0_0, p0⟩]) (ix3 k r j)
      = Y (ix2 r ⟨k.val * 256 + j.val, by omega⟩) := by
  have hit : ∀ (n : Fin 4) (inb) (p : Vec Ideal S1x512x256 .f32) (L : List (View.Piece (Elt Ideal) S4x512x256 .f32)),
      v.read (Elt Ideal) (v.writes (Elt Ideal) f
        ((⟨Rect.unit ![n.val, 0, 0] ![1, 512, 256] inb, p⟩ : View.Piece (Elt Ideal) S4x512x256 .f32) :: L)) (ix3 n r j)
        = p (ix3 0 r j) := fun n inb p L =>
    View.read_writes_cons_unit_of_mem v f inb p L (ix3 n r j) (ix3 0 r j) rfl (fun a => by
      match a with
      | ⟨0, _⟩ => show n.val = n.val + 0; omega
      | ⟨1, _⟩ => show r.val = 0 + r.val; omega
      | ⟨2, _⟩ => show j.val = 0 + j.val; omega)
  have miss : ∀ (n k : Fin 4) (_ : k ≠ n) (inb) (p : Vec Ideal S1x512x256 .f32)
      (L : List (View.Piece (Elt Ideal) S4x512x256 .f32)), v.read (Elt Ideal) (v.writes (Elt Ideal) f
        ((⟨Rect.unit ![n.val, 0, 0] ![1, 512, 256] inb, p⟩ : View.Piece (Elt Ideal) S4x512x256 .f32) :: L)) (ix3 k r j)
        = v.read (Elt Ideal) (v.writes (Elt Ideal) f L) (ix3 k r j) := fun n k hk inb p L =>
    View.read_writes_cons_unit_of_not_mem v f inb p L (ix3 k r j) rfl (0 : Fin 3) (by
      show k.val < n.val ∨ n.val + 1 ≤ k.val
      have : k.val ≠ n.val := fun h => hk (Fin.ext h)
      omega)
  match k with
  | ⟨0, _⟩ =>
    exact ((miss 3 0 (by decide) _ _ _).trans ((miss 2 0 (by decide) _ _ _).trans
      ((miss 1 0 (by decide) _ _ _).trans (hit 0 _ _ _)))).trans (h0 r j)
  | ⟨1, _⟩ =>
    exact ((miss 3 1 (by decide) _ _ _).trans ((miss 2 1 (by decide) _ _ _).trans (hit 1 _ _ _))).trans (h1 r j)
  | ⟨2, _⟩ => exact ((miss 3 2 (by decide) _ _ _).trans (hit 2 _ _ _)).trans (h2 r j)
  | ⟨3, _⟩ => exact (hit 3 _ _ _).trans (h3 r j)

variable (m : (ℓ : Loc nD τ sig) → Buf (Elt Ideal) ℓ)

/-- The mixed rows of a point, out of the blocks it is given. -/
def block (c : Dev nD) (t : Fin cfg0.N) : FVec Ideal S512x1024 .f32 :=
  k0_pay7 (iblk m c 0 t) (branches (iblk m c 0 t) (iblk m c 1 t) (iblk m c 2 t) (iblk m c 3 t)
    (View.ld (iblk m c 4 t) (Rect.unit ![0, 0, 0] S1x1024x1024.size inb_S3x1024x1024_S1x1024x1024_0_0_0))
    (View.ld (iblk m c 4 t) (Rect.unit ![1, 0, 0] S1x1024x1024.size inb_S3x1024x1024_S1x1024x1024_1_0_0))
    (View.ld (iblk m c 4 t) (Rect.unit ![2, 0, 0] S1x1024x1024.size inb_S3x1024x1024_S1x1024x1024_2_0_0))
    (View.ld (iblk m c 5 t) (Rect.unit ![0, 0, 0] S1x1x1024.size inb_S3x1x1024_S1x1x1024_0_0_0))
    (View.ld (iblk m c 5 t) (Rect.unit ![1, 0, 0] S1x1x1024.size inb_S3x1x1024_S1x1x1024_1_0_0))
    (View.ld (iblk m c 5 t) (Rect.unit ![2, 0, 0] S1x1x1024.size inb_S3x1x1024_S1x1x1024_2_0_0))
    (View.ld (iblk m c 6 t) (Rect.unit ![0, 0, 0] S1x512x1024.size inb_S3x512x1024_S1x512x1024_0_0_0))
    (View.ld (iblk m c 6 t) (Rect.unit ![1, 0, 0] S1x512x1024.size inb_S3x512x1024_S1x512x1024_1_0_0))
    (View.ld (iblk m c 6 t) (Rect.unit ![2, 0, 0] S1x512x1024.size inb_S3x512x1024_S1x512x1024_2_0_0)))
    (iblk m c 7 t) (iblk m c 8 t) (iblk m c 9 t)

theorem zero2 : (![0, 0] : Fin 2 → ℕ) = fun _ => 0 := by decide

set_option maxHeartbeats 1000000 in
/-- A point's block, whichever way its first step goes. -/
theorem after_at (c : Dev nD) (t : Fin cfg0.N) (k : Fin 4) (r : Fin 512) (j : Fin 256) :
    (outsAt0 m c t.val t.isLt).1 (ix3 k r j) = block m c t (ix2 r ⟨k.val * 256 + j.val, by omega⟩) := by
  by_cases h0 : t.val % 128 = 0
  · rw [outsAt0_A m c t h0]
    dsimp only
    unfold out0_A_13 kernelRun0_A
    dsimp only
    sl_unfold_words
    simp only [View.readAt_eq_ld, (hs0_0 t).read_unread, (hs0_1 t).read_unread, (hs0_2 t).read_unread,
      (hs0_3 t).read_unread, (hs0_4 t).read_unread, (hs0_5 t).read_unread, (hs0_6 t).read_unread, (hs0_7 t).read_unread,
      (hs0_8 t).read_unread, (hs0_9 t).read_unread, View.ld_unit_zero (S := S512x1024) zero2,
      View.ld_unit_zero (S := S512x512) zero2, View.ld_unit_zero (S := S1024x1024) zero2, View.ld_unit_zero (S := S1x1024) zero2]
    exact read_chunks _ _ (block m c t) _ _ _ _ (chunk0_at _ _ _ _ _) (chunk1_at _ _ _ _ _) (chunk2_at _ _ _ _ _)
      (chunk3_at _) k r j
  · rw [outsAt0_B m c t h0]
    dsimp only
    unfold out0_B_13 kernelRun0_B
    dsimp only
    sl_unfold_words
    simp only [View.readAt_eq_ld, (hs0_0 t).read_unread, (hs0_1 t).read_unread, (hs0_2 t).read_unread,
      (hs0_3 t).read_unread, (hs0_4 t).read_unread, (hs0_5 t).read_unread, (hs0_6 t).read_unread, (hs0_7 t).read_unread,
      (hs0_8 t).read_unread, (hs0_9 t).read_unread, View.ld_unit_zero (S := S512x1024) zero2,
      View.ld_unit_zero (S := S512x512) zero2, View.ld_unit_zero (S := S1024x1024) zero2, View.ld_unit_zero (S := S1x1024) zero2]
    exact read_chunks _ _ (block m c t) _ _ _ _ (chunk0_at _ _ _ _ _) (chunk1_at _ _ _ _ _) (chunk2_at _ _ _ _ _)
      (chunk3_at _) k r j

end Cert.Kernel2Ideal.Merge

end
-- ==== Proof.MergeValue.lean ====
/-
  The merge's first result: each point of the grid mixes 512 rows, and the points' blocks cover the array.
-/
module

public import proofs.«01_k».proof.Proof.MergeRun
public import Idealize.ShloMosaic.Lib.Pointwise

@[expose] public section

set_option maxRecDepth 16384

noncomputable section

namespace Cert.Kernel2Ideal.Merge

open Cert.Kernel2Ideal Cert.Kernel2Ideal.Gen Cert.Kernel2Ideal.Value
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-! ### What the host prepares: the weights, whose casts leave them as they were, and the rows of biases and of the norm. -/

theorem V_gates (c : Dev nD) : V m c main_v8 = (show Buf (Elt Ideal) ((c : Thread nD τ).loc main_v8) from
    (truncf .bf16 (m ((c : Thread nD τ).loc main_arg4) : FVec Ideal S3x1024x1024 .f32) bitsLt_bf16_f32 : FVec Ideal S3x1024x1024 .bf16)) := by
  show StableHlo.after (List.flatten [hostOps0, hostOps0_1, hostOps0_2]) _ (Proc.devRef .tc main_v8) = _
  simp only [List.flatten_cons, List.flatten_nil, List.cons_append, List.nil_append, List.append_nil]
  after_results

theorem V_biases (c : Dev nD) : V m c main_v9 = (show Buf (Elt Ideal) ((c : Thread nD τ).loc main_v9) from
    (broadcastInDim S3x1x1024 ![0, 2] bcast_S3x1024_S3x1x1024_0_2
      (m ((c : Thread nD τ).loc main_arg5) : FVec Ideal S3x1024 .f32) : FVec Ideal S3x1x1024 .f32)) := by
  show StableHlo.after (List.flatten [hostOps0, hostOps0_1, hostOps0_2]) _ (Proc.devRef .tc main_v9) = _
  simp only [List.flatten_cons, List.flatten_nil, List.cons_append, List.nil_append, List.append_nil]
  after_results

theorem V_branches (c : Dev nD) : V m c main_v10 = (show Buf (Elt Ideal) ((c : Thread nD τ).loc main_v10) from
    (truncf .bf16 (m ((c : Thread nD τ).loc main_arg6) : FVec Ideal S3x512x1024 .f32) bitsLt_bf16_f32 : FVec Ideal S3x512x1024 .bf16)) := by
  show StableHlo.after (List.flatten [hostOps0, hostOps0_1, hostOps0_2]) _ (Proc.devRef .tc main_v10) = _
  simp only [List.flatten_cons, List.flatten_nil, List.cons_append, List.nil_append, List.append_nil]
  after_results

theorem V_out (c : Dev nD) : V m c main_v11 = (show Buf (Elt Ideal) ((c : Thread nD τ).loc main_v11) from
    (truncf .bf16 (m ((c : Thread nD τ).loc main_arg7) : FVec Ideal S1024x1024 .f32) bitsLt_bf16_f32 : FVec Ideal S1024x1024 .bf16)) := by
  show StableHlo.after (List.flatten [hostOps0, hostOps0_1, hostOps0_2]) _ (Proc.devRef .tc main_v11) = _
  simp only [List.flatten_cons, List.flatten_nil, List.cons_append, List.nil_append, List.append_nil]
  after_results

theorem V_scale (c : Dev nD) : V m c main_v12 = (show Buf (Elt Ideal) ((c : Thread nD τ).loc main_v12) from
    (broadcastInDim S1x1024 ![1] bcast_S1024_S1x1024_1
      (m ((c : Thread nD τ).loc main_arg8) : FVec Ideal S1024 .f32) : FVec Ideal S1x1024 .f32)) := by
  show StableHlo.after (List.flatten [hostOps0, hostOps0_1, hostOps0_2]) _ (Proc.devRef .tc main_v12) = _
  simp only [List.flatten_cons, List.flatten_nil, List.cons_append, List.nil_append, List.append_nil]
  after_results

theorem V_shift (c : Dev nD) : V m c main_v13 = (show Buf (Elt Ideal) ((c : Thread nD τ).loc main_v13) from
    (broadcastInDim S1x1024 ![1] bcast_S1024_S1x1024_1
      (m ((c : Thread nD τ).loc main_arg9) : FVec Ideal S1024 .f32) : FVec Ideal S1x1024 .f32)) := by
  show StableHlo.after (List.flatten [hostOps0, hostOps0_1, hostOps0_2]) _ (Proc.devRef .tc main_v13) = _
  simp only [List.flatten_cons, List.flatten_nil, List.cons_append, List.nil_append, List.append_nil]
  after_results

/-! ### The blocks of a point -/

/-- The rows' windows move with the point; the weights' windows hold their arrays whole. -/
theorem rows_index : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_13.index t 0 = 0 ∧ win0_13.index t 1 = t.val ∧ win0_13.index t 2 = 0) :=
  (by decide +kernel : ∀ t : Fin grid0.N, _)

theorem weights_index : ∀ t : Fin cfg0.N,
    (win0_4.index t 0 = 0 ∧ win0_4.index t 1 = 0 ∧ win0_4.index t 2 = 0)
    ∧ (win0_5.index t 0 = 0 ∧ win0_5.index t 1 = 0 ∧ win0_5.index t 2 = 0)
    ∧ (win0_6.index t 0 = 0 ∧ win0_6.index t 1 = 0 ∧ win0_6.index t 2 = 0)
    ∧ (win0_7.index t 0 = 0 ∧ win0_7.index t 1 = 0) ∧ (win0_8.index t 0 = 0 ∧ win0_8.index t 1 = 0)
    ∧ (win0_9.index t 0 = 0 ∧ win0_9.index t 1 = 0) :=
  (by decide +kernel : ∀ t : Fin grid0.N, _)

/-- The row of the arrays that a point's row `r` is. -/
def rowOf (t : Fin cfg0.N) (r : Fin 512) : Fin 65536 :=
  ⟨512 * t.val + r.val, by
    have h : t.val < 128 := lt_of_lt_of_eq t.2 N_0
    omega⟩

theorem input_block (c : Dev nD) (t : Fin cfg0.N) (r : Fin 512) (d : Fin 1024) :
    (show EReal from (iblk m c 0 t : Vec Ideal S512x1024 .f32) (ix2 r d))
      = (show FVec Ideal S65536x1024 .f32 from m ((c : Thread nD τ).loc main_arg0)) (ix2 (rowOf t r) d) := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 512 + 1 * r.val = 512 * t.val + r.val; rw [(rows_index t).1.1]; ring
  | ⟨1, _⟩ => show win0_0.index t 1 * 1024 + 1 * d.val = d.val; rw [(rows_index t).1.2]; ring

theorem att_block (c : Dev nD) (t : Fin cfg0.N) (r : Fin 512) (d : Fin 512) :
    (show EReal from (iblk m c 1 t : Vec Ideal S512x512 .bf16) (ix2 r d))
      = (show FVec Ideal S65536x512 .bf16 from m ((c : Thread nD τ).loc main_arg1)) (ix2 (rowOf t r) d) := by
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 512 + 1 * r.val = 512 * t.val + r.val; rw [(rows_index t).2.1.1]; ring
  | ⟨1, _⟩ => show win0_1.index t 1 * 512 + 1 * d.val = d.val; rw [(rows_index t).2.1.2]; ring

theorem conv_block (c : Dev nD) (t : Fin cfg0.N) (r : Fin 512) (d : Fin 512) :
    (show EReal from (iblk m c 2 t : Vec Ideal S512x512 .bf16) (ix2 r d))
      = (show FVec Ideal S65536x512 .bf16 from m ((c : Thread nD τ).loc main_arg2)) (ix2 (rowOf t r) d) := by
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 512 + 1 * r.val = 512 * t.val + r.val; rw [(rows_index t).2.2.1.1]; ring
  | ⟨1, _⟩ => show win0_2.index t 1 * 512 + 1 * d.val = d.val; rw [(rows_index t).2.2.1.2]; ring

theorem shift_block (c : Dev nD) (t : Fin cfg0.N) (r : Fin 512) (d : Fin 512) :
    (show EReal from (iblk m c 3 t : Vec Ideal S512x512 .bf16) (ix2 r d))
      = (show FVec Ideal S65536x512 .bf16 from m ((c : Thread nD τ).loc main_arg3)) (ix2 (rowOf t r) d) := by
  unfold iblk
  rw [View.read_apply]
  show V m c main_arg3 _ = _
  rw [V_main_arg3]
  refine congrArg (m ((c : Thread nD τ).loc main_arg3)) (funext fun a => Fin.ext ?_)
  match a with
  | ⟨0, _⟩ => show win0_3.index t 0 * 512 + 1 * r.val = 512 * t.val + r.val; rw [(rows_index t).2.2.2.1.1]; ring
  | ⟨1, _⟩ => show win0_3.index t 1 * 512 + 1 * d.val = d.val; rw [(rows_index t).2.2.2.1.2]; ring

theorem gates_block (c : Dev nD) (t : Fin cfg0.N) (n : Fin 3) (d j : Fin 1024) :
    (show EReal from (iblk m c 4 t : Vec Ideal S3x1024x1024 .bf16) (ix3 n d j))
      = (show FVec Ideal S3x1024x1024 .f32 from m ((c : Thread nD τ).loc main_arg4)) (ix3 n d j) := by
  have h : (show EReal from (iblk m c 4 t : Vec Ideal S3x1024x1024 .bf16) (ix3 n d j))
      = (show Vec Ideal S3x1024x1024 .bf16 from V m c main_v8) (ix3 n d j) := by
    unfold iblk
    rw [View.read_apply]
    refine congrArg (V m c main_v8) (funext fun a => Fin.ext ?_)
    match a with
    | ⟨0, _⟩ => show win0_4.index t 0 * 3 + 1 * n.val = n.val; rw [(weights_index t).1.1]; ring
    | ⟨1, _⟩ => show win0_4.index t 1 * 1024 + 1 * d.val = d.val; rw [(weights_index t).1.2.1]; ring
    | ⟨2, _⟩ => show win0_4.index t 2 * 1024 + 1 * j.val = j.val; rw [(weights_index t).1.2.2]; ring
  rw [h, V_gates]
  pointwise []

theorem biases_block (c : Dev nD) (t : Fin cfg0.N) (n : Fin 3) (d : Fin 1) (j : Fin 1024) :
    (show EReal from (iblk m c 5 t : Vec Ideal S3x1x1024 .f32) (ix3 n d j))
      = (show FVec Ideal S3x1024 .f32 from m ((c : Thread nD τ).loc main_arg5)) (ix2 n j) := by
  have h : (show EReal from (iblk m c 5 t : Vec Ideal S3x1x1024 .f32) (ix3 n d j))
      = (show Vec Ideal S3x1x1024 .f32 from V m c main_v9) (ix3 n d j) := by
    unfold iblk
    rw [View.read_apply]
    refine congrArg (V m c main_v9) (funext fun a => Fin.ext ?_)
    match a with
    | ⟨0, _⟩ => show win0_5.index t 0 * 3 + 1 * n.val = n.val; rw [(weights_index t).2.1.1]; ring
    | ⟨1, _⟩ => show win0_5.index t 1 * 1 + 1 * d.val = d.val; rw [(weights_index t).2.1.2.1]; ring
    | ⟨2, _⟩ => show win0_5.index t 2 * 1024 + 1 * j.val = j.val; rw [(weights_index t).2.1.2.2]; ring
  rw [h, V_biases]
  pointwise []

theorem branches_block (c : Dev nD) (t : Fin cfg0.N) (n : Fin 3) (d : Fin 512) (j : Fin 1024) :
    (show EReal from (iblk m c 6 t : Vec Ideal S3x512x1024 .bf16) (ix3 n d j))
      = (show FVec Ideal S3x512x1024 .f32 from m ((c : Thread nD τ).loc main_arg6)) (ix3 n d j) := by
  have h : (show EReal from (iblk m c 6 t : Vec Ideal S3x512x1024 .bf16) (ix3 n d j))
      = (show Vec Ideal S3x512x1024 .bf16 from V m c main_v10) (ix3 n d j) := by
    unfold iblk
    rw [View.read_apply]
    refine congrArg (V m c main_v10) (funext fun a => Fin.ext ?_)
    match a with
    | ⟨0, _⟩ => show win0_6.index t 0 * 3 + 1 * n.val = n.val; rw [(weights_index t).2.2.1.1]; ring
    | ⟨1, _⟩ => show win0_6.index t 1 * 512 + 1 * d.val = d.val; rw [(weights_index t).2.2.1.2.1]; ring
    | ⟨2, _⟩ => show win0_6.index t 2 * 1024 + 1 * j.val = j.val; rw [(weights_index t).2.2.1.2.2]; ring
  rw [h, V_branches]
  pointwise []

theorem out_block (c : Dev nD) (t : Fin cfg0.N) (d j : Fin 1024) :
    (show EReal from (iblk m c 7 t : Vec Ideal S1024x1024 .bf16) (ix2 d j))
      = (show FVec Ideal S1024x1024 .f32 from m ((c : Thread nD τ).loc main_arg7)) (ix2 d j) := by
  have h : (show EReal from (iblk m c 7 t : Vec Ideal S1024x1024 .bf16) (ix2 d j))
      = (show Vec Ideal S1024x1024 .bf16 from V m c main_v11) (ix2 d j) := by
    unfold iblk
    rw [View.read_apply]
    refine congrArg (V m c main_v11) (funext fun a => Fin.ext ?_)
    match a with
    | ⟨0, _⟩ => show win0_7.index t 0 * 1024 + 1 * d.val = d.val; rw [(weights_index t).2.2.2.1.1]; ring
    | ⟨1, _⟩ => show win0_7.index t 1 * 1024 + 1 * j.val = j.val; rw [(weights_index t).2.2.2.1.2]; ring
  rw [h, V_out]
  pointwise []

theorem scale_block (c : Dev nD) (t : Fin cfg0.N) (d : Fin 1) (j : Fin 1024) :
    (show EReal from (iblk m c 8 t : Vec Ideal S1x1024 .f32) (ix2 d j))
      = (show FVec Ideal S1024 .f32 from m ((c : Thread nD τ).loc main_arg8)) (ix1 j) := by
  have h : (show EReal from (iblk m c 8 t : Vec Ideal S1x1024 .f32) (ix2 d j))
      = (show Vec Ideal S1x1024 .f32 from V m c main_v12) (ix2 d j) := by
    unfold iblk
    rw [View.read_apply]
    refine congrArg (V m c main_v12) (funext fun a => Fin.ext ?_)
    match a with
    | ⟨0, _⟩ => show win0_8.index t 0 * 1 + 1 * d.val = d.val; rw [(weights_index t).2.2.2.2.1.1]; ring
    | ⟨1, _⟩ => show win0_8.index t 1 * 1024 + 1 * j.val = j.val; rw [(weights_index t).2.2.2.2.1.2]; ring
  rw [h, V_scale]
  pointwise []

theorem offset_block (c : Dev nD) (t : Fin cfg0.N) (d : Fin 1) (j : Fin 1024) :
    (show EReal from (iblk m c 9 t : Vec Ideal S1x1024 .f32) (ix2 d j))
      = (show FVec Ideal S1024 .f32 from m ((c : Thread nD τ).loc main_arg9)) (ix1 j) := by
  have h : (show EReal from (iblk m c 9 t : Vec Ideal S1x1024 .f32) (ix2 d j))
      = (show Vec Ideal S1x1024 .f32 from V m c main_v13) (ix2 d j) := by
    unfold iblk
    rw [View.read_apply]
    refine congrArg (V m c main_v13) (funext fun a => Fin.ext ?_)
    match a with
    | ⟨0, _⟩ => show win0_9.index t 0 * 1 + 1 * d.val = d.val; rw [(weights_index t).2.2.2.2.2.1]; ring
    | ⟨1, _⟩ => show win0_9.index t 1 * 1024 + 1 * j.val = j.val; rw [(weights_index t).2.2.2.2.2.2]; ring
  rw [h, V_shift]
  pointwise []

/-! ### The result -/

/-- The weights, out of the argument arrays. -/
def weights (c : Dev nD) : Cert.Merge.Weights where
  wg n d j := (show FVec Ideal S3x1024x1024 .f32 from m ((c : Thread nD τ).loc main_arg4)) (ix3 n d j)
  bg n j := (show FVec Ideal S3x1024 .f32 from m ((c : Thread nD τ).loc main_arg5)) (ix2 n j)
  wb n d j := (show FVec Ideal S3x512x1024 .f32 from m ((c : Thread nD τ).loc main_arg6)) (ix3 n d j)
  wo l j := (show FVec Ideal S1024x1024 .f32 from m ((c : Thread nD τ).loc main_arg7)) (ix2 l j)
  g j := (show FVec Ideal S1024 .f32 from m ((c : Thread nD τ).loc main_arg8)) (ix1 j)
  b j := (show FVec Ideal S1024 .f32 from m ((c : Thread nD τ).loc main_arg9)) (ix1 j)

/-- The mixed row `r` of the argument arrays, at a column. -/
def mixedAt (c : Dev nD) (r : Fin 65536) (j : Fin 1024) : EReal :=
  Cert.Merge.mixed (weights m c) (fun d => (show FVec Ideal S65536x1024 .f32 from m ((c : Thread nD τ).loc main_arg0)) (ix2 r d))
    (fun d => (show FVec Ideal S65536x512 .bf16 from m ((c : Thread nD τ).loc main_arg1)) (ix2 r d))
    (fun d => (show FVec Ideal S65536x512 .bf16 from m ((c : Thread nD τ).loc main_arg2)) (ix2 r d))
    (fun d => (show FVec Ideal S65536x512 .bf16 from m ((c : Thread nD τ).loc main_arg3)) (ix2 r d)) j

/-- The result array: chunk `k` holds the columns from `256 k` of every mixed row. -/
def result (c : Dev nD) : Buf (Elt Ideal) ((c : Thread nD τ).loc main_v18_0) := fun (i : S4x65536x256.Idx) =>
  mixedAt m c (i 1) ⟨(i 0).val * 256 + (i 2).val, by
    have h0 : (i 0).val < 4 := (i 0).2
    have h2 : (i 2).val < 256 := (i 2).2
    omega⟩

/-- The slice `n` of a stack, read at an entry. -/
theorem slice_at {e : EltTy} {s0 s1 s2 : ℕ} (X : (⟨3, ![s0, s1, s2]⟩ : Shape).Idx → Elt Ideal e) (n : Fin s0)
    (inb : ∀ a, (![n.val, 0, 0] : Fin 3 → ℕ) a + (![1, s1, s2] : Fin 3 → ℕ) a ≤ (⟨3, ![s0, s1, s2]⟩ : Shape).size a)
    (d : Fin s1) (j : Fin s2) :
    View.ld X (Rect.unit (s := ⟨3, ![s0, s1, s2]⟩) ![n.val, 0, 0] ![1, s1, s2] inb) (ix3 0 d j) = X (ix3 n d j) :=
  congrArg X (funext fun a => Fin.ext (by
    match a with
    | ⟨0, _⟩ => show n.val + 1 * 0 = n.val; omega
    | ⟨1, _⟩ => show 0 + 1 * d.val = d.val; omega
    | ⟨2, _⟩ => show 0 + 1 * j.val = j.val; omega))

/-- What a point is given of the weights. -/
theorem slices (c : Dev nD) (t : Fin cfg0.N) : Slices (weights m c)
    (View.ld (iblk m c 4 t) (Rect.unit ![0, 0, 0] S1x1024x1024.size inb_S3x1024x1024_S1x1024x1024_0_0_0))
    (View.ld (iblk m c 4 t) (Rect.unit ![1, 0, 0] S1x1024x1024.size inb_S3x1024x1024_S1x1024x1024_1_0_0))
    (View.ld (iblk m c 4 t) (Rect.unit ![2, 0, 0] S1x1024x1024.size inb_S3x1024x1024_S1x1024x1024_2_0_0))
    (View.ld (iblk m c 5 t) (Rect.unit ![0, 0, 0] S1x1x1024.size inb_S3x1x1024_S1x1x1024_0_0_0))
    (View.ld (iblk m c 5 t) (Rect.unit ![1, 0, 0] S1x1x1024.size inb_S3x1x1024_S1x1x1024_1_0_0))
    (View.ld (iblk m c 5 t) (Rect.unit ![2, 0, 0] S1x1x1024.size inb_S3x1x1024_S1x1x1024_2_0_0))
    (View.ld (iblk m c 6 t) (Rect.unit ![0, 0, 0] S1x512x1024.size inb_S3x512x1024_S1x512x1024_0_0_0))
    (View.ld (iblk m c 6 t) (Rect.unit ![1, 0, 0] S1x512x1024.size inb_S3x512x1024_S1x512x1024_1_0_0))
    (View.ld (iblk m c 6 t) (Rect.unit ![2, 0, 0] S1x512x1024.size inb_S3x512x1024_S1x512x1024_2_0_0))
    (iblk m c 7 t) (iblk m c 8 t) (iblk m c 9 t) where
  hw0 d j := (slice_at (iblk m c 4 t) (0 : Fin 3) _ d j).trans (gates_block m c t 0 d j)
  hw1 d j := (slice_at (iblk m c 4 t) (1 : Fin 3) _ d j).trans (gates_block m c t 1 d j)
  hw2 d j := (slice_at (iblk m c 4 t) (2 : Fin 3) _ d j).trans (gates_block m c t 2 d j)
  hb0 j := (slice_at (iblk m c 5 t) (0 : Fin 3) _ (0 : Fin 1) j).trans (biases_block m c t 0 0 j)
  hb1 j := (slice_at (iblk m c 5 t) (1 : Fin 3) _ (0 : Fin 1) j).trans (biases_block m c t 1 0 j)
  hb2 j := (slice_at (iblk m c 5 t) (2 : Fin 3) _ (0 : Fin 1) j).trans (biases_block m c t 2 0 j)
  hv0 d j := (slice_at (iblk m c 6 t) (0 : Fin 3) _ d j).trans (branches_block m c t 0 d j)
  hv1 d j := (slice_at (iblk m c 6 t) (1 : Fin 3) _ d j).trans (branches_block m c t 1 d j)
  hv2 d j := (slice_at (iblk m c 6 t) (2 : Fin 3) _ d j).trans (branches_block m c t 2 d j)
  hwo d j := out_block m c t d j
  hg j := scale_block m c t 0 j
  hb j := offset_block m c t 0 j

/-- A point's mixed rows are rows of the result. -/
theorem block_row (c : Dev nD) (t : Fin cfg0.N) (r : Fin 512) (j : Fin 1024) :
    (show EReal from block m c t (ix2 r j)) = mixedAt m c (rowOf t r) j := by
  refine (block_at (slices m c t) (iblk m c 0 t) (iblk m c 1 t) (iblk m c 2 t) (iblk m c 3 t) r j).trans ?_
  unfold mixedAt
  congr 1
  · exact funext fun d => input_block m c t r d
  · exact funext fun d => att_block m c t r d
  · exact funext fun d => conv_block m c t r d
  · exact funext fun d => shift_block m c t r d

/-- A point's block is written back whole. -/
theorem cut_at (t : Fin cfg0.N) (X : Vec Ideal S4x512x256 .f32) (y : S4x512x256.Idx) :
    (cfg0.win 13).cut (grid0.coords t) X y = X y := rfl

/-- Where the entry of a point's block lies in the array. -/
theorem place (t : Fin cfg0.N) (k : Fin 4) (r : Fin 512) (j : Fin 256) :
    ((cfg0.win 13).blk t).view.emb (ix3 k r j : S4x512x256.Idx) = (ix3 k (rowOf t r) j : S4x65536x256.Idx) :=
  funext fun a => Fin.ext (by
    match a with
    | ⟨0, _⟩ => show win0_13.index t 0 * 4 + 1 * k.val = k.val; rw [(rows_index t).2.2.2.2.1]; ring
    | ⟨1, _⟩ => show win0_13.index t 1 * 512 + 1 * r.val = 512 * t.val + r.val; rw [(rows_index t).2.2.2.2.2.1]; ring
    | ⟨2, _⟩ => show win0_13.index t 2 * 256 + 1 * j.val = j.val; rw [(rows_index t).2.2.2.2.2.2]; ring)

/-- What a point writes back is the block of the result there. -/
theorem flushed_eq (c : Dev nD) (t : Fin cfg0.N) (hf : (cfg0.win 13).flush t = true) :
    (dats m 0 c).flushed 13 t = ((cfg0.win 13).blk t).view.read (Elt Ideal) (result m c) := by
  rw [flushed13 m c t]
  funext y
  obtain ⟨k, r, j, rfl⟩ : ∃ (k : Fin 4) (r : Fin 512) (j : Fin 256), y = (ix3 k r j : S4x512x256.Idx) :=
    ⟨y 0, y 1, y 2, eq_ix3 (n0 := 4) (n1 := 512) (n2 := 256) y⟩
  rw [View.read_apply, place t k r j]
  exact (cut_at t _ _).trans ((after_at m c t k r j).trans (block_row m c t r _))

/-- The array after the run. -/
theorem final_eq (c : Dev nD) : (dats m 0 c).arrAt 13 cfg0.N = result m c :=
  (dats m 0 c).arrAt_eq_of_cover 13 _ (fun t hf => flushed_eq m c t hf) (fun i => (covered_iff13 i).2 (by
    have h0 : (i 0).val < 4 := (i 0).2
    have h1 : (i 1).val < 65536 := (i 1).2
    have h2 : (i 2).val < 256 := (i 2).2
    omega))

/-- The kernel's run: the result is the mixed rows, the arguments are unchanged. -/
theorem value_run : θ_run defs (onTc (τ := τ) (main (F := Ideal))) ⟨m, fun _ => 0, ρ⟩ fun r => ∀ c : Dev nD,
    r.2.mem ((c : Thread nD τ).loc main_v18_0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final_eq m c), (h c).2.2.2⟩) (run_blocks m ρ)

end Cert.Kernel2Ideal.Merge

end
-- ==== Proof.MergeReference.lean ====
/-
  The merge's reference at an entry: it is the merge of `Merge.lean`, for the row's input, the row's branches and
    the weights.
-/
module

public import proofs.«01_k».proof.Proof.Gen.Reference2Ideal.Run
public import proofs.«01_k».proof.Proof.Merge
public import Idealize.ShloMosaic.Lib.Pointwise

@[expose] public section

set_option maxRecDepth 16384

noncomputable section

namespace Cert.Reference2Ideal.Entry

open Cert.Reference2Ideal Cert.Reference2Ideal.Gen Cert.Reference2Ideal.Value
open Idealize.ShloMosaic Idealize.ShloMosaic.TcCoe Idealize.SL.Sem

/-- One branch: the sigmoid gate from the layer's input times the branch's projection. -/
def branch (x : FVec Ideal S65536x1024 .f32) (a : FVec Ideal S65536x512 .bf16) (wg : FVec Ideal S1x1024x1024 .f32)
    (bg : FVec Ideal S1x1024 .f32) (wb : FVec Ideal S1x512x1024 .f32) : FVec Ideal S65536x1024 .f32 :=
  mulf (Host.divf (broadcastInDim S65536x1024 ![] bcast_S_S65536x1024 (constant S_ .f32 0x3F800000#32)) (addf
    (broadcastInDim S65536x1024 ![] bcast_S_S65536x1024 (constant S_ .f32 0x3F800000#32)) (Host.exp (Host.negf (addf
    (Host.dotGeneral dot_S65536x1024_S1024x1024_S65536x1024_1_0_0_1_n_n none x (shapeCast _ wg
    shapeCasts_S1x1024x1024_S1024x1024)) (broadcastInDim S65536x1024 ![0, 1] bcast_S1x1024_S65536x1024_0_1
    (broadcastInDim S1x1024 ![1] bcast_S1024_S1x1024_1 (shapeCast _ bg shapeCasts_S1x1024_S1024))))))))
    (Host.dotGeneral dot_S65536x512_S512x1024_S65536x1024_1_0_0_1_n_n none (extf .f32 a bitsLt_bf16_f32) (shapeCast _
    wb shapeCasts_S1x512x1024_S512x1024))

/-- The three branches' sum. -/
def merged (x : FVec Ideal S65536x1024 .f32) (a c s : FVec Ideal S65536x512 .bf16) (wg : FVec Ideal S3x1024x1024 .f32)
    (bg : FVec Ideal S3x1024 .f32) (wb : FVec Ideal S3x512x1024 .f32) : FVec Ideal S65536x1024 .f32 :=
  addf (addf
    (branch x a (extractStridedSlice S1x1024x1024 ![0, 0, 0] wg slices_S3x1024x1024_S1x1024x1024_0_0_0)
      (extractStridedSlice S1x1024 ![0, 0] bg slices_S3x1024_S1x1024_0_0)
      (extractStridedSlice S1x512x1024 ![0, 0, 0] wb slices_S3x512x1024_S1x512x1024_0_0_0))
    (branch x c (extractStridedSlice S1x1024x1024 ![1, 0, 0] wg slices_S3x1024x1024_S1x1024x1024_1_0_0)
      (extractStridedSlice S1x1024 ![1, 0] bg slices_S3x1024_S1x1024_1_0)
      (extractStridedSlice S1x512x1024 ![1, 0, 0] wb slices_S3x512x1024_S1x512x1024_1_0_0)))
    (branch x s (extractStridedSlice S1x1024x1024 ![2, 0, 0] wg slices_S3x1024x1024_S1x1024x1024_2_0_0)
      (extractStridedSlice S1x1024 ![2, 0] bg slices_S3x1024_S1x1024_2_0)
      (extractStridedSlice S1x512x1024 ![2, 0, 0] wb slices_S3x512x1024_S1x512x1024_2_0_0))

/-- The residual: the scaled input and the output projection of the branches' sum. -/
def residual (x mg : FVec Ideal S65536x1024 .f32) (wo : FVec Ideal S1024x1024 .f32) : FVec Ideal S65536x1024 .f32 :=
  addf (mulf (broadcastInDim S65536x1024 ![] bcast_S_S65536x1024 (constant S_ .f32 0x3FD744FD#32)) x)
    (Host.dotGeneral dot_S65536x1024_S1024x1024_S65536x1024_1_0_0_1_n_n none mg wo)

/-- A row less its mean. -/
def centred (y : FVec Ideal S65536x1024 .f32) : FVec Ideal S65536x1024 .f32 :=
  subf y (broadcastInDim S65536x1024 ![0, 1] bcast_S65536x1_S65536x1024_0_1 (Host.divf (broadcastInDim S65536x1 ![0]
    bcast_S65536_S65536x1_0 (Host.reduceAdd y (constant S_ .f32 0x00000000#32) reducesTo_S65536x1024_S65536_d1 h_S_))
    (broadcastInDim S65536x1 ![] bcast_S_S65536x1 (constant S_ .f32 0x44800000#32))))

/-- The norm of centred rows, in chunks of 256 columns. -/
def normed (d : FVec Ideal S65536x1024 .f32) (g b : FVec Ideal S1024 .f32) : FVec Ideal S4x65536x256 .f32 :=
  transpose S4x65536x256 [1, 0, 2] (shapeCast _ (addf (mulf (mulf d (broadcastInDim S65536x1024 ![0, 1]
    bcast_S65536x1_S65536x1024_0_1 (Host.rsqrt (addf (Host.divf (broadcastInDim S65536x1 ![0] bcast_S65536_S65536x1_0
    (Host.reduceAdd (mulf d d) (constant S_ .f32 0x00000000#32) reducesTo_S65536x1024_S65536_d1 h_S_)) (broadcastInDim
    S65536x1 ![] bcast_S_S65536x1 (constant S_ .f32 0x44800000#32))) (broadcastInDim S65536x1 ![] bcast_S_S65536x1
    (constant S_ .f32 0x3727C5AC#32)))))) (broadcastInDim S65536x1024 ![0, 1] bcast_S1x1024_S65536x1024_0_1
    (broadcastInDim S1x1024 ![1] bcast_S1024_S1x1024_1 g))) (broadcastInDim S65536x1024 ![0, 1]
    bcast_S1x1024_S65536x1024_0_1 (broadcastInDim S1x1024 ![1] bcast_S1024_S1x1024_1 b)))
    shapeCasts_S65536x1024_S65536x4x256) transposes_S65536x4x256_S4x65536x256_1_0_2

/-- The reference's term is these, one after another. -/
theorem result_eq (m : (ℓ : Loc nD τ sig) → Buf (Elt Ideal) ℓ) (c : Dev nD) :
    res_out0 m c = normed (centred (residual (m ((c.tc : Thread nD τ).loc main_arg0))
      (merged (m ((c.tc : Thread nD τ).loc main_arg0)) (m ((c.tc : Thread nD τ).loc main_arg1)) (m ((c.tc : Thread
        nD τ).loc main_arg2))
        (m ((c.tc : Thread nD τ).loc main_arg3)) (m ((c.tc : Thread nD τ).loc main_arg4)) (m ((c.tc : Thread nD
          τ).loc main_arg5))
        (m ((c.tc : Thread nD τ).loc main_arg6))) (m ((c.tc : Thread nD τ).loc main_arg7)))) (m ((c.tc : Thread nD
          τ).loc main_arg8))
      (m ((c.tc : Thread nD τ).loc main_arg9)) := rfl

/-- The weights, out of the argument arrays. -/
def weights (wg : FVec Ideal S3x1024x1024 .f32) (bg : FVec Ideal S3x1024 .f32) (wb : FVec Ideal S3x512x1024 .f32)
    (wo : FVec Ideal S1024x1024 .f32) (g b : FVec Ideal S1024 .f32) : Merge.Weights where
  wg n d j := wg (ix3 n d j)
  bg n j := bg (ix2 n j)
  wb n d j := wb (ix3 n d j)
  wo l j := wo (ix2 l j)
  g j := g (ix1 j)
  b j := b (ix1 j)

theorem merged_at x a c s wg bg wb wo g b (r : Fin 65536) (j : Fin 1024) : merged x a c s wg bg wb (ix2 r j)
    = Merge.merged (weights wg bg wb wo g b) (fun d => x (ix2 r d)) (fun d => a (ix2 r d)) (fun d => c (ix2 r d))
        (fun d => s (ix2 r d)) j := by
  pointwise [merged, branch]
  rfl

theorem residual_at x a c s wg bg wb wo g b (r : Fin 65536) (j : Fin 1024) :
    residual x (merged x a c s wg bg wb) wo (ix2 r j)
    = Merge.residual (weights wg bg wb wo g b) (fun d => x (ix2 r d)) (fun d => a (ix2 r d)) (fun d => c (ix2 r d))
        (fun d => s (ix2 r d)) j := by
  pointwise [residual]
  simp only [merged_at x a c s wg bg wb wo g b]
  rfl

theorem centred_at (y : FVec Ideal S65536x1024 .f32) (f : Fin 1024 → EReal) (r : Fin 65536) (h : ∀ j, y (ix2 r j) = f j)
    (j : Fin 1024) : centred y (ix2 r j) = Merge.centred f j := by
  pointwise [centred]
  simp only [h]
  rfl

theorem normed_at (d : FVec Ideal S65536x1024 .f32) (f : Fin 1024 → EReal) (g b : FVec Ideal S1024 .f32) (k : Fin 4)
    (r : Fin 65536) (j : Fin 256) (h : ∀ j, d (ix2 r j) = f j) :
    normed d g b (ix3 k r j) = Merge.scaled f (g (ix1 ⟨k.val * 256 + j.val, by omega⟩))
      (b (ix1 ⟨k.val * 256 + j.val, by omega⟩)) ⟨k.val * 256 + j.val, by omega⟩ := by
  pointwise [normed]
  simp only [h]
  rfl

/-- The reference's result at chunk `k`, row `r` and column `j` of the chunk. -/
theorem result_at x a c s wg bg wb wo g b (k : Fin 4) (r : Fin 65536) (j : Fin 256) :
    normed (centred (residual x (merged x a c s wg bg wb) wo)) g b (ix3 k r j)
    = Merge.mixed (weights wg bg wb wo g b) (fun d => x (ix2 r d)) (fun d => a (ix2 r d)) (fun d => c (ix2 r d))
        (fun d => s (ix2 r d)) ⟨k.val * 256 + j.val, by omega⟩ :=
  normed_at _ _ g b k r j (centred_at _ _ r (residual_at x a c s wg bg wb wo g b r))

end Cert.Reference2Ideal.Entry

end
-- ==== Proof.Combine.lean ====
/-
  The end of the layer for one row: the two chosen experts' rows weighed by the row's two routing weights, the residual and
  the norm, as plain functions.
-/
module

public import proofs.«01_k».proof.Proof.Merge

@[expose] public section

noncomputable section

namespace Cert.Combine

/-- The residual at a column: the scaled mixed row and the two experts' rows, each times its weight. -/
def residual (x y0 y1 : Fin 1024 → EReal) (w0 w1 : EReal) (j : Fin 1024) : EReal :=
  Cert.Merge.alpha * x j + (w0 * y0 j + w1 * y1 j)

/-- The row's result at a column. -/
def combined (x y0 y1 : Fin 1024 → EReal) (w0 w1 : EReal) (g b : Fin 1024 → EReal) (j : Fin 1024) : EReal :=
  Cert.Merge.scaled (Cert.Merge.centred (residual x y0 y1 w0 w1)) (g j) (b j) j

/-- The chunk that holds a column, and the column's place in the chunk. -/
def chunk (j : Fin 1024) : Fin 4 := ⟨j.val / 256, by omega⟩
def within (j : Fin 1024) : Fin 256 := ⟨j.val % 256, by omega⟩

end Cert.Combine

end
-- ==== Proof.CombineBlock.lean ====
/-
  What a point of the last call leaves in its block of 512 rows: the function of `Combine.lean` of the blocks it is given.
-/
module

public import proofs.«01_k».proof.Proof.Gen.Kernel3Ideal.Value
public import proofs.«01_k».proof.Proof.Combine
public import Idealize.ShloMosaic.Lib.Pointwise

@[expose] public section

set_option maxRecDepth 16384

noncomputable section

namespace Cert.Kernel3Ideal.Combine

open Cert.Kernel3Ideal Cert.Kernel3Ideal.Gen Cert.Kernel3Ideal.Value
open Idealize.ShloMosaic Idealize.ShloMosaic.TcCoe Idealize.SL.Sem

open Cert.Combine (chunk within)

/-- Four chunks of 256 columns side by side, read at a column. -/
theorem side_by_side (f : Fin 4 → Fin 256 → EReal) (j : Fin 1024) :
    (if h : j.val < 256 then f 0 ⟨j.val, h⟩
      else if h : j.val - 256 < 256 then f 1 ⟨j.val - 256, h⟩
      else if h : j.val - 256 - 256 < 256 then f 2 ⟨j.val - 256 - 256, h⟩
      else f 3 ⟨j.val - 256 - 256 - 256, by omega⟩) = f (chunk j) (within j) := by
  split
  · exact congrArg₂ f (Fin.ext (by show 0 = j.val / 256; omega)) (Fin.ext (by show j.val = j.val % 256; omega))
  split
  · exact congrArg₂ f (Fin.ext (by show 1 = j.val / 256; omega)) (Fin.ext (by show j.val - 256 = j.val % 256; omega))
  split
  · exact congrArg₂ f (Fin.ext (by show 2 = j.val / 256; omega)) (Fin.ext (by show j.val - 256 - 256 = j.val % 256; omega))
  · exact congrArg₂ f (Fin.ext (by show 3 = j.val / 256; omega))
      (Fin.ext (by show j.val - 256 - 256 - 256 = j.val % 256; omega))

/-- One expert's weighed rows. -/
theorem first_at (a b c d : Vec Ideal S1x512x256 .f32) (w : Vec Ideal S8x512 .f32) (f : Fin 4 → Fin 256 → EReal) (r : Fin 512)
    (h0 : ∀ j, a (ix3 0 r j) = f 0 j) (h1 : ∀ j, b (ix3 0 r j) = f 1 j) (h2 : ∀ j, c (ix3 0 r j) = f 2 j)
    (h3 : ∀ j, d (ix3 0 r j) = f 3 j) (j : Fin 1024) :
    (show EReal from k0_pay3 w a b c d (ix2 r j)) = (show EReal from w (ix2 4 r)) * f (chunk j) (within j) := by
  pointwise [k0_pay3, k0_pay2]
  simp only [h0, h1, h2, h3]
  exact congrArg _ (side_by_side f j)

/-- The other expert's, added to it. -/
theorem second_at (y : FVec Ideal S512x1024 .f32) (a b c d : Vec Ideal S1x512x256 .f32) (w : Vec Ideal S8x512 .f32)
    (f : Fin 4 → Fin 256 → EReal) (r : Fin 512)
    (h0 : ∀ j, a (ix3 0 r j) = f 0 j) (h1 : ∀ j, b (ix3 0 r j) = f 1 j) (h2 : ∀ j, c (ix3 0 r j) = f 2 j)
    (h3 : ∀ j, d (ix3 0 r j) = f 3 j) (j : Fin 1024) :
    (show EReal from k0_pay5 y (k0_pay4 w) a b c d (ix2 r j))
      = (show EReal from y (ix2 r j)) + (show EReal from w (ix2 5 r)) * f (chunk j) (within j) := by
  pointwise [k0_pay5, k0_pay4, k0_pay2]
  simp only [h0, h1, h2, h3]
  exact congrArg (fun z => y (ix2 r j) + w (ix2 5 r) * z) (side_by_side f j)

/-- The residual's norm. -/
theorem third_at (y : FVec Ideal S512x1024 .f32) (a b c d : Vec Ideal S1x512x256 .f32) (g s : Vec Ideal S1x1024 .f32)
    (f : Fin 4 → Fin 256 → EReal) (v : Fin 1024 → EReal) (r : Fin 512)
    (h0 : ∀ j, a (ix3 0 r j) = f 0 j) (h1 : ∀ j, b (ix3 0 r j) = f 1 j) (h2 : ∀ j, c (ix3 0 r j) = f 2 j)
    (h3 : ∀ j, d (ix3 0 r j) = f 3 j) (hy : ∀ j, y (ix2 r j) = v j) (j : Fin 1024) :
    (show EReal from k0_pay1 y (k0_pay6 a) (k0_pay7 b) (k0_pay8 c) d g s (ix2 r j))
      = Cert.Merge.scaled (Cert.Merge.centred fun l => Cert.Merge.alpha * f (chunk l) (within l) + v l)
        (show EReal from g (ix2 0 j)) (show EReal from s (ix2 0 j)) j := by
  pointwise [k0_pay1, k0_pay6, k0_pay7, k0_pay8]
  simp only [h0, h1, h2, h3, hy, side_by_side f]
  rfl

theorem zero2 : (![0, 0] : Fin 2 → ℕ) = fun _ => 0 := by decide

/-- The block of a window over an expert's chunks, without its axis of extent one. -/
theorem squeezed_at (X : Vec Ideal S1x4x512x256 .f32) (k : Fin 4) (r : Fin 512) (j : Fin 256) :
    shapeCast S4x512x256 (View.ld X r0_1) squeezes_S1x4x512x256_S4x512x256.numel_eq (ix3 k r j) = X (ix4 0 k r j) := by
  rw [View.ld_unit_zero (S := S1x4x512x256) (by decide)]
  pointwise []

theorem slice_at (X : Vec Ideal S4x512x256 .f32) (n : Fin 4)
    (inb : ∀ a, (![n.val, 0, 0] : Fin 3 → ℕ) a + S1x512x256.size a ≤ S4x512x256.size a) (r : Fin 512) (j : Fin 256) :
    View.ld X (Rect.unit (s := S4x512x256) ![n.val, 0, 0] S1x512x256.size inb) (ix3 0 r j) = X (ix3 n r j) :=
  congrArg X (funext fun a => Fin.ext (by
    match a with
    | ⟨0, _⟩ => show n.val + 1 * 0 = n.val; omega
    | ⟨1, _⟩ => show 0 + 1 * r.val = r.val; omega
    | ⟨2, _⟩ => show 0 + 1 * j.val = j.val; omega))

/-- The rows a point leaves, out of the blocks it is given. -/
theorem block_at (x : Vec Ideal S4x512x256 .f32) (w : Vec Ideal S8x512 .f32) (y0 y1 : Vec Ideal S1x4x512x256 .f32)
    (g b : Vec Ideal S1x1024 .f32) (r : Fin 512) (j : Fin 1024) :
    (show EReal from out0_6 x w y0 y1 g b (ix2 r j))
      = Cert.Combine.combined (fun j => x (ix3 (chunk j) r (within j))) (fun j => y0 (ix4 0 (chunk j) r (within j)))
        (fun j => y1 (ix4 0 (chunk j) r (within j))) (w (ix2 4 r)) (w (ix2 5 r)) (fun j => g (ix2 0 j)) (fun j => b (ix2 0 j))
        j := by
  have s0 : ∀ (X : Vec Ideal S1x4x512x256 .f32) j, View.ld (shapeCast S4x512x256 (View.ld X r0_1)
      squeezes_S1x4x512x256_S4x512x256.numel_eq) r0_2 (ix3 0 r j) = X (ix4 0 0 r j) := fun X j =>
    (slice_at _ 0 _ r j).trans (squeezed_at X 0 r j)
  have s1 : ∀ (X : Vec Ideal S1x4x512x256 .f32) j, View.ld (shapeCast S4x512x256 (View.ld X r0_1)
      squeezes_S1x4x512x256_S4x512x256.numel_eq) r0_3 (ix3 0 r j) = X (ix4 0 1 r j) := fun X j =>
    (slice_at _ 1 _ r j).trans (squeezed_at X 1 r j)
  have s2 : ∀ (X : Vec Ideal S1x4x512x256 .f32) j, View.ld (shapeCast S4x512x256 (View.ld X r0_1)
      squeezes_S1x4x512x256_S4x512x256.numel_eq) r0_4 (ix3 0 r j) = X (ix4 0 2 r j) := fun X j =>
    (slice_at _ 2 _ r j).trans (squeezed_at X 2 r j)
  have s3 : ∀ (X : Vec Ideal S1x4x512x256 .f32) j, View.ld (shapeCast S4x512x256 (View.ld X r0_1)
      squeezes_S1x4x512x256_S4x512x256.numel_eq) r0_5 (ix3 0 r j) = X (ix4 0 3 r j) := fun X j =>
    (slice_at _ 3 _ r j).trans (squeezed_at X 3 r j)
  unfold out0_6
  refine (congrFun (View.canon_unit_zero (S := S512x1024) zero2 _ _) (ix2 r j)).trans ?_
  rw [View.ld_unit_zero (S := S8x512) zero2, View.ld_unit_zero (S := S1x1024) zero2, View.ld_unit_zero (S := S1x1024) zero2]
  refine (third_at _ _ _ _ _ g b (fun k j => x (ix3 k r j)) _ r (slice_at x 0 _ r) (slice_at x 1 _ r) (slice_at x 2 _ r)
    (slice_at x 3 _ r) (fun j => (second_at _ _ _ _ _ w (fun k j => y1 (ix4 0 k r j)) r (s0 y1) (s1 y1) (s2 y1) (s3 y1) j).trans
      (congrArg (· + _) (first_at _ _ _ _ w (fun k j => y0 (ix4 0 k r j)) r (s0 y0) (s1 y0) (s2 y0) (s3 y0) j))) j)

end Cert.Kernel3Ideal.Combine

end
-- ==== Proof.CombineValue.lean ====
/-
  The last call's result: each point of the grid finishes 512 rows, and the points' blocks cover the array.
-/
module

public import proofs.«01_k».proof.Proof.CombineBlock

@[expose] public section

set_option maxRecDepth 16384

noncomputable section

namespace Cert.Kernel3Ideal.Combine

open Cert.Kernel3Ideal Cert.Kernel3Ideal.Gen Cert.Kernel3Ideal.Value
open Idealize.ShloMosaic Idealize.ShloMosaic.TcCoe Idealize.ShloMosaic.Tactic Idealize.SL.Sem
open Idealize.ShloMosaic.Pipeline (Dat)
open Cert.Combine (chunk within)

variable (m : (ℓ : Loc nD τ sig) → Buf (Elt Ideal) ℓ) (ρ : Dev nD → PrngReg)

/-! ### The blocks of a point -/

theorem V_scale (c : Dev nD) : V m c main_v0 = (show Buf (Elt Ideal) ((c : Thread nD τ).loc main_v0) from
    (broadcastInDim S1x1024 ![1] bcast_S1024_S1x1024_1
      (m ((c : Thread nD τ).loc main_arg3) : FVec Ideal S1024 .f32) : FVec Ideal S1x1024 .f32)) := by
  show StableHlo.after (List.flatten [hostOps0]) _ (Proc.devRef .tc main_v0) = _
  simp only [List.flatten_cons, List.flatten_nil, List.cons_append, List.nil_append, List.append_nil]
  after_results

theorem V_shift (c : Dev nD) : V m c main_v1 = (show Buf (Elt Ideal) ((c : Thread nD τ).loc main_v1) from
    (broadcastInDim S1x1024 ![1] bcast_S1024_S1x1024_1
      (m ((c : Thread nD τ).loc main_arg4) : FVec Ideal S1024 .f32) : FVec Ideal S1x1024 .f32)) := by
  show StableHlo.after (List.flatten [hostOps0]) _ (Proc.devRef .tc main_v1) = _
  simp only [List.flatten_cons, List.flatten_nil, List.cons_append, List.nil_append, List.append_nil]
  after_results

/-- The rows' windows move with the point; the norm's hold their arrays whole. -/
theorem rows_index : ∀ t : Fin cfg0.N,
    (win0_0.index t 0 = 0 ∧ win0_0.index t 1 = t.val ∧ win0_0.index t 2 = 0)
    ∧ (win0_1.index t 0 = 0 ∧ win0_1.index t 1 = t.val)
    ∧ (win0_2.index t 0 = 0 ∧ win0_2.index t 1 = 0 ∧ win0_2.index t 2 = t.val ∧ win0_2.index t 3 = 0)
    ∧ (win0_3.index t 0 = 1 ∧ win0_3.index t 1 = 0 ∧ win0_3.index t 2 = t.val ∧ win0_3.index t 3 = 0)
    ∧ (win0_4.index t 0 = 0 ∧ win0_4.index t 1 = 0) ∧ (win0_5.index t 0 = 0 ∧ win0_5.index t 1 = 0)
    ∧ (win0_6.index t 0 = t.val ∧ win0_6.index t 1 = 0) :=
  (by decide +kernel : ∀ t : Fin grid0.N, _)

/-- The row of the arrays that a point's row `r` is. -/
def rowOf (t : Fin cfg0.N) (r : Fin 512) : Fin 65536 :=
  ⟨512 * t.val + r.val, by
    have h : t.val < 128 := lt_of_lt_of_eq t.2 N_0
    omega⟩

theorem mixed_block (c : Dev nD) (t : Fin cfg0.N) (k : Fin 4) (r : Fin 512) (j : Fin 256) :
    (show EReal from (iblk m c 0 t : Vec Ideal S4x512x256 .f32) (ix3 k r j))
      = (show FVec Ideal S4x65536x256 .f32 from m ((c : Thread nD τ).loc main_arg0)) (ix3 k (rowOf t r) j) := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 4 + 1 * k.val = k.val; rw [(rows_index t).1.1]; ring
  | ⟨1, _⟩ => show win0_0.index t 1 * 512 + 1 * r.val = 512 * t.val + r.val; rw [(rows_index t).1.2.1]; ring
  | ⟨2, _⟩ => show win0_0.index t 2 * 256 + 1 * j.val = j.val; rw [(rows_index t).1.2.2]; ring

theorem routing_block (c : Dev nD) (t : Fin cfg0.N) (k : Fin 8) (r : Fin 512) :
    (show EReal from (iblk m c 1 t : Vec Ideal S8x512 .f32) (ix2 k r))
      = (show FVec Ideal S8x65536 .f32 from m ((c : Thread nD τ).loc main_arg1)) (ix2 k (rowOf t r)) := by
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 8 + 1 * k.val = k.val; rw [(rows_index t).2.1.1]; ring
  | ⟨1, _⟩ => show win0_1.index t 1 * 512 + 1 * r.val = 512 * t.val + r.val; rw [(rows_index t).2.1.2]; ring

theorem first_block (c : Dev nD) (t : Fin cfg0.N) (k : Fin 4) (r : Fin 512) (j : Fin 256) :
    (show EReal from (iblk m c 2 t : Vec Ideal S1x4x512x256 .f32) (ix4 0 k r j))
      = (show FVec Ideal S2x4x65536x256 .f32 from m ((c : Thread nD τ).loc main_arg2)) (ix4 0 k (rowOf t r) j) := by
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 1 + 1 * 0 = 0; rw [(rows_index t).2.2.1.1]
  | ⟨1, _⟩ => show win0_2.index t 1 * 4 + 1 * k.val = k.val; rw [(rows_index t).2.2.1.2.1]; ring
  | ⟨2, _⟩ => show win0_2.index t 2 * 512 + 1 * r.val = 512 * t.val + r.val; rw [(rows_index t).2.2.1.2.2.1]; ring
  | ⟨3, _⟩ => show win0_2.index t 3 * 256 + 1 * j.val = j.val; rw [(rows_index t).2.2.1.2.2.2]; ring

theorem second_block (c : Dev nD) (t : Fin cfg0.N) (k : Fin 4) (r : Fin 512) (j : Fin 256) :
    (show EReal from (iblk m c 3 t : Vec Ideal S1x4x512x256 .f32) (ix4 0 k r j))
      = (show FVec Ideal S2x4x65536x256 .f32 from m ((c : Thread nD τ).loc main_arg2)) (ix4 1 k (rowOf t r) j) := by
  unfold iblk
  rw [View.read_apply]
  show V m c main_arg2 _ = _
  rw [V_main_arg2]
  refine congrArg (m ((c : Thread nD τ).loc main_arg2)) (funext fun a => Fin.ext ?_)
  match a with
  | ⟨0, _⟩ => show win0_3.index t 0 * 1 + 1 * 0 = 1; rw [(rows_index t).2.2.2.1.1]
  | ⟨1, _⟩ => show win0_3.index t 1 * 4 + 1 * k.val = k.val; rw [(rows_index t).2.2.2.1.2.1]; ring
  | ⟨2, _⟩ => show win0_3.index t 2 * 512 + 1 * r.val = 512 * t.val + r.val; rw [(rows_index t).2.2.2.1.2.2.1]; ring
  | ⟨3, _⟩ => show win0_3.index t 3 * 256 + 1 * j.val = j.val; rw [(rows_index t).2.2.2.1.2.2.2]; ring

theorem scale_block (c : Dev nD) (t : Fin cfg0.N) (d : Fin 1) (j : Fin 1024) :
    (show EReal from (iblk m c 4 t : Vec Ideal S1x1024 .f32) (ix2 d j))
      = (show FVec Ideal S1024 .f32 from m ((c : Thread nD τ).loc main_arg3)) (ix1 j) := by
  have h : (show EReal from (iblk m c 4 t : Vec Ideal S1x1024 .f32) (ix2 d j))
      = (show Vec Ideal S1x1024 .f32 from V m c main_v0) (ix2 d j) := by
    unfold iblk
    rw [View.read_apply]
    refine congrArg (V m c main_v0) (funext fun a => Fin.ext ?_)
    match a with
    | ⟨0, _⟩ => show win0_4.index t 0 * 1 + 1 * d.val = d.val; rw [(rows_index t).2.2.2.2.1.1]; ring
    | ⟨1, _⟩ => show win0_4.index t 1 * 1024 + 1 * j.val = j.val; rw [(rows_index t).2.2.2.2.1.2]; ring
  rw [h, V_scale]
  pointwise []

theorem shift_block (c : Dev nD) (t : Fin cfg0.N) (d : Fin 1) (j : Fin 1024) :
    (show EReal from (iblk m c 5 t : Vec Ideal S1x1024 .f32) (ix2 d j))
      = (show FVec Ideal S1024 .f32 from m ((c : Thread nD τ).loc main_arg4)) (ix1 j) := by
  have h : (show EReal from (iblk m c 5 t : Vec Ideal S1x1024 .f32) (ix2 d j))
      = (show Vec Ideal S1x1024 .f32 from V m c main_v1) (ix2 d j) := by
    unfold iblk
    rw [View.read_apply]
    refine congrArg (V m c main_v1) (funext fun a => Fin.ext ?_)
    match a with
    | ⟨0, _⟩ => show win0_5.index t 0 * 1 + 1 * d.val = d.val; rw [(rows_index t).2.2.2.2.2.1.1]; ring
    | ⟨1, _⟩ => show win0_5.index t 1 * 1024 + 1 * j.val = j.val; rw [(rows_index t).2.2.2.2.2.1.2]; ring
  rw [h, V_shift]
  pointwise []

/-! ### The result -/

/-- The finished row `r` of the argument arrays, at a column. -/
def finishedAt (c : Dev nD) (r : Fin 65536) (j : Fin 1024) : EReal :=
  Cert.Combine.combined
    (fun j => (show FVec Ideal S4x65536x256 .f32 from m ((c : Thread nD τ).loc main_arg0)) (ix3 (chunk j) r (within j)))
    (fun j => (show FVec Ideal S2x4x65536x256 .f32 from m ((c : Thread nD τ).loc main_arg2)) (ix4 0 (chunk j) r (within j)))
    (fun j => (show FVec Ideal S2x4x65536x256 .f32 from m ((c : Thread nD τ).loc main_arg2)) (ix4 1 (chunk j) r (within j)))
    ((show FVec Ideal S8x65536 .f32 from m ((c : Thread nD τ).loc main_arg1)) (ix2 4 r))
    ((show FVec Ideal S8x65536 .f32 from m ((c : Thread nD τ).loc main_arg1)) (ix2 5 r))
    (fun j => (show FVec Ideal S1024 .f32 from m ((c : Thread nD τ).loc main_arg3)) (ix1 j))
    (fun j => (show FVec Ideal S1024 .f32 from m ((c : Thread nD τ).loc main_arg4)) (ix1 j)) j

/-- The result array. -/
def result (c : Dev nD) : Buf (Elt Ideal) ((c : Thread nD τ).loc main_v2) := fun (i : S65536x1024.Idx) =>
  finishedAt m c (i 0) (i 1)

/-- A point's rows are rows of the result. -/
theorem block_row (c : Dev nD) (t : Fin cfg0.N) (r : Fin 512) (j : Fin 1024) :
    (show EReal from out0_6 (iblk m c 0 t) (iblk m c 1 t) (iblk m c 2 t) (iblk m c 3 t) (iblk m c 4 t) (iblk m c 5 t) (ix2 r j))
      = finishedAt m c (rowOf t r) j := by
  refine (block_at (iblk m c 0 t) (iblk m c 1 t) (iblk m c 2 t) (iblk m c 3 t) (iblk m c 4 t) (iblk m c 5 t) r j).trans ?_
  unfold finishedAt
  congr 1
  · exact funext fun j => mixed_block m c t _ r _
  · exact funext fun j => first_block m c t _ r _
  · exact funext fun j => second_block m c t _ r _
  · exact routing_block m c t 4 r
  · exact routing_block m c t 5 r
  · exact funext fun j => scale_block m c t 0 j
  · exact funext fun j => shift_block m c t 0 j

/-- A point's block is written back whole. -/
theorem cut_at (t : Fin cfg0.N) (X : Vec Ideal S512x1024 .f32) (y : S512x1024.Idx) :
    (cfg0.win 6).cut (grid0.coords t) X y = X y := rfl

/-- Where the entry of a point's block lies in the array. -/
theorem place (t : Fin cfg0.N) (r : Fin 512) (j : Fin 1024) :
    ((cfg0.win 6).blk t).view.emb (ix2 r j : S512x1024.Idx) = (ix2 (rowOf t r) j : S65536x1024.Idx) :=
  funext fun a => Fin.ext (by
    match a with
    | ⟨0, _⟩ => show win0_6.index t 0 * 512 + 1 * r.val = 512 * t.val + r.val; rw [(rows_index t).2.2.2.2.2.2.1]; ring
    | ⟨1, _⟩ => show win0_6.index t 1 * 1024 + 1 * j.val = j.val; rw [(rows_index t).2.2.2.2.2.2.2]; ring)

/-- What a point writes back is the block of the result there. -/
theorem flushed_eq (c : Dev nD) (t : Fin cfg0.N) (hf : (cfg0.win 6).flush t = true) :
    (dats m 0 c).flushed 6 t = ((cfg0.win 6).blk t).view.read (Elt Ideal) (result m c) := by
  rw [flushed6 m c t]
  funext y
  obtain ⟨r, j, rfl⟩ : ∃ (r : Fin 512) (j : Fin 1024), y = (ix2 r j : S512x1024.Idx) :=
    ⟨y 0, y 1, eq_ix2 (n0 := 512) (n1 := 1024) y⟩
  rw [View.read_apply, place t r j]
  exact (cut_at t _ _).trans (block_row m c t r j)

/-- Every row lies in the block of a point that writes back. -/
theorem covered (i : S65536x1024.Idx) : ∃ t : Fin cfg0.N, (cfg0.win 6).flush t = true ∧ i ∈ ((cfg0.win 6).blk t).view.set := by
  have h0 : (i 0).val < 65536 := (i 0).2
  let t : Fin cfg0.N := ⟨(i 0).val / 512, lt_of_lt_of_eq (by omega : (i 0).val / 512 < 128) N_0.symm⟩
  have hi : i = ((cfg0.win 6).blk t).view.emb (ix2 (⟨(i 0).val % 512, by omega⟩ : Fin 512) (i 1) : S512x1024.Idx) := by
    refine Eq.trans ?_ (place t _ _).symm
    funext a
    match a with
    | ⟨0, _⟩ => exact Fin.ext (by show (i 0).val = 512 * ((i 0).val / 512) + (i 0).val % 512; omega)
    | ⟨1, _⟩ => rfl
  refine ⟨t, (by decide +kernel : ∀ t : Fin grid0.N, (cfg0.win 6).flush t = true) t, ?_⟩
  rw [hi]
  exact View.emb_mem_set _ _

/-- The array after the run. -/
theorem final_eq (c : Dev nD) : (dats m 0 c).arrAt 6 cfg0.N = result m c :=
  (dats m 0 c).arrAt_eq_of_cover 6 _ (fun t hf => flushed_eq m c t hf) covered

/-- The kernel's run: the result is the finished rows, the arguments are unchanged. -/
theorem value_run : θ_run defs (onTc (τ := τ) (main (F := Ideal))) ⟨m, fun _ => 0, ρ⟩ fun r => ∀ c : Dev nD,
    r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_eq m c), (h c).2⟩) (run_blocks m ρ)

end Cert.Kernel3Ideal.Combine

end
-- ==== Proof.CombineReference.lean ====
/-
  The reference of the layer's end at an entry: it is the function of `Combine.lean`, for the row's mixed entries, the two
  experts' entries, the two weights, and the norm's scale and shift.
-/
module

public import proofs.«01_k».proof.Proof.Gen.Reference3Ideal.Run
public import proofs.«01_k».proof.Proof.Combine
public import Idealize.ShloMosaic.Lib.Pointwise

@[expose] public section

set_option maxRecDepth 16384

noncomputable section

namespace Cert.Reference3Ideal.Entry

open Cert.Reference3Ideal Cert.Reference3Ideal.Gen Cert.Reference3Ideal.Value
open Idealize.ShloMosaic Idealize.ShloMosaic.TcCoe Idealize.SL.Sem

open Cert.Combine (chunk within)

/-- The two experts' rows, each in one piece. -/
def experts (y : FVec Ideal S2x4x65536x256 .f32) : FVec Ideal S2x65536x1024 .f32 :=
  shapeCast _ (transpose S2x65536x4x256 [0, 2, 1, 3] y transposes_S2x4x65536x256_S2x65536x4x256_0_2_1_3)
    shapeCasts_S2x65536x4x256_S2x65536x1024

/-- The experts' weighed sum. -/
def blended (w : FVec Ideal S8x65536 .f32) (e : FVec Ideal S2x65536x1024 .f32) : FVec Ideal S65536x1024 .f32 :=
  addf (mulf (shapeCast _ (extractStridedSlice S1x65536x1024 ![0, 0, 0] e slices_S2x65536x1024_S1x65536x1024_0_0_0)
      shapeCasts_S1x65536x1024_S65536x1024) (broadcastInDim S65536x1024 ![0, 1] bcast_S65536x1_S65536x1024_0_1
      (broadcastInDim S65536x1 ![0] bcast_S65536_S65536x1_0 (shapeCast _ (extractStridedSlice S1x65536 ![4, 0] w
        slices_S8x65536_S1x65536_4_0) shapeCasts_S1x65536_S65536))))
    (mulf (shapeCast _ (extractStridedSlice S1x65536x1024 ![1, 0, 0] e slices_S2x65536x1024_S1x65536x1024_1_0_0)
      shapeCasts_S1x65536x1024_S65536x1024) (broadcastInDim S65536x1024 ![0, 1] bcast_S65536x1_S65536x1024_0_1
      (broadcastInDim S65536x1 ![0] bcast_S65536_S65536x1_0 (shapeCast _ (extractStridedSlice S1x65536 ![5, 0] w
        slices_S8x65536_S1x65536_5_0) shapeCasts_S1x65536_S65536))))

/-- The residual: the scaled mixed rows and the experts' sum. -/
def residual (x : FVec Ideal S4x65536x256 .f32) (m : FVec Ideal S65536x1024 .f32) : FVec Ideal S65536x1024 .f32 :=
  addf (mulf (broadcastInDim S65536x1024 ![] bcast_S_S65536x1024 (constant S_ .f32 0x3FD744FD#32)) (shapeCast _ (transpose
    S65536x4x256 [1, 0, 2] x transposes_S4x65536x256_S65536x4x256_1_0_2) shapeCasts_S65536x4x256_S65536x1024)) m

/-- A row less its mean. -/
def centred (y : FVec Ideal S65536x1024 .f32) : FVec Ideal S65536x1024 .f32 :=
  subf y (broadcastInDim S65536x1024 ![0, 1] bcast_S65536x1_S65536x1024_0_1 (Host.divf (broadcastInDim S65536x1 ![0]
    bcast_S65536_S65536x1_0 (Host.reduceAdd y (constant S_ .f32 0x00000000#32) reducesTo_S65536x1024_S65536_d1 h_S_))
    (broadcastInDim S65536x1 ![] bcast_S_S65536x1 (constant S_ .f32 0x44800000#32))))

/-- The norm of centred rows. -/
def normed (d : FVec Ideal S65536x1024 .f32) (g b : FVec Ideal S1024 .f32) : FVec Ideal S65536x1024 .f32 :=
  addf (mulf (mulf d (broadcastInDim S65536x1024 ![0, 1]
    bcast_S65536x1_S65536x1024_0_1 (Host.rsqrt (addf (Host.divf (broadcastInDim S65536x1 ![0] bcast_S65536_S65536x1_0
    (Host.reduceAdd (mulf d d) (constant S_ .f32 0x00000000#32) reducesTo_S65536x1024_S65536_d1 h_S_)) (broadcastInDim
    S65536x1 ![] bcast_S_S65536x1 (constant S_ .f32 0x44800000#32))) (broadcastInDim S65536x1 ![] bcast_S_S65536x1
    (constant S_ .f32 0x3727C5AC#32)))))) (broadcastInDim S65536x1024 ![0, 1] bcast_S1x1024_S65536x1024_0_1
    (broadcastInDim S1x1024 ![1] bcast_S1024_S1x1024_1 g))) (broadcastInDim S65536x1024 ![0, 1]
    bcast_S1x1024_S65536x1024_0_1 (broadcastInDim S1x1024 ![1] bcast_S1024_S1x1024_1 b))

/-- The reference's term is these, one after another. -/
theorem result_eq (m : (ℓ : Loc nD τ sig) → Buf (Elt Ideal) ℓ) (c : Dev nD) :
    res_out0 m c = normed (centred (residual (m ((c.tc : Thread nD τ).loc main_arg0))
      (blended (m ((c.tc : Thread nD τ).loc main_arg1)) (experts (m ((c.tc : Thread nD τ).loc main_arg2))))))
      (m ((c.tc : Thread nD τ).loc main_arg3)) (m ((c.tc : Thread nD τ).loc main_arg4)) := rfl

theorem experts_at (y : FVec Ideal S2x4x65536x256 .f32) (e : Fin 2) (r : Fin 65536) (j : Fin 1024) :
    experts y (ix3 e r j) = y (ix4 e (chunk j) r (within j)) := by
  pointwise [experts]
  rfl

theorem blended_at (w : FVec Ideal S8x65536 .f32) (y : FVec Ideal S2x4x65536x256 .f32) (r : Fin 65536) (j : Fin 1024) :
    (show EReal from blended w (experts y) (ix2 r j))
      = (show EReal from w (ix2 4 r)) * (show EReal from y (ix4 0 (chunk j) r (within j)))
        + (show EReal from w (ix2 5 r)) * (show EReal from y (ix4 1 (chunk j) r (within j))) := by
  pointwise [blended]
  simp only [experts_at]
  exact congrArg₂ (fun a b : EReal => a + b) (mul_comm _ _) (mul_comm _ _)

theorem residual_at (x : FVec Ideal S4x65536x256 .f32) (w : FVec Ideal S8x65536 .f32) (y : FVec Ideal S2x4x65536x256 .f32)
    (r : Fin 65536) (j : Fin 1024) :
    (show EReal from residual x (blended w (experts y)) (ix2 r j))
      = Cert.Combine.residual (fun j => x (ix3 (chunk j) r (within j))) (fun j => y (ix4 0 (chunk j) r (within j)))
        (fun j => y (ix4 1 (chunk j) r (within j))) (w (ix2 4 r)) (w (ix2 5 r)) j := by
  have h : blended w (experts y) (ix2 r j) = _ := blended_at w y r j
  pointwise [residual]
  rw [h]
  rfl

theorem centred_at (y : FVec Ideal S65536x1024 .f32) (f : Fin 1024 → EReal) (r : Fin 65536) (h : ∀ j, y (ix2 r j) = f j)
    (j : Fin 1024) : centred y (ix2 r j) = Merge.centred f j := by
  pointwise [centred]
  simp only [h]
  rfl

theorem normed_at (d : FVec Ideal S65536x1024 .f32) (f : Fin 1024 → EReal) (g b : FVec Ideal S1024 .f32)
    (r : Fin 65536) (j : Fin 1024) (h : ∀ j, d (ix2 r j) = f j) :
    normed d g b (ix2 r j) = Merge.scaled f (g (ix1 j)) (b (ix1 j)) j := by
  pointwise [normed]
  simp only [h]
  rfl

/-- The reference's result at a row and a column. -/
theorem result_at (x : FVec Ideal S4x65536x256 .f32) (w : FVec Ideal S8x65536 .f32) (y : FVec Ideal S2x4x65536x256 .f32)
    (g b : FVec Ideal S1024 .f32) (r : Fin 65536) (j : Fin 1024) :
    normed (centred (residual x (blended w (experts y)))) g b (ix2 r j)
      = Cert.Combine.combined (fun j => x (ix3 (chunk j) r (within j))) (fun j => y (ix4 0 (chunk j) r (within j)))
        (fun j => y (ix4 1 (chunk j) r (within j))) (w (ix2 4 r)) (w (ix2 5 r)) (fun j => g (ix1 j)) (fun j => b (ix1 j)) j :=
  normed_at _ _ g b r j (centred_at _ _ r (residual_at x w y r))

end Cert.Reference3Ideal.Entry

end
-- ==== Proof.InProj.lean ====
/-
  The layer's first projection and what is made of it row by row: the values, the gated linear unit, and a short convolution
  over a sequence's rows. Plain functions of the layer's input and of the projection's weights.
-/
module

public import proofs.«01_k».proof.Proof.Merge

@[expose] public section

noncomputable section

namespace Cert.InProj

open Idealize.ShloMosaic

/-- An entry of the projection. -/
def entry (x w : Fin 1024 → EReal) : EReal := ∑ d, x d * w d

/-- The gated linear unit. -/
def gated (a g : EReal) : EReal := a * Merge.sigmoid g

/-- The column `n + j` of the projection: the parts of the projection begin at the columns `n`. -/
def col (n : ℕ) (h : n + 512 ≤ 4104) (j : Fin 512) : Fin 4104 := ⟨n + j.val, by omega⟩

/-- The value `n` rows back in a sequence of 4096 rows: zero before its first. -/
def back (f : Fin 65536 → EReal) (n : ℕ) (r : Fin 65536) : EReal :=
  if n ≤ r.val % 4096 then f ⟨r.val - n, by omega⟩ else 0

/-- The convolution of three taps at a row. -/
def taps (w0 w1 w2 : EReal) (f : Fin 65536 → EReal) (r : Fin 65536) : EReal :=
  w0 * back f 2 r + w1 * back f 1 r + w2 * f r

section
variable (x : Fin 65536 → Fin 1024 → EReal) (w : Fin 1024 → Fin 4104 → EReal) (s : Fin 3 → Fin 512 → EReal)

/-- A row's value. -/
def value (r : Fin 65536) (j : Fin 512) : EReal := entry (x r) (w · (col 1024 (by decide) j))

/-- A row's gated linear unit. -/
def unit (r : Fin 65536) (j : Fin 512) : EReal :=
  gated (entry (x r) (w · (col 1544 (by decide) j))) (entry (x r) (w · (col 2056 (by decide) j)))

/-- What the short convolution runs over. -/
def product (j : Fin 512) (r : Fin 65536) : EReal :=
  entry (x r) (w · (col 3080 (by decide) j)) * entry (x r) (w · (col 3592 (by decide) j))

/-- A row's entry of the short convolution's branch. -/
def short (r : Fin 65536) (j : Fin 512) : EReal :=
  entry (x r) (w · (col 2568 (by decide) j)) * taps (s 0 j) (s 1 j) (s 2 j) (product x w j) r

end

end Cert.InProj

end
-- ==== Proof.InProjBlock.lean ====
/-
  The projection kernel's block of 512 rows, and what it carries from one block to the next: each result's entry out of the
  rows of the block, the slices of the weights it is given and the carried rows.
-/
module

public import proofs.«01_k».proof.Proof.Gen.Kernel4Ideal.Skeleton
public import proofs.«01_k».proof.Proof.InProj
public import Idealize.ShloMosaic.Lib.Pointwise

@[expose] public section

set_option maxRecDepth 16384

noncomputable section

namespace Cert.Kernel4Ideal.InProj

open Cert.Kernel4Ideal Cert.Kernel4Ideal.Gen
open Idealize.ShloMosaic Idealize.ShloMosaic.TcCoe Idealize.SL.Sem
open Cert.InProj (entry gated)

theorem values_at (x : Vec Ideal S512x1024 .f32) (w : Vec Ideal S512x1024 .bf16) (j r : Fin 512) :
    (show EReal from k0_pay12 x w (ix2 j r)) = entry (fun d => x (ix2 r d)) (fun d => w (ix2 j d)) := by
  pointwise [k0_pay12, k0_pay9]
  exact Finset.sum_congr rfl fun d _ => mul_comm (G := EReal) _ _

theorem unit_at (x : Vec Ideal S512x1024 .f32) (wa wg : Vec Ideal S1024x512 .bf16) (r j : Fin 512) :
    (show EReal from k0_pay14 (k0_pay9 x) (k0_pay13 wa) (constant S512x512 .f32 0x00000000#32) wg (ix2 r j))
      = gated (entry (fun d => x (ix2 r d)) (fun d => wa (ix2 d j))) (entry (fun d => x (ix2 r d)) (fun d => wg (ix2 d j))) := by
  pointwise [k0_pay14, k0_pay9, k0_pay13]
  simp only [zero_sub]
  rfl

theorem product_at (x : Vec Ideal S512x1024 .f32) (wc wh : Vec Ideal S1024x512 .bf16) (r j : Fin 512) :
    (show EReal from k0_pay15 (k0_pay9 x) wc wh (ix2 r j))
      = entry (fun d => x (ix2 r d)) (fun d => wc (ix2 d j)) * entry (fun d => x (ix2 r d)) (fun d => wh (ix2 d j)) := by
  pointwise [k0_pay15, k0_pay9]
  rfl

/-- The rows carried to the next block are the block's last eight. -/
theorem carried_at (P : FVec Ideal S512x512 .f32) (k : Fin 8) (j : Fin 512) :
    k0_pay23 P (ix2 k j) = P (ix2 ⟨504 + k.val, by omega⟩ j) := by
  pointwise [k0_pay23]

/-- Choosing by a row's number. -/
theorem select_row {α : Type} (r : Fin 512) (n : ℕ) (hn : n < 512) (a b : α) :
    Scalar.select (IntOp.cmpi .eq (BitVec.ofNat 32 r.val) (BitVec.ofNat 32 n)) a b = if r.val = n then a else b := by
  have hr : r.val < 512 := r.isLt
  have h : (BitVec.ofNat 32 r.val == BitVec.ofNat 32 n) = decide (r.val = n) := by
    rw [Bool.eq_iff_iff, beq_iff_eq, decide_eq_true_iff, ← BitVec.toNat_inj, BitVec.toNat_ofNat, BitVec.toNat_ofNat]
    omega
  show (if BitVec.ofBool (BitVec.ofNat 32 r.val == BitVec.ofNat 32 n) = 1 then a else b) = _
  rw [h]
  by_cases hc : r.val = n <;> simp [hc]

/-- The rows one and two back: the carried ones before the block's first. -/
def one (P : FVec Ideal S512x512 .f32) (prev : Vec Ideal S8x512 .f32) (r j : Fin 512) : EReal :=
  if r.val = 0 then prev (ix2 7 j) else P (ix2 ⟨(r.val + 512 - 1) % 512, Nat.mod_lt _ (by decide)⟩ j)

def two (P : FVec Ideal S512x512 .f32) (prev : Vec Ideal S8x512 .f32) (r j : Fin 512) : EReal :=
  if r.val = 0 then prev (ix2 6 j) else if r.val = 1 then prev (ix2 7 j)
    else P (ix2 ⟨(r.val + 512 - 2) % 512, Nat.mod_lt _ (by decide)⟩ j)

theorem one_at (x : FVec Ideal S512x1024 .bf16) (wc wh : Vec Ideal S1024x512 .bf16) (prev : Vec Ideal S8x512 .f32)
    (r j : Fin 512) :
    (show EReal from k0_pay16 x wc wh prev (ix2 r j)) = one (k0_pay15 x wc wh) prev r j := by
  unfold k0_pay16
  generalize k0_pay15 x wc wh = P
  pointwise []
  exact select_row r 0 (by decide) _ _

theorem turned_at (x : FVec Ideal S512x1024 .bf16) (wc wh : Vec Ideal S1024x512 .bf16) (r j : Fin 512) :
    (show EReal from k0_pay17 x wc wh (ix2 r j))
      = k0_pay15 x wc wh (ix2 ⟨(r.val + 512 - 2) % 512, Nat.mod_lt _ (by decide)⟩ j) := by
  unfold k0_pay17
  generalize k0_pay15 x wc wh = P
  pointwise []

/-- The block of the short convolution's branch. -/
def shortBlock (x : Vec Ideal S512x1024 .f32) (wc wh wb : Vec Ideal S1024x512 .bf16) (prev : Vec Ideal S8x512 .f32)
    (w0 w1 w2 : Vec Ideal S1x512 .f32) : FVec Ideal S512x512 .bf16 :=
  k0_pay22 (k0_pay9 x) (k0_pay15 (k0_pay9 x) wc wh) (k0_pay16 (k0_pay9 x) wc wh prev) (k0_pay17 (k0_pay9 x) wc wh)
    k0_pay18 (k0_pay19 prev) k0_pay20 (k0_pay21 prev) w0 w1 w2 wb

theorem short_at (x : Vec Ideal S512x1024 .f32) (wc wh wb : Vec Ideal S1024x512 .bf16) (prev : Vec Ideal S8x512 .f32)
    (w0 w1 w2 : Vec Ideal S1x512 .f32) (r j : Fin 512) :
    (show EReal from shortBlock x wc wh wb prev w0 w1 w2 (ix2 r j))
      = entry (fun d => x (ix2 r d)) (fun d => wb (ix2 d j))
        * ((show EReal from w0 (ix2 0 j)) * two (k0_pay15 (k0_pay9 x) wc wh) prev r j
          + (show EReal from w1 (ix2 0 j)) * one (k0_pay15 (k0_pay9 x) wc wh) prev r j
          + (show EReal from w2 (ix2 0 j)) * (show EReal from k0_pay15 (k0_pay9 x) wc wh (ix2 r j))) := by
  have h1 : k0_pay16 (k0_pay9 x) wc wh prev (ix2 r j) = _ := one_at (k0_pay9 x) wc wh prev r j
  have h2 : k0_pay17 (k0_pay9 x) wc wh (ix2 r j) = _ := turned_at (k0_pay9 x) wc wh r j
  unfold shortBlock
  rw [show k0_pay9 x = x from rfl] at h1 h2 ⊢
  generalize k0_pay16 (F := Ideal) x wc wh prev = p1 at h1 ⊢
  generalize k0_pay17 (F := Ideal) x wc wh = p2 at h2 ⊢
  generalize k0_pay15 (F := Ideal) x wc wh = P at h1 h2 ⊢
  pointwise [k0_pay22, k0_pay18, k0_pay19, k0_pay20, k0_pay21]
  rw [select_row r 0 (by decide), select_row r 1 (by decide), h1, h2]
  rfl

end Cert.Kernel4Ideal.InProj

end
-- ==== Proof.InProjRun.lean ====
/-
  What a point of the projection kernel leaves in its results' blocks and carries on: the blocks of `InProjBlock.lean`, of the
  blocks it is given; the first point of a sequence finds zero rows carried, every other the ones its point before left.
-/
module

public import proofs.«01_k».proof.Proof.Gen.Kernel4Ideal.Value
public import proofs.«01_k».proof.Proof.InProjBlock
public import Idealize.ShloMosaic.Lib.WritesUnit
public import Idealize.ShloMosaic.Lib.VecWindow

@[expose] public section

set_option maxRecDepth 16384

noncomputable section

namespace Cert.Kernel4Ideal.InProj

open Cert.Kernel4Ideal Cert.Kernel4Ideal.Gen Cert.Kernel4Ideal.Value
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

theorem zero2 : (![0, 0] : Fin 2 → ℕ) = fun _ => 0 := by decide

/-- The block of rows of a point, and the columns of the weights it uses. -/
def rows (c : Dev nD) (t : Fin cfg0.N) : Vec Ideal S512x1024 .f32 := iblk m c 0 t
def gluA (c : Dev nD) (t : Fin cfg0.N) : Vec Ideal S1024x512 .bf16 :=
  View.ld (iblk m c 1 t) (Rect.unit ![0, 1024] S1024x512.size inb_S1024x3584_S1024x512_0_1024)
def gluG (c : Dev nD) (t : Fin cfg0.N) : Vec Ideal S1024x512 .bf16 :=
  View.ld (iblk m c 1 t) (Rect.unit ![0, 1536] S1024x512.size inb_S1024x3584_S1024x512_0_1536)
def convB (c : Dev nD) (t : Fin cfg0.N) : Vec Ideal S1024x512 .bf16 :=
  View.ld (iblk m c 1 t) (Rect.unit ![0, 2048] S1024x512.size inb_S1024x3584_S1024x512_0_2048)
def convC (c : Dev nD) (t : Fin cfg0.N) : Vec Ideal S1024x512 .bf16 :=
  View.ld (iblk m c 1 t) (Rect.unit ![0, 2560] S1024x512.size inb_S1024x3584_S1024x512_0_2560)
def convH (c : Dev nD) (t : Fin cfg0.N) : Vec Ideal S1024x512 .bf16 :=
  View.ld (iblk m c 1 t) (Rect.unit ![0, 3072] S1024x512.size inb_S1024x3584_S1024x512_0_3072)

/-- The products the convolution of a point runs over. -/
def products (c : Dev nD) (t : Fin cfg0.N) : FVec Ideal S512x512 .f32 :=
  k0_pay15 (k0_pay9 (rows m c t)) (convC m c t) (convH m c t)

/-- The block of the convolution's branch at a point, for the rows carried to it. -/
def branch (c : Dev nD) (t : Fin cfg0.N) (prev : Vec Ideal S8x512 .f32) : FVec Ideal S512x512 .bf16 :=
  shortBlock (rows m c t) (convC m c t) (convH m c t) (convB m c t) prev
    (View.ld (iblk m c 5 t) (Rect.unit ![0, 0] S1x512.size inb_S3x512_S1x512_0_0))
    (View.ld (iblk m c 5 t) (Rect.unit ![1, 0] S1x512.size inb_S3x512_S1x512_1_0))
    (View.ld (iblk m c 5 t) (Rect.unit ![2, 0] S1x512.size inb_S3x512_S1x512_2_0))

/-- What a point leaves, for the rows carried to it. -/
structure Leaves (c : Dev nD) (t : Fin cfg0.N) (prev : Vec Ideal S8x512 .f32) : Prop where
  values : (outsAt0 m c t.val t.isLt).2.2.1 = k0_pay12 (rows m c t) (iblk m c 2 t)
  unit : (outsAt0 m c t.val t.isLt).2.2.2.1
    = k0_pay14 (k0_pay9 (rows m c t)) (k0_pay13 (gluA m c t)) (constant S512x512 .f32 0x00000000#32) (gluG m c t)
  short : (outsAt0 m c t.val t.isLt).2.2.2.2.1 = branch m c t prev
  carried : (outsAt0 m c t.val t.isLt).2.2.2.2.2.2 = k0_pay23 (products m c t)

set_option maxHeartbeats 1000000 in
theorem values_first (c : Dev nD) (t : Fin cfg0.N) (h0 : t.val % 8 = 0) :
    (outsAt0 m c t.val t.isLt).2.2.1 = k0_pay12 (rows m c t) (iblk m c 2 t) := by
  rw [outsAt0_A m c t h0]
  dsimp only
  unfold out0_A_11 kernelRun0_A
  dsimp only
  sl_unfold_words
  rw [View.read_writes_full]
  simp only [View.readAt_eq_ld, (hs0_0 t).read_unread, (hs0_2 t).read_unread, View.ld_unit_zero (S := S512x1024) zero2]
  rfl

set_option maxHeartbeats 1000000 in
theorem unit_first (c : Dev nD) (t : Fin cfg0.N) (h0 : t.val % 8 = 0) :
    (outsAt0 m c t.val t.isLt).2.2.2.1
      = k0_pay14 (k0_pay9 (rows m c t)) (k0_pay13 (gluA m c t)) (constant S512x512 .f32 0x00000000#32) (gluG m c t) := by
  rw [outsAt0_A m c t h0]
  dsimp only
  unfold out0_A_12 kernelRun0_A
  dsimp only
  sl_unfold_words
  rw [View.read_writes_full]
  simp only [View.readAt_eq_ld, (hs0_0 t).read_unread, (hs0_1 t).read_unread, View.ld_unit_zero (S := S512x1024) zero2]
  rfl

set_option maxHeartbeats 1000000 in
theorem short_first (c : Dev nD) (t : Fin cfg0.N) (h0 : t.val % 8 = 0) :
    (outsAt0 m c t.val t.isLt).2.2.2.2.1 = branch m c t (k0_pay8 : FVec Ideal S8x512 .f32) := by
  rw [outsAt0_A m c t h0]
  dsimp only
  unfold out0_A_13 kernelRun0_A
  dsimp only
  sl_unfold_words
  rw [View.read_writes_full]
  rw [View.readCov_full (v := scM0_1.view)]
  simp only [View.readAt_eq_ld, (hs0_0 t).read_unread, (hs0_1 t).read_unread, (hs0_5 t).read_unread,
    View.ld_unit_zero (S := S512x1024) zero2]
  rfl

set_option maxHeartbeats 1000000 in
theorem carried_first (c : Dev nD) (t : Fin cfg0.N) (h0 : t.val % 8 = 0) :
    (outsAt0 m c t.val t.isLt).2.2.2.2.2.2 = k0_pay23 (products m c t) := by
  rw [outsAt0_A m c t h0]
  dsimp only
  unfold sout0_A_1 kernelRun0_A
  dsimp only
  sl_unfold_words
  rw [View.read_writes_full]
  simp only [View.readAt_eq_ld, (hs0_0 t).read_unread, (hs0_1 t).read_unread, View.ld_unit_zero (S := S512x1024) zero2]
  rfl

set_option maxHeartbeats 1000000 in
theorem values_later (c : Dev nD) (t : Fin cfg0.N) (h0 : ¬t.val % 8 = 0) :
    (outsAt0 m c t.val t.isLt).2.2.1 = k0_pay12 (rows m c t) (iblk m c 2 t) := by
  rw [outsAt0_B m c t h0]
  dsimp only
  unfold out0_B_11 kernelRun0_B
  dsimp only
  sl_unfold_words
  rw [View.read_writes_full]
  simp only [View.readAt_eq_ld, (hs0_0 t).read_unread, (hs0_2 t).read_unread, View.ld_unit_zero (S := S512x1024) zero2]
  rfl

set_option maxHeartbeats 1000000 in
theorem unit_later (c : Dev nD) (t : Fin cfg0.N) (h0 : ¬t.val % 8 = 0) :
    (outsAt0 m c t.val t.isLt).2.2.2.1
      = k0_pay14 (k0_pay9 (rows m c t)) (k0_pay13 (gluA m c t)) (constant S512x512 .f32 0x00000000#32) (gluG m c t) := by
  rw [outsAt0_B m c t h0]
  dsimp only
  unfold out0_B_12 kernelRun0_B
  dsimp only
  sl_unfold_words
  rw [View.read_writes_full]
  simp only [View.readAt_eq_ld, (hs0_0 t).read_unread, (hs0_1 t).read_unread, View.ld_unit_zero (S := S512x1024) zero2]
  rfl

set_option maxHeartbeats 1000000 in
theorem short_later (c : Dev nD) (t : Fin cfg0.N) (h0 : ¬t.val % 8 = 0) :
    (outsAt0 m c t.val t.isLt).2.2.2.2.1
      = branch m c t (outsAt0 m c (t.val - 1) (Nat.lt_of_le_of_lt (Nat.sub_le _ _) t.isLt)).2.2.2.2.2.2 := by
  rw [outsAt0_B m c t h0]
  dsimp only
  generalize outsAt0 m c (t.val - 1) (Nat.lt_of_le_of_lt (Nat.sub_le _ _) t.isLt) = before
  unfold out0_B_13 kernelRun0_B
  dsimp only
  sl_unfold_words
  rw [View.read_writes_full]
  simp only [View.readAt_eq_ld, (hs0_0 t).read_unread, (hs0_1 t).read_unread, (hs0_5 t).read_unread,
    (Memref.isWhole_whole (sig := sig) _).read_unread, View.ld_unit_zero (S := S512x1024) zero2, View.ld_unit_zero (S := S8x512) zero2]
  rfl

set_option maxHeartbeats 1000000 in
theorem carried_later (c : Dev nD) (t : Fin cfg0.N) (h0 : ¬t.val % 8 = 0) :
    (outsAt0 m c t.val t.isLt).2.2.2.2.2.2 = k0_pay23 (products m c t) := by
  rw [outsAt0_B m c t h0]
  dsimp only
  unfold sout0_B_1 kernelRun0_B
  dsimp only
  sl_unfold_words
  rw [View.read_writes_full]
  simp only [View.readAt_eq_ld, (hs0_0 t).read_unread, (hs0_1 t).read_unread, View.ld_unit_zero (S := S512x1024) zero2]
  rfl

/-- The first point of a sequence finds zero rows. -/
theorem first (c : Dev nD) (t : Fin cfg0.N) (h0 : t.val % 8 = 0) :
    Leaves m c t (k0_pay8 : FVec Ideal S8x512 .f32) :=
  ⟨values_first m c t h0, unit_first m c t h0, short_first m c t h0, carried_first m c t h0⟩

/-- Every other finds the last rows of the point before. -/
theorem later (c : Dev nD) (t s : Fin cfg0.N) (h0 : ¬t.val % 8 = 0) (hs : s.val + 1 = t.val) :
    Leaves m c t (k0_pay23 (products m c s)) := by
  have hv : t.val - 1 = s.val := by omega
  have hc : (outsAt0 m c (t.val - 1) (Nat.lt_of_le_of_lt (Nat.sub_le _ _) t.isLt)).2.2.2.2.2.2 = k0_pay23 (products m c s) := by
    have h : (outsAt0 m c s.val s.isLt).2.2.2.2.2.2 = k0_pay23 (products m c s) := by
      by_cases h : s.val % 8 = 0
      · exact carried_first m c s h
      · exact carried_later m c s h
    have e : ∀ (n : ℕ) (hn : n < cfg0.N), n = s.val → outsAt0 m c n hn = outsAt0 m c s.val s.isLt := fun n hn hv => by
      subst hv
      rfl
    rw [← h, e _ _ hv]
  exact ⟨values_later m c t h0, unit_later m c t h0, hc ▸ short_later m c t h0, carried_later m c t h0⟩

end Cert.Kernel4Ideal.InProj

end
-- ==== Proof.InProjValue.lean ====
/-
  The projection kernel's values: the three results are the functions of `InProj.lean`, of the argument arrays. The rows a
  point finds carried are the last of its point before, so the convolution runs through a sequence's blocks, and from zero rows
  at each sequence's first.
-/
module

public import proofs.«01_k».proof.Proof.InProjRun

@[expose] public section

set_option maxRecDepth 16384

noncomputable section

namespace Cert.Kernel4Ideal.InProj

open Cert.Kernel4Ideal Cert.Kernel4Ideal.Gen Cert.Kernel4Ideal.Value
open Idealize.ShloMosaic Idealize.ShloMosaic.TcCoe Idealize.ShloMosaic.Tactic Idealize.SL.Sem
open Idealize.ShloMosaic.Pipeline (Dat)
open Cert.InProj (col entry)

variable (m : (ℓ : Loc nD τ sig) → Buf (Elt Ideal) ℓ) (ρ : Dev nD → PrngReg)

/-! ### The argument arrays and the blocks of a point -/

def X (c : Dev nD) (r : Fin 65536) (d : Fin 1024) : EReal :=
  (show FVec Ideal S65536x1024 .f32 from m ((c : Thread nD τ).loc main_arg0)) (ix2 r d)
def W (c : Dev nD) (d : Fin 1024) (j : Fin 4104) : EReal :=
  (show FVec Ideal S1024x4104 .f32 from m ((c : Thread nD τ).loc main_arg1)) (ix2 d j)
def T (c : Dev nD) (k : Fin 3) (j : Fin 512) : EReal :=
  (show FVec Ideal S3x512 .f32 from m ((c : Thread nD τ).loc main_arg3)) (ix2 k j)

/-- The weights without the values' and the forget gate's columns. -/
theorem V_main (c : Dev nD) : V m c main_v3 = (show Buf (Elt Ideal) ((c : Thread nD τ).loc main_v3) from
    (truncf .bf16 (concatenate S1024x3584 1
      [⟨S1024x1024, (extractStridedSlice S1024x1024 ![0, 0] (m ((c : Thread nD τ).loc main_arg1) : FVec Ideal S1024x4104 .f32)
        slices_S1024x4104_S1024x1024_0_0 : FVec Ideal S1024x1024 .f32)⟩,
      ⟨S1024x2560, (extractStridedSlice S1024x2560 ![0, 1544] (m ((c : Thread nD τ).loc main_arg1) : FVec Ideal S1024x4104 .f32)
        slices_S1024x4104_S1024x2560_0_1544 : FVec Ideal S1024x2560 .f32)⟩]
      concatenates_S1024x1024_S1024x2560_S1024x3584_d1 : FVec Ideal S1024x3584 .f32) bitsLt_bf16_f32 : FVec Ideal S1024x3584 .bf16)) := by
  show StableHlo.after (List.flatten [hostOps0, hostOps0_1, hostOps0_2, hostOps0_3, hostOps0_4, hostOps0_5, hostOps0_6,
    hostOps0_7, hostOps0_8, hostOps0_9, hostOps0_10, hostOps0_11, hostOps0_12, hostOps0_13, hostOps0_14, hostOps0_15,
    hostOps0_16]) _ (Proc.devRef .tc main_v3) = _
  simp only [List.flatten_cons, List.flatten_nil, List.cons_append, List.nil_append, List.append_nil]
  after_results

/-- The values' columns, transposed. -/
theorem V_values (c : Dev nD) : V m c main_v6 = (show Buf (Elt Ideal) ((c : Thread nD τ).loc main_v6) from
    (truncf .bf16 (transpose S512x1024 [1, 0] (extractStridedSlice S1024x512 ![0, 1024]
      (m ((c : Thread nD τ).loc main_arg1) : FVec Ideal S1024x4104 .f32) slices_S1024x4104_S1024x512_0_1024 : FVec Ideal S1024x512 .f32)
      transposes_S1024x512_S512x1024_1_0 : FVec Ideal S512x1024 .f32) bitsLt_bf16_f32 : FVec Ideal S512x1024 .bf16)) := by
  show StableHlo.after (List.flatten [hostOps0, hostOps0_1, hostOps0_2, hostOps0_3, hostOps0_4, hostOps0_5, hostOps0_6,
    hostOps0_7, hostOps0_8, hostOps0_9, hostOps0_10, hostOps0_11, hostOps0_12, hostOps0_13, hostOps0_14, hostOps0_15,
    hostOps0_16]) _ (Proc.devRef .tc main_v6) = _
  simp only [List.flatten_cons, List.flatten_nil, List.cons_append, List.nil_append, List.append_nil]
  after_results

/-- The rows' windows move with the point, the values' along their columns; the weights' hold their arrays whole. -/
theorem rows_index : ∀ t : Fin cfg0.N,
    (win0_0.index t 0 = t.val ∧ win0_0.index t 1 = 0) ∧ (win0_11.index t 0 = 0 ∧ win0_11.index t 1 = t.val)
    ∧ (win0_12.index t 0 = t.val ∧ win0_12.index t 1 = 0) ∧ (win0_13.index t 0 = t.val ∧ win0_13.index t 1 = 0) :=
  (by decide +kernel : ∀ t : Fin grid0.N, _)

theorem weights_index : ∀ t : Fin cfg0.N,
    (win0_1.index t 0 = 0 ∧ win0_1.index t 1 = 0) ∧ (win0_2.index t 0 = 0 ∧ win0_2.index t 1 = 0)
    ∧ (win0_5.index t 0 = 0 ∧ win0_5.index t 1 = 0) :=
  (by decide +kernel : ∀ t : Fin grid0.N, _)

theorem lt_points (t : Fin cfg0.N) : t.val < 128 := lt_of_lt_of_eq t.2 N_0

/-- The row of the arrays that a point's row `r` is. -/
def rowOf (t : Fin cfg0.N) (r : Fin 512) : Fin 65536 := ⟨512 * t.val + r.val, by have := lt_points t; omega⟩

theorem rows_block (c : Dev nD) (t : Fin cfg0.N) (r : Fin 512) (d : Fin 1024) :
    (show EReal from rows m c t (ix2 r d)) = X m c (rowOf t r) d := by
  unfold rows iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 512 + 1 * r.val = 512 * t.val + r.val; rw [(rows_index t).1.1]; ring
  | ⟨1, _⟩ => show win0_0.index t 1 * 1024 + 1 * d.val = d.val; rw [(rows_index t).1.2]; ring

theorem main_block (c : Dev nD) (t : Fin cfg0.N) (d : Fin 1024) (j : Fin 3584) (h : 1024 ≤ j.val) :
    (show EReal from (iblk m c 1 t : Vec Ideal S1024x3584 .bf16) (ix2 d j)) = W m c d ⟨j.val + 520, by omega⟩ := by
  have hb : (show EReal from (iblk m c 1 t : Vec Ideal S1024x3584 .bf16) (ix2 d j))
      = (show Vec Ideal S1024x3584 .bf16 from V m c main_v3) (ix2 d j) := by
    unfold iblk
    rw [View.read_apply]
    refine congrArg (V m c main_v3) (funext fun a => Fin.ext ?_)
    match a with
    | ⟨0, _⟩ => show win0_1.index t 0 * 1024 + 1 * d.val = d.val; rw [(weights_index t).1.1]; ring
    | ⟨1, _⟩ => show win0_1.index t 1 * 3584 + 1 * j.val = j.val; rw [(weights_index t).1.2]; ring
  rw [hb, V_main]
  pointwise []
  rw [dif_neg (by omega)]
  refine congrArg (W m c d) (Fin.ext ?_)
  show 1544 + (j.val - 1024) = j.val + 520
  omega

theorem values_block (c : Dev nD) (t : Fin cfg0.N) (j : Fin 512) (d : Fin 1024) :
    (show EReal from (iblk m c 2 t : Vec Ideal S512x1024 .bf16) (ix2 j d)) = W m c d (col 1024 (by decide) j) := by
  have hb : (show EReal from (iblk m c 2 t : Vec Ideal S512x1024 .bf16) (ix2 j d))
      = (show Vec Ideal S512x1024 .bf16 from V m c main_v6) (ix2 j d) := by
    unfold iblk
    rw [View.read_apply]
    refine congrArg (V m c main_v6) (funext fun a => Fin.ext ?_)
    match a with
    | ⟨0, _⟩ => show win0_2.index t 0 * 512 + 1 * j.val = j.val; rw [(weights_index t).2.1.1]; ring
    | ⟨1, _⟩ => show win0_2.index t 1 * 1024 + 1 * d.val = d.val; rw [(weights_index t).2.1.2]; ring
  rw [hb, V_values]
  pointwise []
  rfl

theorem taps_block (c : Dev nD) (t : Fin cfg0.N) (k : Fin 3) (j : Fin 512) :
    (show EReal from (iblk m c 5 t : Vec Ideal S3x512 .f32) (ix2 k j)) = T m c k j := by
  unfold iblk
  rw [View.read_apply]
  show V m c main_arg3 _ = _
  rw [V_main_arg3]
  refine congrArg (m ((c : Thread nD τ).loc main_arg3)) (funext fun a => Fin.ext ?_)
  match a with
  | ⟨0, _⟩ => show win0_5.index t 0 * 3 + 1 * k.val = k.val; rw [(weights_index t).2.2.1]; ring
  | ⟨1, _⟩ => show win0_5.index t 1 * 512 + 1 * j.val = j.val; rw [(weights_index t).2.2.2]; ring

/-- 512 columns of the weights, from the column `n`. -/
theorem columns_at (c : Dev nD) (t : Fin cfg0.N) (n : ℕ) (hn : 1024 ≤ n) (hc : n + 520 + 512 ≤ 4104)
    (inb : ∀ a, (![0, n] : Fin 2 → ℕ) a + S1024x512.size a ≤ S1024x3584.size a) (d : Fin 1024) (j : Fin 512) :
    (show EReal from View.ld (iblk m c 1 t : Vec Ideal S1024x3584 .bf16) (Rect.unit ![0, n] S1024x512.size inb) (ix2 d j))
      = W m c d (col (n + 520) hc j) := by
  have hi : (Rect.unit (s := S1024x3584) ![0, n] S1024x512.size inb).idx (ix2 d j : S1024x512.Idx)
      = (ix2 d ⟨n + j.val, by omega⟩ : S1024x3584.Idx) := funext fun a => Fin.ext (by
    match a with
    | ⟨0, _⟩ => show 0 + 1 * d.val = d.val; omega
    | ⟨1, _⟩ => show n + 1 * j.val = n + j.val; omega)
  refine (congrArg (iblk m c 1 t : Vec Ideal S1024x3584 .bf16) hi).trans ((main_block m c t d _ (by show 1024 ≤ n + j.val; omega)).trans ?_)
  refine congrArg (W m c d) (Fin.ext ?_)
  show n + j.val + 520 = n + 520 + j.val
  omega

/-- One row of the taps. -/
theorem tap_at (c : Dev nD) (t : Fin cfg0.N) (k : Fin 3)
    (inb : ∀ a, (![k.val, 0] : Fin 2 → ℕ) a + S1x512.size a ≤ S3x512.size a) (j : Fin 512) :
    (show EReal from View.ld (iblk m c 5 t : Vec Ideal S3x512 .f32) (Rect.unit ![k.val, 0] S1x512.size inb) (ix2 0 j)) = T m c k j := by
  have hi : (Rect.unit (s := S3x512) ![k.val, 0] S1x512.size inb).idx (ix2 0 j : S1x512.Idx) = (ix2 k j : S3x512.Idx) :=
    funext fun a => Fin.ext (by
      match a with
      | ⟨0, _⟩ => show k.val + 1 * 0 = k.val; omega
      | ⟨1, _⟩ => show 0 + 1 * j.val = j.val; omega)
  exact (congrArg (iblk m c 5 t : Vec Ideal S3x512 .f32) hi).trans (taps_block m c t k j)

/-! ### A point's results -/

/-- The values, the gated linear unit and the branch, at a row and a column. -/
def valueAt (c : Dev nD) (r : Fin 65536) (j : Fin 512) : EReal := Cert.InProj.value (X m c) (W m c) r j
def unitAt (c : Dev nD) (r : Fin 65536) (j : Fin 512) : EReal := Cert.InProj.unit (X m c) (W m c) r j
def shortAt (c : Dev nD) (r : Fin 65536) (j : Fin 512) : EReal := Cert.InProj.short (X m c) (W m c) (T m c) r j

theorem value_row (c : Dev nD) (t : Fin cfg0.N) (j r : Fin 512) :
    (show EReal from k0_pay12 (rows m c t) (iblk m c 2 t) (ix2 j r)) = valueAt m c (rowOf t r) j := by
  refine (values_at (rows m c t) (iblk m c 2 t) j r).trans ?_
  exact congrArg₂ entry (funext fun d => rows_block m c t r d) (funext fun d => values_block m c t j d)

theorem entry_row (c : Dev nD) (t : Fin cfg0.N) (n : ℕ) (hn : 1024 ≤ n) (hc : n + 520 + 512 ≤ 4104)
    (inb : ∀ a, (![0, n] : Fin 2 → ℕ) a + S1024x512.size a ≤ S1024x3584.size a) (r j : Fin 512) :
    entry (fun d => rows m c t (ix2 r d))
        (fun d => View.ld (iblk m c 1 t : Vec Ideal S1024x3584 .bf16) (Rect.unit ![0, n] S1024x512.size inb) (ix2 d j))
      = entry (X m c (rowOf t r)) (W m c · (col (n + 520) hc j)) :=
  congrArg₂ entry (funext fun d => rows_block m c t r d) (funext fun d => columns_at m c t n hn hc inb d j)

theorem unit_row (c : Dev nD) (t : Fin cfg0.N) (r j : Fin 512) :
    (show EReal from k0_pay14 (k0_pay9 (rows m c t)) (k0_pay13 (gluA m c t)) (constant S512x512 .f32 0x00000000#32)
      (gluG m c t) (ix2 r j)) = unitAt m c (rowOf t r) j := by
  refine (unit_at (rows m c t) (gluA m c t) (gluG m c t) r j).trans ?_
  exact congrArg₂ Cert.InProj.gated (entry_row m c t 1024 (by decide) (by decide) _ r j)
    (entry_row m c t 1536 (by decide) (by decide) _ r j)

/-- What the convolution runs over. -/
def productAt (c : Dev nD) (j : Fin 512) (r : Fin 65536) : EReal := Cert.InProj.product (X m c) (W m c) j r

theorem product_row (c : Dev nD) (t : Fin cfg0.N) (r j : Fin 512) :
    (show EReal from products m c t (ix2 r j)) = productAt m c j (rowOf t r) := by
  refine (product_at (rows m c t) (convC m c t) (convH m c t) r j).trans ?_
  exact congrArg₂ (fun a b : EReal => a * b) (entry_row m c t 2560 (by decide) (by decide) _ r j)
    (entry_row m c t 3072 (by decide) (by decide) _ r j)

/-- The rows carried to a point are the rows before its first, within the sequence. -/
def Carries (c : Dev nD) (t : Fin cfg0.N) (prev : Vec Ideal S8x512 .f32) : Prop := ∀ j : Fin 512,
  (show EReal from prev (ix2 7 j)) = Cert.InProj.back (productAt m c j) 1 (rowOf t 0)
  ∧ (show EReal from prev (ix2 6 j)) = Cert.InProj.back (productAt m c j) 2 (rowOf t 0)
  ∧ (show EReal from prev (ix2 7 j)) = Cert.InProj.back (productAt m c j) 2 (rowOf t 1)

theorem carries_first (c : Dev nD) (t : Fin cfg0.N) (h0 : t.val % 8 = 0) :
    Carries m c t (k0_pay8 : FVec Ideal S8x512 .f32) := fun j => by
  have hz : ∀ k : Fin 8, (show EReal from (k0_pay8 : FVec Ideal S8x512 .f32) (ix2 k j)) = 0 := fun k => by
    pointwise [k0_pay8]
  have hb : ∀ (n : ℕ) (r : Fin 512), r.val < n → n ≤ 2 → Cert.InProj.back (productAt m c j) n (rowOf t r) = 0 := fun n r h hn =>
    if_neg (by show ¬ n ≤ (512 * t.val + r.val) % 4096; omega)
  exact ⟨(hz 7).trans (hb 1 0 (by decide) (by decide)).symm, (hz 6).trans (hb 2 0 (by decide) (by decide)).symm,
    (hz 7).trans (hb 2 1 (by decide) (by decide)).symm⟩

theorem carries_later (c : Dev nD) (t s : Fin cfg0.N) (h0 : ¬t.val % 8 = 0) (hs : s.val + 1 = t.val) :
    Carries m c t (k0_pay23 (products m c s)) := fun j => by
  have hb : ∀ (k : Fin 8) (n : ℕ) (r : Fin 512), k.val + n = 8 + r.val → n ≤ 2 → r.val ≤ 1 →
      (show EReal from k0_pay23 (products m c s) (ix2 k j)) = Cert.InProj.back (productAt m c j) n (rowOf t r) := fun k n r h hn hr => by
    refine (carried_at (products m c s) k j).trans ((product_row m c s _ j).trans ?_)
    refine Eq.trans ?_ (if_pos (by show n ≤ (512 * t.val + r.val) % 4096; omega)).symm
    refine congrArg (productAt m c j) (Fin.ext ?_)
    show 512 * s.val + (504 + k.val) = 512 * t.val + r.val - n
    have := k.isLt
    omega
  exact ⟨hb 7 1 0 rfl (by decide) (by decide), hb 6 2 0 rfl (by decide) (by decide), hb 7 2 1 rfl (by decide) (by decide)⟩

theorem back_inside (c : Dev nD) (t : Fin cfg0.N) (n : ℕ) (r j : Fin 512) (h : n ≤ r.val) (hn : n ≤ 2) :
    (show EReal from products m c t (ix2 ⟨(r.val + 512 - n) % 512, Nat.mod_lt _ (by decide)⟩ j))
      = Cert.InProj.back (productAt m c j) n (rowOf t r) := by
  refine (product_row m c t _ j).trans (Eq.trans ?_ (if_pos (by
    show n ≤ (512 * t.val + r.val) % 4096
    have := r.isLt
    omega)).symm)
  refine congrArg (productAt m c j) (Fin.ext ?_)
  show 512 * t.val + (r.val + 512 - n) % 512 = 512 * t.val + r.val - n
  have := r.isLt
  omega

theorem one_row (c : Dev nD) (t : Fin cfg0.N) (prev : Vec Ideal S8x512 .f32) (hp : Carries m c t prev) (r j : Fin 512) :
    one (products m c t) prev r j = Cert.InProj.back (productAt m c j) 1 (rowOf t r) := by
  unfold one
  by_cases h : r.val = 0
  · rw [if_pos h]
    obtain rfl : r = 0 := Fin.ext h
    exact (hp j).1
  · rw [if_neg h]
    exact back_inside m c t 1 r j (by omega) (by decide)

theorem two_row (c : Dev nD) (t : Fin cfg0.N) (prev : Vec Ideal S8x512 .f32) (hp : Carries m c t prev) (r j : Fin 512) :
    two (products m c t) prev r j = Cert.InProj.back (productAt m c j) 2 (rowOf t r) := by
  unfold two
  by_cases h : r.val = 0
  · rw [if_pos h]
    obtain rfl : r = 0 := Fin.ext h
    exact (hp j).2.1
  · rw [if_neg h]
    by_cases h1 : r.val = 1
    · rw [if_pos h1]
      obtain rfl : r = 1 := Fin.ext h1
      exact (hp j).2.2
    · rw [if_neg h1]
      exact back_inside m c t 2 r j (by omega) (by decide)

/-- The branch's form, part by part. -/
theorem sum_congr3 {a a' w0 w0' w1 w1' w2 w2' p2 p2' p1 p1' p0 p0' : EReal} (ha : a = a') (h0 : w0 = w0') (h1 : w1 = w1')
    (h2 : w2 = w2') (q2 : p2 = p2') (q1 : p1 = p1') (q0 : p0 = p0') :
    a * (w0 * p2 + w1 * p1 + w2 * p0) = a' * (w0' * p2' + w1' * p1' + w2' * p0') := by
  rw [ha, h0, h1, h2, q2, q1, q0]

/-- The branch, spelt out. -/
theorem shortAt_eq (c : Dev nD) (r : Fin 65536) (j : Fin 512) : shortAt m c r j = entry (X m c r) (W m c · (col 2568 (by decide) j))
    * (T m c 0 j * Cert.InProj.back (productAt m c j) 2 r + T m c 1 j * Cert.InProj.back (productAt m c j) 1 r
      + T m c 2 j * productAt m c j r) := rfl

/-- The branch of a point, for the rows carried to it. -/
theorem short_row (c : Dev nD) (t : Fin cfg0.N) (prev : Vec Ideal S8x512 .f32) (hp : Carries m c t prev) (r j : Fin 512) :
    (show EReal from branch m c t prev (ix2 r j)) = shortAt m c (rowOf t r) j := by
  rw [shortAt_eq]
  refine (short_at (rows m c t) (convC m c t) (convH m c t) (convB m c t) prev _ _ _ r j).trans ?_
  exact sum_congr3 (entry_row m c t 2048 (by decide) (by decide) _ r j) (tap_at m c t 0 _ j) (tap_at m c t 1 _ j)
    (tap_at m c t 2 _ j) (two_row m c t prev hp r j) (one_row m c t prev hp r j) (product_row m c t r j)

/-- What every point leaves, entry by entry. -/
theorem leaves (c : Dev nD) (t : Fin cfg0.N) : ∃ prev, Leaves m c t prev ∧ Carries m c t prev := by
  by_cases h0 : t.val % 8 = 0
  · exact ⟨_, first m c t h0, carries_first m c t h0⟩
  · have ht := t.isLt
    let s : Fin cfg0.N := ⟨t.val - 1, by omega⟩
    have hs : s.val + 1 = t.val := by show t.val - 1 + 1 = t.val; omega
    exact ⟨_, later m c t s h0 hs, carries_later m c t s h0 hs⟩

/-! ### The result arrays -/

def values (c : Dev nD) : Buf (Elt Ideal) ((c : Thread nD τ).loc main_v68_2) := fun (i : S512x65536.Idx) => valueAt m c (i 1) (i 0)
def units (c : Dev nD) : Buf (Elt Ideal) ((c : Thread nD τ).loc main_v68_3) := fun (i : S65536x512.Idx) => unitAt m c (i 0) (i 1)
def shorts (c : Dev nD) : Buf (Elt Ideal) ((c : Thread nD τ).loc main_v68_4) := fun (i : S65536x512.Idx) => shortAt m c (i 0) (i 1)

/-- A point's blocks are written back whole. -/
theorem cut11 (t : Fin cfg0.N) (Z : Vec Ideal S512x512 .bf16) (y : S512x512.Idx) :
    (cfg0.win 11).cut (grid0.coords t) Z y = Z y := rfl
theorem cut12 (t : Fin cfg0.N) (Z : Vec Ideal S512x512 .f32) (y : S512x512.Idx) :
    (cfg0.win 12).cut (grid0.coords t) Z y = Z y := rfl
theorem cut13 (t : Fin cfg0.N) (Z : Vec Ideal S512x512 .bf16) (y : S512x512.Idx) :
    (cfg0.win 13).cut (grid0.coords t) Z y = Z y := rfl

/-- Where the entry of a point's block lies in the array. -/
theorem place11 (t : Fin cfg0.N) (j r : Fin 512) :
    ((cfg0.win 11).blk t).view.emb (ix2 j r : S512x512.Idx) = (ix2 j (rowOf t r) : S512x65536.Idx) :=
  funext fun a => Fin.ext (by
    match a with
    | ⟨0, _⟩ => show win0_11.index t 0 * 512 + 1 * j.val = j.val; rw [(rows_index t).2.1.1]; ring
    | ⟨1, _⟩ => show win0_11.index t 1 * 512 + 1 * r.val = 512 * t.val + r.val; rw [(rows_index t).2.1.2]; ring)

theorem place12 (t : Fin cfg0.N) (r j : Fin 512) :
    ((cfg0.win 12).blk t).view.emb (ix2 r j : S512x512.Idx) = (ix2 (rowOf t r) j : S65536x512.Idx) :=
  funext fun a => Fin.ext (by
    match a with
    | ⟨0, _⟩ => show win0_12.index t 0 * 512 + 1 * r.val = 512 * t.val + r.val; rw [(rows_index t).2.2.1.1]; ring
    | ⟨1, _⟩ => show win0_12.index t 1 * 512 + 1 * j.val = j.val; rw [(rows_index t).2.2.1.2]; ring)

theorem place13 (t : Fin cfg0.N) (r j : Fin 512) :
    ((cfg0.win 13).blk t).view.emb (ix2 r j : S512x512.Idx) = (ix2 (rowOf t r) j : S65536x512.Idx) :=
  funext fun a => Fin.ext (by
    match a with
    | ⟨0, _⟩ => show win0_13.index t 0 * 512 + 1 * r.val = 512 * t.val + r.val; rw [(rows_index t).2.2.2.1]; ring
    | ⟨1, _⟩ => show win0_13.index t 1 * 512 + 1 * j.val = j.val; rw [(rows_index t).2.2.2.2]; ring)

theorem ix2_of (y : S512x512.Idx) : ∃ r j : Fin 512, y = (ix2 r j : S512x512.Idx) := ⟨y 0, y 1, eq_ix2 (n0 := 512) (n1 := 512) y⟩

/-- What a point writes back is the block of the result there. -/
theorem values_eq (c : Dev nD) (t : Fin cfg0.N) :
    (dats m 0 c).flushed 11 t = ((cfg0.win 11).blk t).view.read (Elt Ideal) (values m c) := by
  obtain ⟨prev, hl, -⟩ := leaves m c t
  rw [flushed11 m c t, hl.values]
  funext y
  obtain ⟨j, r, rfl⟩ := ix2_of y
  rw [View.read_apply, place11 t j r]
  exact (cut11 t _ _).trans (value_row m c t j r)

theorem units_eq (c : Dev nD) (t : Fin cfg0.N) :
    (dats m 0 c).flushed 12 t = ((cfg0.win 12).blk t).view.read (Elt Ideal) (units m c) := by
  obtain ⟨prev, hl, -⟩ := leaves m c t
  rw [flushed12 m c t, hl.unit]
  funext y
  obtain ⟨r, j, rfl⟩ := ix2_of y
  rw [View.read_apply, place12 t r j]
  exact (cut12 t _ _).trans (unit_row m c t r j)

theorem shorts_eq (c : Dev nD) (t : Fin cfg0.N) :
    (dats m 0 c).flushed 13 t = ((cfg0.win 13).blk t).view.read (Elt Ideal) (shorts m c) := by
  obtain ⟨prev, hl, hp⟩ := leaves m c t
  rw [flushed13 m c t, hl.short]
  funext y
  obtain ⟨r, j, rfl⟩ := ix2_of y
  rw [View.read_apply, place13 t r j]
  exact (cut13 t _ _).trans (short_row m c t prev hp r j)

/-- The arrays after the run. -/
theorem values_final (c : Dev nD) : (dats m 0 c).arrAt 11 cfg0.N = values m c :=
  (dats m 0 c).arrAt_eq_of_cover 11 _ (fun t _ => values_eq m c t) (fun i => (covered_iff11 i).2 (by
    have h0 : (i 0).val < 512 := (i 0).2
    have h1 : (i 1).val < 65536 := (i 1).2
    omega))

theorem units_final (c : Dev nD) : (dats m 0 c).arrAt 12 cfg0.N = units m c :=
  (dats m 0 c).arrAt_eq_of_cover 12 _ (fun t _ => units_eq m c t) (fun i => (covered_iff12 i).2 (by
    have h0 : (i 0).val < 65536 := (i 0).2
    have h1 : (i 1).val < 512 := (i 1).2
    omega))

theorem shorts_final (c : Dev nD) : (dats m 0 c).arrAt 13 cfg0.N = shorts m c :=
  (dats m 0 c).arrAt_eq_of_cover 13 _ (fun t _ => shorts_eq m c t) (fun i => (covered_iff13 i).2 (by
    have h0 : (i 0).val < 65536 := (i 0).2
    have h1 : (i 1).val < 512 := (i 1).2
    omega))

/-- The kernel's run: the values, the gated linear unit and the short convolution's branch; the arguments are unchanged. -/
theorem value_run : θ_run defs (onTc (τ := τ) (main (F := Ideal))) ⟨m, fun _ => 0, ρ⟩ fun r => ∀ c : Dev nD,
    r.2.mem ((c : Thread nD τ).loc main_v68_2) = values m c
      ∧ r.2.mem ((c : Thread nD τ).loc main_v68_3) = units m c
      ∧ r.2.mem ((c : Thread nD τ).loc main_v68_4) = shorts m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).2.2.1.trans (values_final m c), (h c).2.2.2.1.trans (units_final m c),
    (h c).2.2.2.2.1.trans (shorts_final m c), (h c).2.2.2.2.2⟩) (run_blocks m ρ)

end Cert.Kernel4Ideal.InProj

end
-- ==== Proof.InProjReference.lean ====
/-
  The projection's reference at an entry: its three results are the functions of `InProj.lean`. The short convolution is
  written there over sequences of 4096 rows with two zero rows before each, and its row `p + 2 - n` is the row `n` back.
-/
module

public import proofs.«01_k».proof.Proof.Gen.Reference4Ideal.Run
public import proofs.«01_k».proof.Proof.InProj
public import Idealize.ShloMosaic.Lib.Pointwise

@[expose] public section

set_option maxRecDepth 16384

noncomputable section

namespace Cert.Reference4Ideal.Entry

open Cert.Reference4Ideal Cert.Reference4Ideal.Gen Cert.Reference4Ideal.Value
open Idealize.ShloMosaic Idealize.ShloMosaic.TcCoe Idealize.SL.Sem
open Cert.InProj (col entry)

/-- The projection. -/
def proj (x : FVec Ideal S65536x1024 .f32) (w : FVec Ideal S1024x4104 .f32) : FVec Ideal S65536x4104 .f32 :=
  Host.dotGeneral dot_S65536x1024_S1024x4104_S65536x4104_1_0_0_1_n_n none x w

/-- The values, transposed. -/
def values (z : FVec Ideal S65536x4104 .f32) : FVec Ideal S512x65536 .bf16 :=
  truncf .bf16 (transpose S512x65536 [1, 0] (extractStridedSlice S65536x512 ![0, 1024] z slices_S65536x4104_S65536x512_0_1024)
    transposes_S65536x512_S512x65536_1_0) bitsLt_bf16_f32

/-- The gated linear unit. -/
def unit (z : FVec Ideal S65536x4104 .f32) : FVec Ideal S65536x512 .f32 :=
  mulf (extractStridedSlice S65536x512 ![0, 1544] z slices_S65536x4104_S65536x512_0_1544) (Host.divf (broadcastInDim S65536x512
    ![] bcast_S_S65536x512 (constant S_ .f32 0x3F800000#32)) (addf (broadcastInDim S65536x512 ![] bcast_S_S65536x512
    (constant S_ .f32 0x3F800000#32)) (Host.exp (Host.negf (extractStridedSlice S65536x512 ![0, 2056] z
    slices_S65536x4104_S65536x512_0_2056)))))

/-- What the short convolution runs over, by sequences. -/
def products (z : FVec Ideal S65536x4104 .f32) : FVec Ideal S16x4096x512 .f32 :=
  shapeCast _ (mulf (extractStridedSlice S65536x512 ![0, 3080] z slices_S65536x4104_S65536x512_0_3080)
    (extractStridedSlice S65536x512 ![0, 3592] z slices_S65536x4104_S65536x512_0_3592)) shapeCasts_S65536x512_S16x4096x512

/-- The same with two zero rows before every sequence. -/
def padded (p : FVec Ideal S16x4096x512 .f32) : FVec Ideal S16x4098x512 .f32 :=
  pad S16x4098x512 ![0, 2, 0] ![0, 0, 0] ![0, 0, 0] p (sitofp .f32 (constantI S_ 32 0#32))
    pads_S16x4096x512_S16x4098x512_000_200_000 h_S_

/-- A row of taps over the positions. -/
def tap (s : FVec Ideal S1x512 .f32) : FVec Ideal S16x4096x512 .f32 :=
  broadcastInDim S16x4096x512 ![0, 1, 2] bcast_S1x1x512_S16x4096x512_0_1_2
    (broadcastInDim S1x1x512 ![2] bcast_S512_S1x1x512_2 (shapeCast _ s shapeCasts_S1x512_S512))

/-- The three taps. -/
def convolved (q : FVec Ideal S16x4098x512 .f32) (s : FVec Ideal S3x512 .f32) : FVec Ideal S16x4096x512 .f32 :=
  addf (addf (mulf (tap (extractStridedSlice S1x512 ![0, 0] s slices_S3x512_S1x512_0_0))
      (extractStridedSlice S16x4096x512 ![0, 0, 0] q slices_S16x4098x512_S16x4096x512_0_0_0))
    (mulf (tap (extractStridedSlice S1x512 ![1, 0] s slices_S3x512_S1x512_1_0))
      (extractStridedSlice S16x4096x512 ![0, 1, 0] q slices_S16x4098x512_S16x4096x512_0_1_0)))
    (mulf (tap (extractStridedSlice S1x512 ![2, 0] s slices_S3x512_S1x512_2_0))
      (extractStridedSlice S16x4096x512 ![0, 2, 0] q slices_S16x4098x512_S16x4096x512_0_2_0))

/-- The short convolution's branch. -/
def short (z : FVec Ideal S65536x4104 .f32) (s : FVec Ideal S3x512 .f32) : FVec Ideal S65536x512 .bf16 :=
  truncf .bf16 (mulf (extractStridedSlice S65536x512 ![0, 2568] z slices_S65536x4104_S65536x512_0_2568)
    (shapeCast _ (convolved (padded (products z)) s) shapeCasts_S16x4096x512_S65536x512)) bitsLt_bf16_f32

/-- The run, its results in these terms. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42)
        = values (proj (m ((c.tc : Thread nD τ).loc main_arg0)) (m ((c.tc : Thread nD τ).loc main_arg1)))
      ∧ r.2.mem ((c.tc : Thread nD τ).loc main_v15)
        = unit (proj (m ((c.tc : Thread nD τ).loc main_arg0)) (m ((c.tc : Thread nD τ).loc main_arg1)))
      ∧ r.2.mem ((c.tc : Thread nD τ).loc main_v43)
        = short (proj (m ((c.tc : Thread nD τ).loc main_arg0)) (m ((c.tc : Thread nD τ).loc main_arg1)))
          (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run (F := Ideal) m ρ

theorem proj_at (x : FVec Ideal S65536x1024 .f32) (w : FVec Ideal S1024x4104 .f32) (r : Fin 65536) (j : Fin 4104) :
    (show EReal from proj x w (ix2 r j)) = entry (fun d => x (ix2 r d)) (fun d => w (ix2 d j)) := by
  pointwise [proj]
  rfl

theorem values_at (x : FVec Ideal S65536x1024 .f32) (w : FVec Ideal S1024x4104 .f32) (j : Fin 512) (r : Fin 65536) :
    (show EReal from values (proj x w) (ix2 j r))
      = Cert.InProj.value (fun r d => x (ix2 r d)) (fun d j => w (ix2 d j)) r j := by
  have h : ∀ j, proj x w (ix2 r j) = _ := proj_at x w r
  pointwise [values]
  rw [h]
  rfl

theorem unit_at (x : FVec Ideal S65536x1024 .f32) (w : FVec Ideal S1024x4104 .f32) (r : Fin 65536) (j : Fin 512) :
    (show EReal from unit (proj x w) (ix2 r j))
      = Cert.InProj.unit (fun r d => x (ix2 r d)) (fun d j => w (ix2 d j)) r j := by
  have h : ∀ j, proj x w (ix2 r j) = _ := proj_at x w r
  pointwise [unit]
  rw [h, h]
  rfl

/-- The row at a position of a sequence. -/
def rowAt (b : Fin 16) (p : Fin 4096) : Fin 65536 := ⟨b.val * 4096 + p.val, by omega⟩

theorem products_at (x : FVec Ideal S65536x1024 .f32) (w : FVec Ideal S1024x4104 .f32) (b : Fin 16) (p : Fin 4096)
    (j : Fin 512) : (show EReal from products (proj x w) (ix3 b p j))
      = Cert.InProj.product (fun r d => x (ix2 r d)) (fun d j => w (ix2 d j)) j (rowAt b p) := by
  have h : ∀ r j, proj x w (ix2 r j) = _ := proj_at x w
  pointwise [products]
  rw [h, h]
  rfl

theorem padded_at (q : FVec Ideal S16x4096x512 .f32) (b : Fin 16) (p : Fin 4098) (j : Fin 512) :
    (show EReal from padded q (ix3 b p j))
      = if h : 2 ≤ p.val ∧ p.val - 2 < 4096 then (show EReal from q (ix3 b ⟨p.val - 2, h.2⟩ j)) else 0 := by
  have hz : (FloatOps.sitofp FTy.f32 0#32 : Ideal .f32) = (0 : EReal) := by
    show ((BitVec.toInt 0#32 : ℝ) : EReal) = 0
    simp
  pointwise [padded]
  rw [hz]

/-- A position `n` back is a row `n` back, or a zero row before the sequence. -/
theorem back_at (x : FVec Ideal S65536x1024 .f32) (w : FVec Ideal S1024x4104 .f32) (r : Fin 65536) (j : Fin 512)
    (n : ℕ) (hn : n ≤ 2) (k : Fin 4098) (hk : k.val + n = r.val % 4096 + 2) :
    (show EReal from padded (products (proj x w)) (ix3 ⟨r.val / 4096, by omega⟩ k j))
      = Cert.InProj.back (Cert.InProj.product (fun r d => x (ix2 r d)) (fun d j => w (ix2 d j)) j) n r := by
  rw [padded_at]
  unfold Cert.InProj.back
  by_cases h : n ≤ r.val % 4096
  · rw [dif_pos (by omega), if_pos h, products_at]
    refine congrArg _ (Fin.ext ?_)
    show r.val / 4096 * 4096 + (k.val - 2) = r.val - n
    omega
  · rw [dif_neg (by omega), if_neg h]

theorem convolved_at (q : FVec Ideal S16x4098x512 .f32) (s : FVec Ideal S3x512 .f32) (b : Fin 16) (p : Fin 4096) (j : Fin 512) :
    (show EReal from convolved q s (ix3 b p j))
      = (show EReal from s (ix2 0 j)) * (show EReal from q (ix3 b ⟨p.val, by omega⟩ j))
        + (show EReal from s (ix2 1 j)) * (show EReal from q (ix3 b ⟨1 + p.val, by omega⟩ j))
        + (show EReal from s (ix2 2 j)) * (show EReal from q (ix3 b ⟨2 + p.val, by omega⟩ j)) := by
  pointwise [convolved, tap]

theorem short_at (x : FVec Ideal S65536x1024 .f32) (w : FVec Ideal S1024x4104 .f32) (s : FVec Ideal S3x512 .f32)
    (r : Fin 65536) (j : Fin 512) : (show EReal from short (proj x w) s (ix2 r j))
      = Cert.InProj.short (fun r d => x (ix2 r d)) (fun d j => w (ix2 d j)) (fun k j => s (ix2 k j)) r j := by
  have h : ∀ j, proj x w (ix2 r j) = _ := proj_at x w r
  have hq : convolved (padded (products (proj x w))) s (ix3 ⟨r.val / 4096, by omega⟩ ⟨r.val % 4096, by omega⟩ j)
      = Cert.InProj.taps (s (ix2 0 j)) (s (ix2 1 j)) (s (ix2 2 j))
        (Cert.InProj.product (fun r d => x (ix2 r d)) (fun d j => w (ix2 d j)) j) r := by
    refine (convolved_at _ _ _ _ _).trans ?_
    rw [back_at x w r j 2 (by decide) _ rfl, back_at x w r j 1 (by decide) _ (by show 1 + r.val % 4096 + 1 = _; omega),
      back_at x w r j 0 (by decide) _ (by show 2 + r.val % 4096 + 0 = _; omega)]
    have h0 : Cert.InProj.back (Cert.InProj.product (fun r d => x (ix2 r d)) (fun d j => w (ix2 d j)) j) 0 r
        = Cert.InProj.product (fun r d => x (ix2 r d)) (fun d j => w (ix2 d j)) j r := if_pos (Nat.zero_le _)
    rw [h0]
    rfl
  unfold short
  generalize convolved (padded (products (proj x w))) s = q at hq ⊢
  pointwise []
  rw [hq, h]
  rfl

end Cert.Reference4Ideal.Entry

end
-- ==== Proof.lean ====
module

public import proofs.«01_k».proof.Defs
public import proofs.«01_k».proof.Proof.KernelFrame
public import proofs.«01_k».proof.Proof.Value
public import proofs.«01_k».proof.Proof.Reference
public import proofs.«01_k».proof.Proof.Condition
public import proofs.«01_k».proof.Proof.Gen.Kernel2.Frame
public import proofs.«01_k».proof.Proof.MergeValue
public import proofs.«01_k».proof.Proof.MergeReference
public import proofs.«01_k».proof.Proof.Gen.Kernel3.Frame
public import proofs.«01_k».proof.Proof.CombineValue
public import proofs.«01_k».proof.Proof.CombineReference
public import proofs.«01_k».proof.Proof.Gen.Kernel4.Frame
public import proofs.«01_k».proof.Proof.InProjValue
public import proofs.«01_k».proof.Proof.InProjReference
public import Idealize.ShloMosaic.Lib.Quiescent

@[expose] public section

noncomputable section

namespace Cert.Proof

open Idealize.ShloMosaic Idealize.ShloMosaic.TcCoe Idealize.SL.Sem

/-- The kernel leaves its arguments and its semaphores as they were. -/
theorem frame_kernel : Cert.quiescent_Kernel := fun m g _ => Cert.Kernel.Fox.frame_run m g

/-- So does its idealization. -/
theorem frame_ideal : Cert.quiescent_KernelIdeal := fun m g _ => Cert.KernelIdeal.Fox.frame_run m g

theorem frame_ideal_pre : Cert.quiescent_KernelIdeal_pre_finite_scores := fun m g _ =>
  Cert.KernelIdeal.Fox.frame_run m g

/-- So does the reference, which has no semaphore at all. -/
theorem frame_reference : Cert.quiescent_ReferenceIdeal := fun m g _ =>
  (θ_run (Cert.ReferenceIdeal.defs (F := Ideal)) (onTc Cert.ReferenceIdeal.main) ⟨m, fun _ => 0, g⟩).mono
    (fun r h => ⟨fun c => (h c).2, sem_eq_zero_of_no_sems (by decide) r.2⟩)
    (Cert.ReferenceIdeal.Value.run (F := Ideal) m g)

theorem frame_reference_pre : Cert.quiescent_ReferenceIdeal_pre_finite_scores := fun m g _ =>
  frame_reference m g trivial

/-- The mask's literal is the name `"mask"`, whose ideal value is `-∞`. -/
theorem preserves : Cert.preserves_Kernel_KernelIdeal :=
  IdealRules.named_const.statement Cert.KernelIdeal.κ "mask" .f32 0xF149F2CA#32 ⊥ rfl

/-- The two programs' results are one array: attention over the arguments. -/
theorem algebraic : Cert.algebraic_KernelIdeal_ReferenceIdeal_pre_finite_scores := fun m g m' g' hpre hagree =>
  ⟨fun c => Cert.KernelIdeal.Fox.result m c, Cert.KernelIdeal.Fox.value_run m g,
    (θ_run (Cert.ReferenceIdeal.defs (F := Ideal)) (onTc Cert.ReferenceIdeal.main) ⟨m', fun _ => 0, g'⟩).mono
      (fun r h c => ⟨(h c).1.trans (by
        obtain ⟨hQ, hK⟩ := Cert.Pre_finite_scores.finite_of_pre _ _ _ (hpre c)
        rw [Cert.ReferenceIdeal.Entry.result_eq, (hagree c).1, (hagree c).2.1, (hagree c).2.2]
        exact Cert.ReferenceIdeal.Entry.mixed_eq hQ hK _), (h c).2⟩)
      (Cert.ReferenceIdeal.Value.run (F := Ideal) m' g')⟩

/-! ### The merge -/

/-- The merge leaves its arguments and its semaphores as they were. -/
theorem frame_merge : Cert.quiescent_Kernel2 := fun m g _ => Cert.Kernel2.Gen.frame m g

theorem frame_merge_ideal : Cert.quiescent_Kernel2Ideal := fun m g _ => Cert.Kernel2Ideal.Gen.frame (F := Ideal) m g

theorem frame_merge_reference : Cert.quiescent_Reference2Ideal := fun m g _ =>
  (θ_run (Cert.Reference2Ideal.defs (F := Ideal)) (onTc Cert.Reference2Ideal.main) ⟨m, fun _ => 0, g⟩).mono
    (fun r h => ⟨fun c => (h c).2, sem_eq_zero_of_no_sems (by decide) r.2⟩)
    (Cert.Reference2Ideal.Value.run (F := Ideal) m g)

/-- No operation of the merge is replaced. -/
theorem preserves_merge : Cert.preserves_Kernel2_Kernel2Ideal := trivial

/-- The merge's and its reference's results are one array: the mixed rows of the arguments. -/
theorem algebraic_merge : Cert.algebraic_Kernel2Ideal_Reference2Ideal := fun m g m' g' _ hagree =>
  ⟨fun c => Cert.Kernel2Ideal.Merge.result m c, Cert.Kernel2Ideal.Merge.value_run m g,
    (θ_run (Cert.Reference2Ideal.defs (F := Ideal)) (onTc Cert.Reference2Ideal.main) ⟨m', fun _ => 0, g'⟩).mono
      (fun r h c => ⟨((h c).1.trans (Cert.Reference2Ideal.Entry.result_eq m' c)).trans (by
        obtain ⟨h0, h1, h2, h3, h4, h5, h6, h7, h8, h9, _, _⟩ := hagree c
        rw [h0, h1, h2, h3, h4, h5, h6, h7, h8, h9]
        funext i
        obtain ⟨k, r, j, rfl⟩ : ∃ (k : Fin 4) (r : Fin 65536) (j : Fin 256), i = ix3 k r j :=
          ⟨i 0, i 1, i 2, eq_ix3 (n0 := 4) (n1 := 65536) (n2 := 256) i⟩
        exact Cert.Reference2Ideal.Entry.result_at _ _ _ _ _ _ _ _ _ _ k r j), (h c).2⟩)
      (Cert.Reference2Ideal.Value.run (F := Ideal) m' g')⟩

/-! ### The layer's end -/

/-- The last call leaves its arguments and its semaphores as they were. -/
theorem frame_combine : Cert.quiescent_Kernel3 := fun m g _ => Cert.Kernel3.Gen.frame m g

theorem frame_combine_ideal : Cert.quiescent_Kernel3Ideal := fun m g _ => Cert.Kernel3Ideal.Gen.frame (F := Ideal) m g

theorem frame_combine_reference : Cert.quiescent_Reference3Ideal := fun m g _ =>
  (θ_run (Cert.Reference3Ideal.defs (F := Ideal)) (onTc Cert.Reference3Ideal.main) ⟨m, fun _ => 0, g⟩).mono
    (fun r h => ⟨fun c => (h c).2, sem_eq_zero_of_no_sems (by decide) r.2⟩)
    (Cert.Reference3Ideal.Value.run (F := Ideal) m g)

/-- No operation of the last call is replaced. -/
theorem preserves_combine : Cert.preserves_Kernel3_Kernel3Ideal := trivial

/-- The last call's and its reference's results are one array: the finished rows of the arguments. -/
theorem algebraic_combine : Cert.algebraic_Kernel3Ideal_Reference3Ideal := fun m g m' g' _ hagree =>
  ⟨fun c => Cert.Kernel3Ideal.Combine.result m c, Cert.Kernel3Ideal.Combine.value_run m g,
    (θ_run (Cert.Reference3Ideal.defs (F := Ideal)) (onTc Cert.Reference3Ideal.main) ⟨m', fun _ => 0, g'⟩).mono
      (fun r h c => ⟨((h c).1.trans (Cert.Reference3Ideal.Entry.result_eq m' c)).trans (by
        obtain ⟨h0, h1, h2, h3, h4⟩ := hagree c
        rw [h0, h1, h2, h3, h4]
        funext i
        obtain ⟨r, j, rfl⟩ : ∃ (r : Fin 65536) (j : Fin 1024), i = ix2 r j :=
          ⟨i 0, i 1, eq_ix2 (n0 := 65536) (n1 := 1024) i⟩
        exact Cert.Reference3Ideal.Entry.result_at _ _ _ _ _ r j), (h c).2⟩)
      (Cert.Reference3Ideal.Value.run (F := Ideal) m' g')⟩

/-! ### The projection -/

/-- The projection leaves its arguments and its semaphores as they were. -/
theorem frame_in_proj : Cert.quiescent_Kernel4 := fun m g _ => Cert.Kernel4.Gen.frame m g

theorem frame_in_proj_ideal : Cert.quiescent_Kernel4Ideal := fun m g _ => Cert.Kernel4Ideal.Gen.frame (F := Ideal) m g

theorem frame_in_proj_reference : Cert.quiescent_Reference4Ideal := fun m g _ =>
  (θ_run (Cert.Reference4Ideal.defs (F := Ideal)) (onTc Cert.Reference4Ideal.main) ⟨m, fun _ => 0, g⟩).mono
    (fun r h => ⟨fun c => (h c).2.2.2, sem_eq_zero_of_no_sems (by decide) r.2⟩)
    (Cert.Reference4Ideal.Entry.run m g)

/-- No operation of the projection is replaced. -/
theorem preserves_in_proj : Cert.preserves_Kernel4_Kernel4Ideal := trivial

/-- The projection's and its reference's results are the same three arrays: the values, the gated linear unit and the short
    convolution's branch. -/
theorem algebraic_in_proj : Cert.algebraic_Kernel4Ideal_Reference4Ideal := fun m g m' g' _ hagree =>
  ⟨fun c => Cert.Kernel4Ideal.InProj.values m c, fun c => Cert.Kernel4Ideal.InProj.units m c,
    fun c => Cert.Kernel4Ideal.InProj.shorts m c, Cert.Kernel4Ideal.InProj.value_run m g,
    (θ_run (Cert.Reference4Ideal.defs (F := Ideal)) (onTc Cert.Reference4Ideal.main) ⟨m', fun _ => 0, g'⟩).mono
      (fun r h c => ⟨(h c).1.trans (by
        obtain ⟨h0, h1, h2, h3⟩ := hagree c
        rw [h0, h1]
        funext i
        obtain ⟨j, r, rfl⟩ : ∃ (j : Fin 512) (r : Fin 65536), i = ix2 j r := ⟨i 0, i 1, eq_ix2 (n0 := 512) (n1 := 65536) i⟩
        exact Cert.Reference4Ideal.Entry.values_at _ _ j r), (h c).2.1.trans (by
        obtain ⟨h0, h1, h2, h3⟩ := hagree c
        rw [h0, h1]
        funext i
        obtain ⟨r, j, rfl⟩ : ∃ (r : Fin 65536) (j : Fin 512), i = ix2 r j := ⟨i 0, i 1, eq_ix2 (n0 := 65536) (n1 := 512) i⟩
        exact Cert.Reference4Ideal.Entry.unit_at _ _ r j), (h c).2.2.1.trans (by
        obtain ⟨h0, h1, h2, h3⟩ := hagree c
        rw [h0, h1, h3]
        funext i
        obtain ⟨r, j, rfl⟩ : ∃ (r : Fin 65536) (j : Fin 512), i = ix2 r j := ⟨i 0, i 1, eq_ix2 (n0 := 65536) (n1 := 512) i⟩
        exact Cert.Reference4Ideal.Entry.short_at _ _ _ r j), (h c).2.2.2⟩)
      (Cert.Reference4Ideal.Entry.run m' g')⟩

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Pre_finite_scores.facts,
    frame_kernel, frame_ideal, frame_ideal_pre, frame_reference, frame_reference_pre, frame_merge, frame_merge_ideal,
    frame_merge_reference, frame_combine, frame_combine_ideal, frame_combine_reference, frame_in_proj,
    frame_in_proj_ideal, frame_in_proj_reference, preserves, algebraic, preserves_merge, algebraic_merge, preserves_combine,
    algebraic_combine, preserves_in_proj, algebraic_in_proj⟩

end Cert.Proof

end
